-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v38) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v31) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v58) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)) (v2 : (c : Dev Cert.Kernel16Ideal.nD) → Buf (Elt Ideal) ((c.tc : Thread Cert.Kernel16Ideal.nD Cert.Kernel16Ideal.τ).loc Cert.Kernel16Ideal.main_v3_2)) (v3 : (c : Dev Cert.Kernel16Ideal.nD) → Buf (Elt Ideal) ((c.tc : Thread Cert.Kernel16Ideal.nD Cert.Kernel16Ideal.τ).loc Cert.Kernel16Ideal.main_v3_3)) (v4 : (c : Dev Cert.Kernel16Ideal.nD) → Buf (Elt Ideal) ((c.tc : Thread Cert.Kernel16Ideal.nD Cert.Kernel16Ideal.τ).loc Cert.Kernel16Ideal.main_v3_4)) (v5 : (c : Dev Cert.Kernel16Ideal.nD) → Buf (Elt Ideal) ((c.tc : Thread Cert.Kernel16Ideal.nD Cert.Kernel16Ideal.τ).loc Cert.Kernel16Ideal.main_v3_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_v3_2) = v2 c
          ∧ r.2.mem ((c.tc : Thread Cert.Kernel16Ideal.nD Cert.Kernel16Ideal.τ).loc Cert.Kernel16Ideal.main_v3_3) = v3 c
          ∧ r.2.mem ((c.tc : Thread Cert.Kernel16Ideal.nD Cert.Kernel16Ideal.τ).loc Cert.Kernel16Ideal.main_v3_4) = v4 c
          ∧ r.2.mem ((c.tc : Thread Cert.Kernel16Ideal.nD Cert.Kernel16Ideal.τ).loc Cert.Kernel16Ideal.main_v3_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v153) = v0 c
          ∧ r.2.mem ((c.tc : Thread Cert.Reference16Ideal.nD Cert.Reference16Ideal.τ).loc Cert.Reference16Ideal.main_v154) = v1 c
          ∧ r.2.mem ((c.tc : Thread Cert.Reference16Ideal.nD Cert.Reference16Ideal.τ).loc Cert.Reference16Ideal.main_v155) = v2 c
          ∧ r.2.mem ((c.tc : Thread Cert.Reference16Ideal.nD Cert.Reference16Ideal.τ).loc Cert.Reference16Ideal.main_v128) = v3 c
          ∧ r.2.mem ((c.tc : Thread Cert.Reference16Ideal.nD Cert.Reference16Ideal.τ).loc Cert.Reference16Ideal.main_v156) = v4 c
          ∧ r.2.mem ((c.tc : Thread Cert.Reference16Ideal.nD Cert.Reference16Ideal.τ).loc Cert.Reference16Ideal.main_v157) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_v16) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048x2048 : Shape := ⟨2, ![2048, 2048]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_
  bcast_S_S5632x2048 : S_.BroadcastsInDim S5632x2048 (![] : Fin 0 → Fin S5632x2048.rank)
  reducesTo_S5632x2048_S_d0_1 : S5632x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .bf16) (main_v13 : IVec S_ 1) (main_v16 : IVec S5632x2048 1) : IVec S_ 1 :=
  let main_c_5 : IVec S_ 1 := constantI S_ 1 1#1
  let main_v17 : IVec S_ 1 := (fun x v => Host.reduce IntOp.andi x v reducesTo_S5632x2048_S_d0_1 h_S_) main_v16 main_c_5
  let main_v18 : IVec S_ 1 := andi main_v13 main_v17
  let main_v19 : FVec F S2048x2048 .bf16 := Host.absf main_arg4
  let main_cst_6 : FVec F S_ .bf16 := constant S_ .bf16 0x7F80#16
  let main_v20 : FVec F S2048x2048 .bf16 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x11264 .f32) (main_arg1 : FVec F S3x11264 .f32) (main_arg2 : FVec F S11264 .f32) (main_arg3 : FVec F S5632x2048 .bf16) (main_arg4 : FVec F S2048x2048 .bf16) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S3x11264 .f32 := Host.absf main_arg1
  let main_cst_0 : FVec F S_ .f32 := constant S_ .f32 0x7F800000#32
  let main_v5 : FVec F S3x11264 .f32 := broadcastInDim S3x11264 ![] bcast_S_S3x11264 main_cst_0
  let main_v6 : IVec S3x11264 1 := cmpf .olt main_v4 main_v5
  let main_c_1 : IVec S_ 1 := constantI S_ 1 1#1
  let main_v7 : IVec S_ 1 := (fun x v => Host.reduce IntOp.andi x v reducesTo_S3x11264_S_d0_1 h_S_) main_v6 main_c_1
  let main_v8 : IVec S_ 1 := andi main_v3 main_v7
  let main_v9 : FVec F S11264 .f32 := Host.absf main_arg2
  let main_cst_2 : FVec F S_ .f32 := constant S_ .f32 0x7F800000#32
  let main_v10 : FVec F S11264 .f32 := broadcastInDim S11264 ![] bcast_S_S11264 main_cst_2
  let main_v11 : IVec S11264 1 := cmpf .olt main_v9 main_v10
  let main_c_3 : IVec S_ 1 := constantI S_ 1 1#1
  let main_v12 : IVec S_ 1 := (fun x v => Host.reduce IntOp.andi x v reducesTo_S11264_S_d0 h_S_) main_v11 main_c_3
  let main_v13 : IVec S_ 1 := andi main_v8 main_v12
  let main_v14 : FVec F S5632x2048 .bf16 := Host.absf main_arg3
  let main_cst_4 : FVec F S_ .bf16 := constant S_ .bf16 0x7F80#16
  let main_v15 : FVec F S5632x2048 .bf16 := broadcastInDim S5632x2048 ![] bcast_S_S5632x2048 main_cst_4
  let main_v16 : IVec S5632x2048 1 := cmpf .olt main_v14 main_v15
  fn_part1 (F := F) main_arg4 main_v13 main_v16
-- ==== Kernel.lean ====
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048x2048 : Shape := ⟨2, ![2048, 2048]⟩
abbrev S2048x2x5632 : Shape := ⟨3, ![2048, 2, 5632]⟩
abbrev S2x2048x5632 : Shape := ⟨3, ![2, 2048, 5632]⟩
abbrev S3x2x5632 : Shape := ⟨3, ![3, 2, 5632]⟩
abbrev S2x3x5632 : Shape := ⟨3, ![2, 3, 5632]⟩
abbrev S2x1x5632 : Shape := ⟨3, ![2, 1, 5632]⟩
abbrev S_ : Shape := ⟨0, ![]⟩
abbrev S8x128 : Shape := ⟨2, ![8, 128]⟩
abbrev S2x2048x256 : Shape := ⟨3, ![2, 2048, 256]⟩
abbrev S2x3x256 : Shape := ⟨3, ![2, 3, 256]⟩
abbrev S2x1x256 : Shape := ⟨3, ![2, 1, 256]⟩
abbrev S256x2048 : Shape := ⟨2, ![256, 2048]⟩
abbrev S2048x256 : Shape := ⟨2, ![2048, 256]⟩
abbrev S1x2048x256 : Shape := ⟨3, ![1, 2048, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S8x256 : Shape := ⟨2, ![8, 256]⟩
abbrev S2040x256 : Shape := ⟨2, ![2040, 256]⟩
abbrev S256 : Shape := ⟨1, ![256]⟩

abbrev nBuf : Space → Nat
  | .hbm => 15
  | .vmem => 16
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S5632x2048, .bf16⟩
  | .hbm, ⟨4, _⟩ => ⟨S2048x2048, .bf16⟩
  | .hbm, ⟨5, _⟩ => ⟨S2048x2x5632, .f32⟩
  | .hbm, ⟨6, _⟩ => ⟨S2x2048x5632, .f32⟩
  | .hbm, ⟨7, _⟩ => ⟨S3x2x5632, .f32⟩
  | .hbm, ⟨8, _⟩ => ⟨S2x3x5632, .f32⟩
  | .hbm, ⟨9, _⟩ => ⟨S2x1x5632, .f32⟩
  | .hbm, ⟨10, _⟩ => ⟨S_, .f32⟩
  | .hbm, ⟨11, _⟩ => ⟨S8x128, .f32⟩
  | .hbm, ⟨12, _⟩ => ⟨S2x2048x5632, .bf16⟩
  | .hbm, ⟨13, _⟩ => ⟨S2x3x5632, .f32⟩
  | .hbm, ⟨14, _⟩ => ⟨S2x1x5632, .f32⟩
  | .local _ .vmem, ⟨0, _⟩ => ⟨S2x2048x256, .f32⟩
  | .local _ .vmem, ⟨1, _⟩ => ⟨S2x2048x256, .f32⟩
  | .local _ .vmem, ⟨2, _⟩ => ⟨S2x3x256, .f32⟩
  | .local _ .vmem, ⟨3, _⟩ => ⟨S2x3x256, .f32⟩
  | .local _ .vmem, ⟨4, _⟩ => ⟨S2x1x256, .f32⟩
  | .local _ .vmem, ⟨5, _⟩ => ⟨S2x1x256, .f32⟩
  | .local _ .vmem, ⟨6, _⟩ => ⟨S2048x2048, .bf16⟩
  | .local _ .vmem, ⟨7, _⟩ => ⟨S256x2048, .bf16⟩
  | .local _ .vmem, ⟨8, _⟩ => ⟨S256x2048, .bf16⟩
  | .local _ .vmem, ⟨9, _⟩ => ⟨S8x128, .f32⟩
  | .local _ .vmem, ⟨10, _⟩ => ⟨S2x2048x256, .bf16⟩
  | .local _ .vmem, ⟨11, _⟩ => ⟨S2x2048x256, .bf16⟩
  | .local _ .vmem, ⟨12, _⟩ => ⟨S2x3x256, .f32⟩
  | .local _ .vmem, ⟨13, _⟩ => ⟨S2x3x256, .f32⟩
  | .local _ .vmem, ⟨14, _⟩ => ⟨S2x1x256, .f32⟩
  | .local _ .vmem, ⟨15, _⟩ => ⟨S2x1x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048x2048 : Shape := ⟨2, ![2048, 2048]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S2048x5632 : Shape := ⟨2, ![2048, 5632]⟩
abbrev S2048x2x5632 : Shape := ⟨3, ![2048, 2, 5632]⟩
abbrev S2x2048x5632 : Shape := ⟨3, ![2, 2048, 5632]⟩
abbrev S3x2x5632 : Shape := ⟨3, ![3, 2, 5632]⟩
abbrev S2x3x5632 : Shape := ⟨3, ![2, 3, 5632]⟩
abbrev S1x2x5632 : Shape := ⟨3, ![1, 2, 5632]⟩
abbrev S2x1x5632 : Shape := ⟨3, ![2, 1, 5632]⟩

abbrev nBuf : Space → Nat
  | .hbm => 117
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S5632x2048, .bf16⟩
  | .hbm, ⟨4, _⟩ => ⟨S2048x2048, .bf16⟩
  | .hbm, ⟨5, _⟩ => ⟨S_, .f32⟩
  | .hbm, ⟨6, _⟩ => ⟨S2x11264, .f32⟩
  | .hbm, ⟨7, _⟩ => ⟨S2050x11264, .f32⟩
  | .hbm, ⟨8, _⟩ => ⟨S_, .f32⟩
  | .hbm, ⟨9, _⟩ => ⟨S2x11264, .f32⟩
  | .hbm, ⟨10, _⟩ => ⟨S2048x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S2048x11264, .f32⟩
  | .hbm, ⟨15, _⟩ => ⟨S2048x11264, .f32⟩
  | .hbm, ⟨16, _⟩ => ⟨S1x11264, .f32⟩
  | .hbm, ⟨17, _⟩ => ⟨S2048x11264, .f32⟩
  | .hbm, ⟨18, _⟩ => ⟨S2048x11264, .f32⟩
  | .hbm, ⟨19, _⟩ => ⟨S2048x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S2048x11264, .f32⟩
  | .hbm, ⟨27, _⟩ => ⟨S1x11264, .f32⟩
  | .hbm, ⟨28, _⟩ => ⟨S11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x11264, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S_, .f32⟩
  | .hbm, ⟨41, _⟩ => ⟨S2048x5632, .f32⟩
  | .hbm, ⟨42, _⟩ => ⟨S2048x5632, .f32⟩
  | .hbm, ⟨43, _⟩ => ⟨S_, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S5632x2048, .f32⟩
  | .hbm, ⟨50, _⟩ => ⟨S2048x2048, .f32⟩
  | .hbm, ⟨51, _⟩ => ⟨S2048x2048, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S2048x11264, .f32⟩
  | .hbm, ⟨60, _⟩ => ⟨S2048x11264, .f32⟩
  | .hbm, ⟨61, _⟩ => ⟨S_, .f32⟩
  | .hbm, ⟨62, _⟩ => ⟨S11264, .f32⟩
  | .hbm, ⟨63, _⟩ => ⟨S1x11264, .f32⟩
  | .hbm, ⟨64, _⟩ => ⟨S2048x11264, .f32⟩
  | .hbm, ⟨65, _⟩ => ⟨S2048x11264, .f32⟩
  | .hbm, ⟨66, _⟩ => ⟨S_, .f32⟩
  | .hbm, ⟨67, _⟩ => ⟨S11264, .f32⟩
  | .hbm, ⟨68, _⟩ => ⟨S1x11264, .f32⟩
  | .hbm, ⟨69, _⟩ => ⟨S_, .f32⟩
  | .hbm, ⟨70, _⟩ => ⟨S3x11264, .f32⟩
  | .hbm, ⟨71, _⟩ => ⟨S_, .f32⟩
  | .hbm, ⟨72, _⟩ => ⟨S2050x11264, .f32⟩
  | .hbm, ⟨73, _⟩ => ⟨S2048x11264, .f32⟩
  | .hbm, ⟨74, _⟩ => ⟨S_, .f32⟩
  | .hbm, ⟨75, _⟩ => ⟨S11264, .f32⟩
  | .hbm, ⟨76, _⟩ => ⟨S1x11264, .f32⟩
  | .hbm, ⟨77, _⟩ => ⟨S2048x11264, .f32⟩
  | .hbm, ⟨78, _⟩ => ⟨S2048x11264, .f32⟩
  | .hbm, ⟨79, _⟩ => ⟨S_, .f32⟩
  | .hbm, ⟨80, _⟩ => ⟨S11264, .f32⟩
  | .hbm, ⟨81, _⟩ => ⟨S1x11264, .f32⟩
  | .hbm, ⟨82, _⟩ => ⟨S_, .f32⟩
  | .hbm, ⟨83, _⟩ => ⟨S3x11264, .f32⟩
  | .hbm, ⟨84, _⟩ => ⟨S3x11264, .f32⟩
  | .hbm, ⟨85, _⟩ => ⟨S_, .f32⟩
  | .hbm, ⟨86, _⟩ => ⟨S2050x11264, .f32⟩
  | .hbm, ⟨87, _⟩ => ⟨S2050x11264, .f32⟩
  | .hbm, ⟨88, _⟩ => ⟨S_, .f32⟩
  | .hbm, ⟨89, _⟩ => ⟨S11264, .f32⟩
  | .hbm, ⟨90, _⟩ => ⟨S1x11264, .f32⟩
  | .hbm, ⟨91, _⟩ => ⟨S_, .f32⟩
  | .hbm, ⟨92, _⟩ => ⟨S11264, .f32⟩
  | .hbm, ⟨93, _⟩ => ⟨S2048x11264, .f32⟩
  | .hbm, ⟨94, _⟩ => ⟨S_, .f32⟩
  | .hbm, ⟨95, _⟩ => ⟨S11264, .f32⟩
  | .hbm, ⟨96, _⟩ => ⟨S1x11264, .f32⟩
  | .hbm, ⟨97, _⟩ => ⟨S2048x11264, .f32⟩
  | .hbm, ⟨98, _⟩ => ⟨S2048x11264, .f32⟩
  | .hbm, ⟨99, _⟩ => ⟨S_, .f32⟩
  | .hbm, ⟨100, _⟩ => ⟨S11264, .f32⟩
  | .hbm, ⟨101, _⟩ => ⟨S1x11264, .f32⟩
  | .hbm, ⟨102, _⟩ => ⟨S_, .f32⟩
  | .hbm, ⟨103, _⟩ => ⟨S3x11264, .f32⟩
  | .hbm, ⟨104, _⟩ => ⟨S3x11264, .f32⟩
  | .hbm, ⟨105, _⟩ => ⟨S_, .f32⟩
  | .hbm, ⟨106, _⟩ => ⟨S2050x11264, .f32⟩
  | .hbm, ⟨107, _⟩ => ⟨S2050x11264, .f32⟩
  | .hbm, ⟨108, _⟩ => ⟨S2x11264, .f32⟩
  | .hbm, ⟨109, _⟩ => ⟨S2048x11264, .f32⟩
  | .hbm, ⟨110, _⟩ => ⟨S2048x2x5632, .f32⟩
  | .hbm, ⟨111, _⟩ => ⟨S2x2048x5632, .f32⟩
  | .hbm, ⟨112, _⟩ => ⟨S2x2048x5632, .bf16⟩
  | .hbm, ⟨113, _⟩ => ⟨S3x2x5632, .f32⟩
  | .hbm, ⟨114, _⟩ => ⟨S2x3x5632, .f32⟩
  | .hbm, ⟨115, _⟩ => ⟨S1x2x5632, .f32⟩
  | .hbm, ⟨116, _⟩ => ⟨S2x1x5632, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_cst_11 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_cst_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S2048x2x5632 : Shape := ⟨3, ![2048, 2, 5632]⟩
abbrev S2x2048x5632 : Shape := ⟨3, ![2, 2048, 5632]⟩
abbrev S8x2048x1408 : Shape := ⟨3, ![8, 2048, 1408]⟩
abbrev S2048x1024 : Shape := ⟨2, ![2048, 1024]⟩
abbrev S1x2048x2816 : Shape := ⟨3, ![1, 2048, 2816]⟩
abbrev S2x1024x1408 : Shape := ⟨3, ![2, 1024, 1408]⟩
abbrev S2048x2816 : Shape := ⟨2, ![2048, 2816]⟩
abbrev S1024x2816 : Shape := ⟨2, ![1024, 2816]⟩
abbrev S1024x1408 : Shape := ⟨2, ![1024, 1408]⟩
abbrev S1x1024x1408 : Shape := ⟨3, ![1, 1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2x5632, .bf16⟩
  | .hbm, ⟨3, _⟩ => ⟨S2x2048x5632, .bf16⟩
  | .hbm, ⟨4, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S2x1024x1408, .bf16⟩
  | .local _ .vmem, ⟨5, _⟩ => ⟨S2x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x2048, .f32⟩
  | .hbm, ⟨3, _⟩ => ⟨S2048x11264, .f32⟩
  | .hbm, ⟨4, _⟩ => ⟨S_, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S2048x11264 : Shape := ⟨2, ![2048, 11264]⟩
abbrev S2048x2x5632 : Shape := ⟨3, ![2048, 2, 5632]⟩
abbrev S2x2048x5632 : Shape := ⟨3, ![2, 2048, 5632]⟩
abbrev S2048x8x1408 : Shape := ⟨3, ![2048, 8, 1408]⟩
abbrev S8x2048x1408 : Shape := ⟨3, ![8, 2048, 1408]⟩
abbrev S_ : Shape := ⟨0, ![]⟩
abbrev S8x128 : Shape := ⟨2, ![8, 128]⟩
abbrev S2048x2048 : Shape := ⟨2, ![2048, 2048]⟩
abbrev S2x512x5632 : Shape := ⟨3, ![2, 512, 5632]⟩
abbrev S8x512x1408 : Shape := ⟨3, ![8, 512, 1408]⟩
abbrev S512x512 : Shape := ⟨2, ![512, 512]⟩
abbrev S1x512x2816 : Shape := ⟨3, ![1, 512, 2816]⟩
abbrev S512x2816 : Shape := ⟨2, ![512, 2816]⟩
abbrev S1x512x1408 : Shape := ⟨3, ![1, 512, 1408]⟩
abbrev S512x1408 : Shape := ⟨2, ![512, 1408]⟩

abbrev nBuf : Space → Nat
  | .hbm => 9
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2x5632, .bf16⟩
  | .hbm, ⟨3, _⟩ => ⟨S2x2048x5632, .bf16⟩
  | .hbm, ⟨4, _⟩ => ⟨S2048x8x1408, .bf16⟩
  | .hbm, ⟨5, _⟩ => ⟨S8x2048x1408, .bf16⟩
  | .hbm, ⟨6, _⟩ => ⟨S_, .f32⟩
  | .hbm, ⟨7, _⟩ => ⟨S8x128, .f32⟩
  | .hbm, ⟨8, _⟩ => ⟨S2048x2048, .f32⟩
  | .local _ .vmem, ⟨0, _⟩ => ⟨S2x512x5632, .bf16⟩
  | .local _ .vmem, ⟨1, _⟩ => ⟨S2x512x5632, .bf16⟩
  | .local _ .vmem, ⟨2, _⟩ => ⟨S8x512x1408, .bf16⟩
  | .local _ .vmem, ⟨3, _⟩ => ⟨S8x512x1408, .bf16⟩
  | .local _ .vmem, ⟨4, _⟩ => ⟨S8x128, .f32⟩
  | .local _ .vmem, ⟨5, _⟩ => ⟨S512x512, .f32⟩
  | .local _ .vmem, ⟨6, _⟩ => ⟨S512x512, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x11264, .f32⟩
  | .hbm, ⟨3, _⟩ => ⟨S2048x11264, .f32⟩
  | .hbm, ⟨4, _⟩ => ⟨S_, .f32⟩
  | .hbm, ⟨5, _⟩ => ⟨S2048x2048, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x2048 : Shape := ⟨2, ![2048, 2048]⟩
abbrev S2048x5120 : Shape := ⟨2, ![2048, 5120]⟩
abbrev S8x2048x640 : Shape := ⟨3, ![8, 2048, 640]⟩
abbrev S2048x1280 : Shape := ⟨2, ![2048, 1280]⟩
abbrev S2x2048x640 : Shape := ⟨3, ![2, 2048, 640]⟩
abbrev S2048x640 : Shape := ⟨2, ![2048, 640]⟩
abbrev S1x2048x640 : Shape := ⟨3, ![1, 2048, 640]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S8x2048x640, .bf16⟩
  | .local _ .vmem, ⟨0, _⟩ => ⟨S2048x2048, .bf16⟩
  | .local _ .vmem, ⟨1, _⟩ => ⟨S2048x1280, .bf16⟩
  | .local _ .vmem, ⟨2, _⟩ => ⟨S2048x1280, .bf16⟩
  | .local _ .vmem, ⟨3, _⟩ => ⟨S2x2048x640, .bf16⟩
  | .local _ .vmem, ⟨4, _⟩ => ⟨S2x2048x640, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x5120, .f32⟩
  | .hbm, ⟨4, _⟩ => ⟨S_, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S2048x8x640, .f32⟩
  | .hbm, ⟨10, _⟩ => ⟨S8x2048x640, .f32⟩
  | .hbm, ⟨11, _⟩ => ⟨S8x2048x640, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x5120 : Shape := ⟨2, ![2048, 5120]⟩
abbrev S2048x8x640 : Shape := ⟨3, ![2048, 8, 640]⟩
abbrev S8x2048x640 : Shape := ⟨3, ![8, 2048, 640]⟩
abbrev S_ : Shape := ⟨0, ![]⟩
abbrev S8x128 : Shape := ⟨2, ![8, 128]⟩
abbrev S2048x2048 : Shape := ⟨2, ![2048, 2048]⟩
abbrev S512x5120 : Shape := ⟨2, ![512, 5120]⟩
abbrev S8x1024x640 : Shape := ⟨3, ![8, 1024, 640]⟩
abbrev S512x1024 : Shape := ⟨2, ![512, 1024]⟩
abbrev S512x1280 : Shape := ⟨2, ![512, 1280]⟩
abbrev S1x1024x640 : Shape := ⟨3, ![1, 1024, 640]⟩
abbrev S1024x640 : Shape := ⟨2, ![1024, 640]⟩
abbrev S1024x1280 : Shape := ⟨2, ![1024, 1280]⟩

abbrev nBuf : Space → Nat
  | .hbm => 7
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x8x640, .bf16⟩
  | .hbm, ⟨3, _⟩ => ⟨S8x2048x640, .bf16⟩
  | .hbm, ⟨4, _⟩ => ⟨S_, .f32⟩
  | .hbm, ⟨5, _⟩ => ⟨S8x128, .f32⟩
  | .hbm, ⟨6, _⟩ => ⟨S2048x2048, .f32⟩
  | .local _ .vmem, ⟨0, _⟩ => ⟨S512x5120, .bf16⟩
  | .local _ .vmem, ⟨1, _⟩ => ⟨S512x5120, .bf16⟩
  | .local _ .vmem, ⟨2, _⟩ => ⟨S8x1024x640, .bf16⟩
  | .local _ .vmem, ⟨3, _⟩ => ⟨S8x1024x640, .bf16⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2048x5120 : Shape := ⟨2, ![2048, 5120]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2048x5120, .bf16⟩
  | .hbm, ⟨2, _⟩ => ⟨S2048x5120, .f32⟩
  | .hbm, ⟨3, _⟩ => ⟨S2048x5120, .f32⟩
  | .hbm, ⟨4, _⟩ => ⟨S_, .f32⟩
  | .hbm, ⟨5, _⟩ => ⟨S2048x2048, .f32⟩
  | .hbm, ⟨6, _⟩ => ⟨S2048x5120, .f32⟩
  | .hbm, ⟨7, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2048 : Shape := ⟨2, ![2048, 2048]⟩
abbrev S_ : Shape := ⟨0, ![]⟩
abbrev S8x128 : Shape := ⟨2, ![8, 128]⟩
abbrev S512x2048 : Shape := ⟨2, ![512, 2048]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S8x128, .f32⟩
  | .hbm, ⟨4, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S8x128, .f32⟩
  | .local _ .vmem, ⟨4, _⟩ => ⟨S2048x512, .f32⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S2048x2048 : Shape := ⟨2, ![2048, 2048]⟩
abbrev S2048x5120 : Shape := ⟨2, ![2048, 5120]⟩
abbrev S2048x8x640 : Shape := ⟨3, ![2048, 8, 640]⟩
abbrev S8x2048x640 : Shape := ⟨3, ![8, 2048, 640]⟩
abbrev S1024x2048 : Shape := ⟨2, ![1024, 2048]⟩
abbrev S2x2048x640 : Shape := ⟨3, ![2, 2048, 640]⟩
abbrev S1024x1280 : Shape := ⟨2, ![1024, 1280]⟩
abbrev S1x2048x640 : Shape := ⟨3, ![1, 2048, 640]⟩
abbrev S2048x640 : Shape := ⟨2, ![2048, 640]⟩
abbrev S2048x1280 : Shape := ⟨2, ![2048, 1280]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x8x640, .bf16⟩
  | .hbm, ⟨3, _⟩ => ⟨S8x2048x640, .bf16⟩
  | .hbm, ⟨4, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x640, .bf16⟩
  | .local _ .vmem, ⟨3, _⟩ => ⟨S2x2048x640, .bf16⟩
  | .local _ .vmem, ⟨4, _⟩ => ⟨S1024x1280, .f32⟩
  | .local _ .vmem, ⟨5, _⟩ => ⟨S1024x1280, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S2048x5120 : Shape := ⟨2, ![2048, 5120]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x5120, .f32⟩
  | .hbm, ⟨4, _⟩ => ⟨S2048x5120, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel12.lean ====
abbrev S2048x2048 : Shape := ⟨2, ![2048, 2048]⟩
abbrev S2048x11264 : Shape := ⟨2, ![2048, 11264]⟩
abbrev S3x11264 : Shape := ⟨2, ![3, 11264]⟩
abbrev S11264 : Shape := ⟨1, ![11264]⟩
abbrev S2048x8x1408 : Shape := ⟨3, ![2048, 8, 1408]⟩
abbrev S8x2048x1408 : Shape := ⟨3, ![8, 2048, 1408]⟩
abbrev S3x2x5632 : Shape := ⟨3, ![3, 2, 5632]⟩
abbrev S2x3x5632 : Shape := ⟨3, ![2, 3, 5632]⟩
abbrev S2x1x5632 : Shape := ⟨3, ![2, 1, 5632]⟩
abbrev S2x2048x5632 : Shape := ⟨3, ![2, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S2x3x1408 : Shape := ⟨3, ![2, 3, 1408]⟩
abbrev S2x1x1408 : Shape := ⟨3, ![2, 1, 1408]⟩
abbrev S2x512x1408 : Shape := ⟨3, ![2, 512, 1408]⟩
abbrev S512x1408 : Shape := ⟨2, ![512, 1408]⟩
abbrev S2x8x1408 : Shape := ⟨3, ![2, 8, 1408]⟩
abbrev S2048x1408 : Shape := ⟨2, ![2048, 1408]⟩
abbrev S1x512x1408 : Shape := ⟨3, ![1, 512, 1408]⟩
abbrev S1x8x1408 : Shape := ⟨3, ![1, 8, 1408]⟩
abbrev S8x1408 : Shape := ⟨2, ![8, 1408]⟩
abbrev S520x1408 : Shape := ⟨2, ![520, 1408]⟩
abbrev S1x3x1408 : Shape := ⟨3, ![1, 3, 1408]⟩
abbrev S3x1408 : Shape := ⟨2, ![3, 1408]⟩
abbrev S1x1x1408 : Shape := ⟨3, ![1, 1, 1408]⟩
abbrev S1x1408 : Shape := ⟨2, ![1, 1408]⟩

abbrev nBuf : Space → Nat
  | .hbm => 11
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2048x8x1408, .bf16⟩
  | .hbm, ⟨5, _⟩ => ⟨S8x2048x1408, .bf16⟩
  | .hbm, ⟨6, _⟩ => ⟨S3x2x5632, .f32⟩
  | .hbm, ⟨7, _⟩ => ⟨S2x3x5632, .f32⟩
  | .hbm, ⟨8, _⟩ => ⟨S2x1x5632, .f32⟩
  | .hbm, ⟨9, _⟩ => ⟨S2x2048x5632, .f32⟩
  | .hbm, ⟨10, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x3x1408, .f32⟩
  | .local _ .vmem, ⟨7, _⟩ => ⟨S2x3x1408, .f32⟩
  | .local _ .vmem, ⟨8, _⟩ => ⟨S2x1x1408, .f32⟩
  | .local _ .vmem, ⟨9, _⟩ => ⟨S2x1x1408, .f32⟩
  | .local _ .vmem, ⟨10, _⟩ => ⟨S2x512x1408, .f32⟩
  | .local _ .vmem, ⟨11, _⟩ => ⟨S2x512x1408, .f32⟩
  | .local _ .vmem, ⟨12, _⟩ => ⟨S512x1408, .bf16⟩
  | .local _ .vmem, ⟨13, _⟩ => ⟨S512x1408, .bf16⟩
  | .local _ .vmem, ⟨14, _⟩ => ⟨S2x8x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S2048x2048 : Shape := ⟨2, ![2048, 2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S2048x5632 : Shape := ⟨2, ![2048, 5632]⟩
abbrev S2048x2x5632 : Shape := ⟨3, ![2048, 2, 5632]⟩
abbrev S2x2048x5632 : Shape := ⟨3, ![2, 2048, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S_, .f32⟩
  | .hbm, ⟨8, _⟩ => ⟨S2x11264, .f32⟩
  | .hbm, ⟨9, _⟩ => ⟨S2050x11264, .f32⟩
  | .hbm, ⟨10, _⟩ => ⟨S2048x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S2048x11264, .f32⟩
  | .hbm, ⟨15, _⟩ => ⟨S2048x11264, .f32⟩
  | .hbm, ⟨16, _⟩ => ⟨S1x11264, .f32⟩
  | .hbm, ⟨17, _⟩ => ⟨S2048x11264, .f32⟩
  | .hbm, ⟨18, _⟩ => ⟨S2048x11264, .f32⟩
  | .hbm, ⟨19, _⟩ => ⟨S2048x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S2048x11264, .f32⟩
  | .hbm, ⟨27, _⟩ => ⟨S1x11264, .f32⟩
  | .hbm, ⟨28, _⟩ => ⟨S11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x11264, .f32⟩
  | .hbm, ⟨33, _⟩ => ⟨S2048x5632, .f32⟩
  | .hbm, ⟨34, _⟩ => ⟨S2048x5632, .f32⟩
  | .hbm, ⟨35, _⟩ => ⟨S2048x2x5632, .f32⟩
  | .hbm, ⟨36, _⟩ => ⟨S2x2048x5632, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel13.lean ====
abbrev S2048x5632 : Shape := ⟨2, ![2048, 5632]⟩
abbrev S5632x2048 : Shape := ⟨2, ![5632, 2048]⟩
abbrev S2048x2048 : Shape := ⟨2, ![2048, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel15.lean ====
abbrev S2048x5120 : Shape := ⟨2, ![2048, 5120]⟩
abbrev S8x128 : Shape := ⟨2, ![8, 128]⟩
abbrev S8x128x128 : Shape := ⟨3, ![8, 128, 128]⟩
abbrev S8x1x128 : Shape := ⟨3, ![8, 1, 128]⟩
abbrev S8x128x1 : Shape := ⟨3, ![8, 128, 1]⟩
abbrev S_ : Shape := ⟨0, ![]⟩
abbrev S2048x1024 : Shape := ⟨2, ![2048, 1024]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S2048 : Shape := ⟨1, ![2048]⟩
abbrev S2048x1 : Shape := ⟨2, ![2048, 1]⟩
abbrev S1x128 : Shape := ⟨2, ![1, 128]⟩
abbrev S128x128 : Shape := ⟨2, ![128, 128]⟩
abbrev S128x1 : Shape := ⟨2, ![128, 1]⟩
abbrev S128 : Shape := ⟨1, ![128]⟩

abbrev nBuf : Space → Nat
  | .hbm => 11
  | .vmem => 16
  | .smem => 0
  | _ => 0

abbrev bufTy : (tb : Table) → Fin (tcTables nBuf tb) → BufTy
  | .hbm, ⟨0, _⟩ => ⟨S2048x5120, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S8x128, .f32⟩
  | .hbm, ⟨5, _⟩ => ⟨S8x1x128, .f32⟩
  | .hbm, ⟨6, _⟩ => ⟨S8x128x1, .f32⟩
  | .hbm, ⟨7, _⟩ => ⟨S8x1x128, .f32⟩
  | .hbm, ⟨8, _⟩ => ⟨S_, .f32⟩
  | .hbm, ⟨9, _⟩ => ⟨S8x128, .f32⟩
  | .hbm, ⟨10, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S1x1x128, .f32⟩
  | .local _ .vmem, ⟨11, _⟩ => ⟨S1x1x128, .f32⟩
  | .local _ .vmem, ⟨12, _⟩ => ⟨S8x128, .f32⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v39 : BitVec 32 := Scalar.addi c0_i32 c2_i32
  let c1_i32 : BitVec 32 := 1#32
  ⟨c0_i32, v39, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v40 : BitVec 32 := Scalar.muli arg10 c8_i32
  let c0_i32_22 : BitVec 32 := 0#32
  let v41 : BitVec 32 := Scalar.addi v40 c0_i32_22
  let c128_i32 : BitVec 32 := 128#32
  let v42 : BitVec 32 := Scalar.muli v41 c128_i32
  v42
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_23 : BitVec 32 := 8#32
  let v44 : BitVec 32 := Scalar.muli arg10 c8_i32_23
  let c1_i32_24 : BitVec 32 := 1#32
  let v45 : BitVec 32 := Scalar.addi v44 c1_i32_24
  let c128_i32_25 : BitVec 32 := 128#32
  let v46 : BitVec 32 := Scalar.muli v45 c128_i32_25
  v46
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_26 : BitVec 32 := 8#32
  let v48 : BitVec 32 := Scalar.muli arg10 c8_i32_26
  let c2_i32_27 : BitVec 32 := 2#32
  let v49 : BitVec 32 := Scalar.addi v48 c2_i32_27
  let c128_i32_28 : BitVec 32 := 128#32
  let v50 : BitVec 32 := Scalar.muli v49 c128_i32_28
  v50
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_29 : BitVec 32 := 8#32
  let v52 : BitVec 32 := Scalar.muli arg10 c8_i32_29
  let c3_i32 : BitVec 32 := 3#32
  let v53 : BitVec 32 := Scalar.addi v52 c3_i32
  let c128_i32_30 : BitVec 32 := 128#32
  let v54 : BitVec 32 := Scalar.muli v53 c128_i32_30
  v54
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_31 : BitVec 32 := 8#32
  let v56 : BitVec 32 := Scalar.muli arg10 c8_i32_31
  let c4_i32 : BitVec 32 := 4#32
  let v57 : BitVec 32 := Scalar.addi v56 c4_i32
  let c128_i32_32 : BitVec 32 := 128#32
  let v58 : BitVec 32 := Scalar.muli v57 c128_i32_32
  v58
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_33 : BitVec 32 := 8#32
  let v60 : BitVec 32 := Scalar.muli arg10 c8_i32_33
  let c5_i32 : BitVec 32 := 5#32
  let v61 : BitVec 32 := Scalar.addi v60 c5_i32
  let c128_i32_34 : BitVec 32 := 128#32
  let v62 : BitVec 32 := Scalar.muli v61 c128_i32_34
  v62
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_35 : BitVec 32 := 8#32
  let v64 : BitVec 32 := Scalar.muli arg10 c8_i32_35
  let c6_i32 : BitVec 32 := 6#32
  let v65 : BitVec 32 := Scalar.addi v64 c6_i32
  let c128_i32_36 : BitVec 32 := 128#32
  let v66 : BitVec 32 := Scalar.muli v65 c128_i32_36
  v66
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_37 : BitVec 32 := 8#32
  let v68 : BitVec 32 := Scalar.muli arg10 c8_i32_37
  let c7_i32 : BitVec 32 := 7#32
  let v69 : BitVec 32 := Scalar.addi v68 c7_i32
  let c128_i32_38 : BitVec 32 := 128#32
  let v70 : BitVec 32 := Scalar.muli v69 c128_i32_38
  v70
def k0_off1 (k0_t1 : Fin k0_t1_loop.trips) (c0_i32_22 : BitVec 32) : Fin 2 → Nat :=
  let c0_i32 : BitVec 32 := 0#32
  let c1_i32 : BitVec 32 := 1#32
  let arg10 : BitVec 32 := Scf.iv c0_i32 c1_i32 k0_t1
  let c8_i32 : BitVec 32 := 8#32
  let v40 : BitVec 32 := Scalar.muli arg10 c8_i32
  let v41 : BitVec 32 := Scalar.addi v40 c0_i32_22
  let c128_i32 : BitVec 32 := 128#32
  let v42 : BitVec 32 := Scalar.muli v41 c128_i32
  let v43 : BitVec 32 := v42
  let v72 : Index := Scalar.indexCast v43
  let c0_39 : Index := 0#32
  ![v72.toNat, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x5120 : Shape := ⟨2, ![2048, 5120]⟩
abbrev S8x128 : Shape := ⟨2, ![8, 128]⟩
abbrev S8x128x128 : Shape := ⟨3, ![8, 128, 128]⟩
abbrev S2048x1024 : Shape := ⟨2, ![2048, 1024]⟩
abbrev S_ : Shape := ⟨0, ![]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S1x128x128 : Shape := ⟨3, ![1, 128, 128]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x5120, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S8x128, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x8x128, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x8x128, .f32⟩
  | .hbm, ⟨27, _⟩ => ⟨S2048x8x128, .f32⟩
  | .hbm, ⟨28, _⟩ => ⟨S_, .f32⟩
  | .hbm, ⟨29, _⟩ => ⟨S2048x8, .f32⟩
  | .hbm, ⟨30, _⟩ => ⟨S2048x8x1, .f32⟩
  | .hbm, ⟨31, _⟩ => ⟨S_, .f32⟩
  | .hbm, ⟨32, _⟩ => ⟨S2048x8x1, .f32⟩
  | .hbm, ⟨33, _⟩ => ⟨S2048x8x1, .f32⟩
  | .hbm, ⟨34, _⟩ => ⟨S_, .f32⟩
  | .hbm, ⟨35, _⟩ => ⟨S2048x8x1, .f32⟩
  | .hbm, ⟨36, _⟩ => ⟨S2048x8x1, .f32⟩
  | .hbm, ⟨37, _⟩ => ⟨S2048x8x1, .f32⟩
  | .hbm, ⟨38, _⟩ => ⟨S2048x8x128, .f32⟩
  | .hbm, ⟨39, _⟩ => ⟨S2048x8x128, .f32⟩
  | .hbm, ⟨40, _⟩ => ⟨S1x8x128, .f32⟩
  | .hbm, ⟨41, _⟩ => ⟨S2048x8x128, .f32⟩
  | .hbm, ⟨42, _⟩ => ⟨S2048x8x128, .f32⟩
  | .hbm, ⟨43, _⟩ => ⟨S_, .i1⟩
  | .hbm, ⟨44, _⟩ => ⟨S128x128, .i1⟩
  | .hbm, ⟨45, _⟩ => ⟨S128x128, .i32⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i1⟩
  | .hbm, ⟨52, _⟩ => ⟨S128x128, .i1⟩
  | .hbm, ⟨53, _⟩ => ⟨S128x128, .i1⟩
  | .hbm, ⟨54, _⟩ => ⟨S1x128x128, .i1⟩
  | .hbm, ⟨55, _⟩ => ⟨S_, .f32⟩
  | .hbm, ⟨56, _⟩ => ⟨S_, .f32⟩
  | .hbm, ⟨57, _⟩ => ⟨S8x128x128, .i1⟩
  | .hbm, ⟨58, _⟩ => ⟨S8x128x128, .f32⟩
  | .hbm, ⟨59, _⟩ => ⟨S8x128x128, .f32⟩
  | .hbm, ⟨60, _⟩ => ⟨S16x128x8x128, .f32⟩
  | .hbm, ⟨61, _⟩ => ⟨S8x16x128x128, .f32⟩
  | .hbm, ⟨62, _⟩ => ⟨S16x128x8x128, .f32⟩
  | .hbm, ⟨63, _⟩ => ⟨S128x8, .f32⟩
  | .hbm, ⟨64, _⟩ => ⟨S1x128x8x1, .f32⟩
  | .hbm, ⟨65, _⟩ => ⟨S16x128x8x128, .f32⟩
  | .hbm, ⟨66, _⟩ => ⟨S16x128x8x128, .f32⟩
  | .hbm, ⟨67, _⟩ => ⟨S2048x8x128, .f32⟩
  | .hbm, ⟨68, _⟩ => ⟨S2048x8x128, .f32⟩
  | .hbm, ⟨69, _⟩ => ⟨S2048x8x128, .f32⟩
  | .hbm, ⟨70, _⟩ => ⟨S_, .f32⟩
  | .hbm, ⟨71, _⟩ => ⟨S2048x8, .f32⟩
  | .hbm, ⟨72, _⟩ => ⟨S2048x8x1, .f32⟩
  | .hbm, ⟨73, _⟩ => ⟨S_, .f32⟩
  | .hbm, ⟨74, _⟩ => ⟨S2048x8x1, .f32⟩
  | .hbm, ⟨75, _⟩ => ⟨S2048x8x1, .f32⟩
  | .hbm, ⟨76, _⟩ => ⟨S_, .f32⟩
  | .hbm, ⟨77, _⟩ => ⟨S2048x8x1, .f32⟩
  | .hbm, ⟨78, _⟩ => ⟨S2048x8x1, .f32⟩
  | .hbm, ⟨79, _⟩ => ⟨S2048x8x1, .f32⟩
  | .hbm, ⟨80, _⟩ => ⟨S2048x8x128, .f32⟩
  | .hbm, ⟨81, _⟩ => ⟨S2048x8x128, .f32⟩
  | .hbm, ⟨82, _⟩ => ⟨S1x8x128, .f32⟩
  | .hbm, ⟨83, _⟩ => ⟨S2048x8x128, .f32⟩
  | .hbm, ⟨84, _⟩ => ⟨S2048x8x128, .f32⟩
  | .hbm, ⟨85, _⟩ => ⟨S2048x1024, .f32⟩
  | .hbm, ⟨86, _⟩ => ⟨S2048x1024, .bf16⟩
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel16.lean ====
abbrev S2048x5120 : Shape := ⟨2, ![2048, 5120]⟩
abbrev S8x128 : Shape := ⟨2, ![8, 128]⟩
abbrev S8x128x128 : Shape := ⟨3, ![8, 128, 128]⟩
abbrev S2048x2048 : Shape := ⟨2, ![2048, 2048]⟩
abbrev S8x1x128 : Shape := ⟨3, ![8, 1, 128]⟩
abbrev S8x128x1 : Shape := ⟨3, ![8, 128, 1]⟩
abbrev S2048x1024 : Shape := ⟨2, ![2048, 1024]⟩
abbrev S2048x128 : Shape := ⟨2, ![2048, 128]⟩
abbrev S1x1x128 : Shape := ⟨3, ![1, 1, 128]⟩
abbrev S1x128x128 : Shape := ⟨3, ![1, 128, 128]⟩
abbrev S1x128x1 : Shape := ⟨3, ![1, 128, 1]⟩
abbrev S1x128 : Shape := ⟨2, ![1, 128]⟩
abbrev S2048 : Shape := ⟨1, ![2048]⟩
abbrev S2048x1 : Shape := ⟨2, ![2048, 1]⟩
abbrev S128x128 : Shape := ⟨2, ![128, 128]⟩
abbrev S128x1 : Shape := ⟨2, ![128, 1]⟩
abbrev S128 : Shape := ⟨1, ![128]⟩

abbrev nBuf : Space → Nat
  | .hbm => 15
  | .vmem => 28
  | .smem => 0
  | _ => 0

abbrev bufTy : (tb : Table) → Fin (tcTables nBuf tb) → BufTy
  | .hbm, ⟨0, _⟩ => ⟨S2048x5120, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S8x128, .f32⟩
  | .hbm, ⟨5, _⟩ => ⟨S2048x2048, .f32⟩
  | .hbm, ⟨6, _⟩ => ⟨S8x1x128, .f32⟩
  | .hbm, ⟨7, _⟩ => ⟨S8x128x1, .f32⟩
  | .hbm, ⟨8, _⟩ => ⟨S8x1x128, .f32⟩
  | .hbm, ⟨9, _⟩ => ⟨S2048x1024, .bf16⟩
  | .hbm, ⟨10, _⟩ => ⟨S2048x1024, .bf16⟩
  | .hbm, ⟨11, _⟩ => ⟨S8x1x128, .f32⟩
  | .hbm, ⟨12, _⟩ => ⟨S8x128x128, .f32⟩
  | .hbm, ⟨13, _⟩ => ⟨S8x128x1, .f32⟩
  | .hbm, ⟨14, _⟩ => ⟨S8x1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1x128, .f32⟩
  | .local _ .vmem, ⟨5, _⟩ => ⟨S1x1x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S1x1x128, .f32⟩
  | .local _ .vmem, ⟨11, _⟩ => ⟨S1x1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x1x128, .f32⟩
  | .local _ .vmem, ⟨19, _⟩ => ⟨S1x1x128, .f32⟩
  | .local _ .vmem, ⟨20, _⟩ => ⟨S1x128x128, .f32⟩
  | .local _ .vmem, ⟨21, _⟩ => ⟨S1x128x128, .f32⟩
  | .local _ .vmem, ⟨22, _⟩ => ⟨S1x128x1, .f32⟩
  | .local _ .vmem, ⟨23, _⟩ => ⟨S1x128x1, .f32⟩
  | .local _ .vmem, ⟨24, _⟩ => ⟨S1x1x128, .f32⟩
  | .local _ .vmem, ⟨25, _⟩ => ⟨S1x1x128, .f32⟩
  | .local _ .vmem, ⟨26, _⟩ => ⟨S2048x128, .bf16⟩
  | .local _ .vmem, ⟨27, _⟩ => ⟨S2048x128, .f32⟩
  | _, _ => ⟨S2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32 : BitVec 32 := 2#32
  let v42 : BitVec 32 := Scalar.addi c0_i32 c2_i32
  let c1_i32 : BitVec 32 := 1#32
  ⟨c0_i32, v42, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32 : BitVec 32 := 8#32
  let v111 : BitVec 32 := Scalar.muli arg16 c8_i32
  let c0_i32_58 : BitVec 32 := 0#32
  let v112 : BitVec 32 := Scalar.addi v111 c0_i32_58
  let c128_i32 : BitVec 32 := 128#32
  let v113 : BitVec 32 := Scalar.muli v112 c128_i32
  v113
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_59 : BitVec 32 := 8#32
  let v115 : BitVec 32 := Scalar.muli arg16 c8_i32_59
  let c1_i32_60 : BitVec 32 := 1#32
  let v116 : BitVec 32 := Scalar.addi v115 c1_i32_60
  let c128_i32_61 : BitVec 32 := 128#32
  let v117 : BitVec 32 := Scalar.muli v116 c128_i32_61
  v117
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_62 : BitVec 32 := 8#32
  let v119 : BitVec 32 := Scalar.muli arg16 c8_i32_62
  let c2_i32_63 : BitVec 32 := 2#32
  let v120 : BitVec 32 := Scalar.addi v119 c2_i32_63
  let c128_i32_64 : BitVec 32 := 128#32
  let v121 : BitVec 32 := Scalar.muli v120 c128_i32_64
  v121
def k0_mult4 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_65 : BitVec 32 := 8#32
  let v123 : BitVec 32 := Scalar.muli arg16 c8_i32_65
  let c3_i32 : BitVec 32 := 3#32
  let v124 : BitVec 32 := Scalar.addi v123 c3_i32
  let c128_i32_66 : BitVec 32 := 128#32
  let v125 : BitVec 32 := Scalar.muli v124 c128_i32_66
  v125
def k0_mult5 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_67 : BitVec 32 := 8#32
  let v127 : BitVec 32 := Scalar.muli arg16 c8_i32_67
  let c4_i32 : BitVec 32 := 4#32
  let v128 : BitVec 32 := Scalar.addi v127 c4_i32
  let c128_i32_68 : BitVec 32 := 128#32
  let v129 : BitVec 32 := Scalar.muli v128 c128_i32_68
  v129
def k0_mult6 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_69 : BitVec 32 := 8#32
  let v131 : BitVec 32 := Scalar.muli arg16 c8_i32_69
  let c5_i32 : BitVec 32 := 5#32
  let v132 : BitVec 32 := Scalar.addi v131 c5_i32
  let c128_i32_70 : BitVec 32 := 128#32
  let v133 : BitVec 32 := Scalar.muli v132 c128_i32_70
  v133
def k0_mult7 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_71 : BitVec 32 := 8#32
  let v135 : BitVec 32 := Scalar.muli arg16 c8_i32_71
  let c6_i32 : BitVec 32 := 6#32
  let v136 : BitVec 32 := Scalar.addi v135 c6_i32
  let c128_i32_72 : BitVec 32 := 128#32
  let v137 : BitVec 32 := Scalar.muli v136 c128_i32_72
  v137
def k0_mult8 (k0_t1 : Fin k0_t1_loop.trips) : BitVec 32 :=
  let c0_i32 : BitVec 32 := 0#32
  let c1_i32 : BitVec 32 := 1#32
  let arg16 : BitVec 32 := Scf.iv c0_i32 c1_i32 k0_t1
  let c8_i32_73 : BitVec 32 := 8#32
  let v139 : BitVec 32 := Scalar.muli arg16 c8_i32_73
  let c7_i32 : BitVec 32 := 7#32
  let v140 : BitVec 32 := Scalar.addi v139 c7_i32
  let c128_i32_74 : BitVec 32 := 128#32
  let v141 : BitVec 32 := Scalar.muli v140 c128_i32_74
  v141
def k0_off1 (k0_t1 : Fin k0_t1_loop.trips) (c0_i32_58 : BitVec 32) : Fin 2 → Nat :=
  let c0_i32 : BitVec 32 := 0#32
  let c1_i32 : BitVec 32 := 1#32
  let arg16 : BitVec 32 := Scf.iv c0_i32 c1_i32 k0_t1
  let c8_i32 : BitVec 32 := 8#32
  let v111 : BitVec 32 := Scalar.muli arg16 c8_i32
  let v112 : BitVec 32 := Scalar.addi v111 c0_i32_58
  let c128_i32 : BitVec 32 := 128#32
  let v113 : BitVec 32 := Scalar.muli v112 c128_i32
  let v114 : BitVec 32 := v113
  let v143 : Index := Scalar.indexCast v114
  let c0_75 : Index := 0#32
  ![v143.toNat, 0]
def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference16Ideal.lean ====
abbrev S2048x5120 : Shape := ⟨2, ![2048, 5120]⟩
abbrev S8x128 : Shape := ⟨2, ![8, 128]⟩
abbrev S8x128x128 : Shape := ⟨3, ![8, 128, 128]⟩
abbrev S2048x2048 : Shape := ⟨2, ![2048, 2048]⟩
abbrev S2048x1024 : Shape := ⟨2, ![2048, 1024]⟩
abbrev S_ : Shape := ⟨0, ![]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S1x128x128 : Shape := ⟨3, ![1, 128, 128]⟩
abbrev S16x128x8x128 : Shape := ⟨4, ![16, 128, 8, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S8x1x128 : Shape := ⟨3, ![8, 1, 128]⟩
abbrev S8x128x1 : Shape := ⟨3, ![8, 128, 1]⟩

abbrev nBuf : Space → Nat
  | .hbm => 215
  | .vmem => 0
  | .smem => 0
  | _ => 0

abbrev hbmTy0_0 (i : Nat) : BufTy := match i % 128 with
  | 0 => ⟨S2048x5120, .f32⟩
  | 1 => ⟨S8x128, .f32⟩
  | 2 => ⟨S8x128x128, .f32⟩
  | 3 => ⟨S8x128, .f32⟩
  | 4 => ⟨S8x128, .f32⟩
  | 5 => ⟨S2048x2048, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x8x128, .f32⟩
  | 38 => ⟨S_, .f32⟩
  | 39 => ⟨S2048x1024, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S_, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x8x128, .f32⟩
  | 68 => ⟨S2048x8x128, .f32⟩
  | 69 => ⟨S_, .f32⟩
  | 70 => ⟨S2048x8, .f32⟩
  | 71 => ⟨S2048x8x1, .f32⟩
  | 72 => ⟨S_, .f32⟩
  | 73 => ⟨S2048x8x1, .f32⟩
  | 74 => ⟨S2048x8x1, .f32⟩
  | 75 => ⟨S_, .f32⟩
  | 76 => ⟨S2048x8x1, .f32⟩
  | 77 => ⟨S2048x8x1, .f32⟩
  | 78 => ⟨S2048x8x1, .f32⟩
  | 79 => ⟨S2048x8x1, .f32⟩
  | 80 => ⟨S_, .f32⟩
  | 81 => ⟨S2048x8x1, .f32⟩
  | 82 => ⟨S2048x8x1, .f32⟩
  | 83 => ⟨S2048x8x128, .f32⟩
  | 84 => ⟨S2048x8x128, .f32⟩
  | 85 => ⟨S1x8x128, .f32⟩
  | 86 => ⟨S2048x8x128, .f32⟩
  | 87 => ⟨S2048x8x128, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S1x128x128, .i1⟩
  | 100 => ⟨S_, .f32⟩
  | 101 => ⟨S_, .f32⟩
  | 102 => ⟨S8x128x128, .i1⟩
  | 103 => ⟨S8x128x128, .f32⟩
  | 104 => ⟨S8x128x128, .f32⟩
  | 105 => ⟨S_, .f32⟩
  | 106 => ⟨S8x128x128, .f32⟩
  | 107 => ⟨S16x128x8x128, .f32⟩
  | 108 => ⟨S8x16x128x128, .f32⟩
  | 109 => ⟨S16x128x8x128, .f32⟩
  | 110 => ⟨S128x8, .f32⟩
  | 111 => ⟨S1x128x8x1, .f32⟩
  | 112 => ⟨S16x128x8x128, .f32⟩
  | 113 => ⟨S16x128x8x128, .f32⟩
  | 114 => ⟨S2048x8x128, .f32⟩
  | 115 => ⟨S2048x8x128, .f32⟩
  | 116 => ⟨S2048x8x128, .f32⟩
  | 117 => ⟨S_, .f32⟩
  | 118 => ⟨S2048x8, .f32⟩
  | 119 => ⟨S2048x8x1, .f32⟩
  | 120 => ⟨S_, .f32⟩
  | 121 => ⟨S2048x8x1, .f32⟩
  | 122 => ⟨S2048x8x1, .f32⟩
  | 123 => ⟨S_, .f32⟩
  | 124 => ⟨S2048x8x1, .f32⟩
  | 125 => ⟨S2048x8x1, .f32⟩
  | 126 => ⟨S2048x8x1, .f32⟩
  | 127 => ⟨S2048x8x1, .f32⟩
  | _ => ⟨S2048x5120, .f32⟩

abbrev hbmTy0_1 (i : Nat) : BufTy := match i % 128 with
  | 0 => ⟨S_, .f32⟩
  | 1 => ⟨S2048x8x1, .f32⟩
  | 2 => ⟨S2048x8x1, .f32⟩
  | 3 => ⟨S2048x8x128, .f32⟩
  | 4 => ⟨S2048x8x128, .f32⟩
  | 5 => ⟨S1x8x128, .f32⟩
  | 6 => ⟨S2048x8x128, .f32⟩
  | 7 => ⟨S2048x8x128, .f32⟩
  | 8 => ⟨S2048x1024, .f32⟩
  | 9 => ⟨S2048x1024, .f32⟩
  | 10 => ⟨S2048x8x128, .f32⟩
  | 11 => ⟨S2048x8x128, .f32⟩
  | 12 => ⟨S_, .f32⟩
  | 13 => ⟨S8x128, .f32⟩
  | 14 => ⟨S1x8x128, .f32⟩
  | 15 => ⟨S2048x8x128, .f32⟩
  | 16 => ⟨S2048x8x128, .f32⟩
  | 17 => ⟨S_, .f32⟩
  | 18 => ⟨S8x128, .f32⟩
  | 19 => ⟨S2048x8x128, .f32⟩
  | 20 => ⟨S_, .f32⟩
  | 21 => ⟨S2048x8, .f32⟩
  | 22 => ⟨S2048x8x1, .f32⟩
  | 23 => ⟨S2048x8x128, .f32⟩
  | 24 => ⟨S2048x8x128, .f32⟩
  | 25 => ⟨S2048x8x1, .f32⟩
  | 26 => ⟨S_, .f32⟩
  | 27 => ⟨S2048x8x1, .f32⟩
  | 28 => ⟨S2048x8x1, .f32⟩
  | 29 => ⟨S_, .f32⟩
  | 30 => ⟨S2048x8, .f32⟩
  | 31 => ⟨S2048x8x128, .f32⟩
  | 32 => ⟨S2048x8x128, .f32⟩
  | 33 => ⟨S2048x8x128, .f32⟩
  | 34 => ⟨S2048x8x128, .f32⟩
  | 35 => ⟨S2048x8x128, .f32⟩
  | 36 => ⟨S2048x8x128, .f32⟩
  | 37 => ⟨S2048x8x128, .f32⟩
  | 38 => ⟨S16x128x8x128, .f32⟩
  | 39 => ⟨S_, .f32⟩
  | 40 => ⟨S128x8, .f32⟩
  | 41 => ⟨S1x128x8x1, .f32⟩
  | 42 => ⟨S_, .f32⟩
  | 43 => ⟨S128x8, .f32⟩
  | 44 => ⟨S8x128, .f32⟩
  | 45 => ⟨S8x16x128x128, .f32⟩
  | 46 => ⟨S8x128x128, .f32⟩
  | 47 => ⟨S8x16x128x128, .f32⟩
  | 48 => ⟨S16x128x8x128, .f32⟩
  | 49 => ⟨S2048x8x128, .f32⟩
  | 50 => ⟨S_, .f32⟩
  | 51 => ⟨S8x128x128, .f32⟩
  | 52 => ⟨S8x128x128, .f32⟩
  | 53 => ⟨S2048x8x128, .f32⟩
  | 54 => ⟨S_, .f32⟩
  | 55 => ⟨S8x128, .f32⟩
  | 56 => ⟨S1x8x128, .f32⟩
  | 57 => ⟨S2048x8x128, .f32⟩
  | 58 => ⟨S2048x8x128, .f32⟩
  | 59 => ⟨S_, .f32⟩
  | 60 => ⟨S8x128, .f32⟩
  | 61 => ⟨S2048x8x128, .f32⟩
  | 62 => ⟨S_, .f32⟩
  | 63 => ⟨S2048x8, .f32⟩
  | 64 => ⟨S2048x8x1, .f32⟩
  | 65 => ⟨S2048x8x128, .f32⟩
  | 66 => ⟨S2048x8x128, .f32⟩
  | 67 => ⟨S2048x8x1, .f32⟩
  | 68 => ⟨S_, .f32⟩
  | 69 => ⟨S2048x8x1, .f32⟩
  | 70 => ⟨S2048x8x1, .f32⟩
  | 71 => ⟨S_, .f32⟩
  | 72 => ⟨S2048x8, .f32⟩
  | 73 => ⟨S2048x8x128, .f32⟩
  | 74 => ⟨S2048x8x128, .f32⟩
  | 75 => ⟨S2048x8x128, .f32⟩
  | 76 => ⟨S2048x8x128, .f32⟩
  | 77 => ⟨S2048x8x128, .f32⟩
  | 78 => ⟨S2048x1024, .f32⟩
  | 79 => ⟨S2048x1024, .f32⟩
  | 80 => ⟨S2048x1024, .f32⟩
  | 81 => ⟨S2048x1024, .f32⟩
  | 82 => ⟨S2048x1024, .bf16⟩
  | 83 => ⟨S2048x1024, .bf16⟩
  | 84 => ⟨S8x1x128, .f32⟩
  | 85 => ⟨S8x128x1, .f32⟩
  | 86 => ⟨S8x1x128, .f32⟩
  | _ => ⟨S2048x5120, .f32⟩

abbrev hbmTy (i : Nat) : BufTy := match i / 128 with
  | 0 => hbmTy0_0 i
  | 1 => hbmTy0_1 i
  | _ => ⟨S2048x5120, .f32⟩

abbrev bufTy : (tb : Table) → Fin (tcTables nBuf tb) → BufTy
  | .hbm, ⟨i, _⟩ => hbmTy i
  | _, _ => ⟨S2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_0 : Ref sig .tc := ⟨.hbm, 96, rfl⟩
abbrev main_call0_v5 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_call1_v0 : Ref sig .tc := ⟨.hbm, 101, rfl⟩
abbrev main_v67_1 : Ref sig .tc := ⟨.hbm, 102, rfl⟩
abbrev main_call1_v2 : Ref sig .tc := ⟨.hbm, 103, rfl⟩
abbrev main_v67_0 : Ref sig .tc := ⟨.hbm, 104, rfl⟩
abbrev main_call1_cst : Ref sig .tc := ⟨.hbm, 105, rfl⟩
abbrev main_v67_2 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_18 : Ref sig .tc := ⟨.hbm, 117, rfl⟩
abbrev main_v78 : Ref sig .tc := ⟨.hbm, 118, rfl⟩
abbrev main_v79 : Ref sig .tc := ⟨.hbm, 119, rfl⟩
abbrev main_cst_19 : Ref sig .tc := ⟨.hbm, 120, rfl⟩
abbrev main_v80 : Ref sig .tc := ⟨.hbm, 121, rfl⟩
abbrev main_v81 : Ref sig .tc := ⟨.hbm, 122, rfl⟩
abbrev main_cst_20 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_21 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_23 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_cst_26 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_27 : Ref sig .tc := ⟨.hbm, 167, rfl⟩
abbrev main_v119 : Ref sig .tc := ⟨.hbm, 168, rfl⟩
abbrev main_v120 : Ref sig .tc := ⟨.hbm, 169, rfl⟩
abbrev main_cst_28 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_call2_cst : Ref sig .tc := ⟨.hbm, 178, rfl⟩
abbrev main_call2_v0 : Ref sig .tc := ⟨.hbm, 179, rfl⟩
abbrev main_v128 : Ref sig .tc := ⟨.hbm, 180, rfl⟩
abbrev main_v129 : Ref sig .tc := ⟨.hbm, 181, rfl⟩
abbrev main_cst_29 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_30 : Ref sig .tc := ⟨.hbm, 187, rfl⟩
abbrev main_v134 : Ref sig .tc := ⟨.hbm, 188, rfl⟩
abbrev main_v135 : Ref sig .tc := ⟨.hbm, 189, rfl⟩
abbrev main_cst_31 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_32 : Ref sig .tc := ⟨.hbm, 196, rfl⟩
abbrev main_v141 : Ref sig .tc := ⟨.hbm, 197, rfl⟩
abbrev main_v142 : Ref sig .tc := ⟨.hbm, 198, rfl⟩
abbrev main_cst_33 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩

abbrev nD : Nat := 1
abbrev τ : Topo := Topo.v7x

variable {F : FTy → Type} [FloatOps F]
-- ==== Kernel17.lean ====
abbrev S2048x2048 : Shape := ⟨2, ![2048, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_11 : BitVec 32 := 0#32
  let v21 : BitVec 1 := Scalar.cmpi .ne v20 c0_i32_11
  v21

def k0_cond2 (i : grid0.Coords) : BitVec 1 :=
  let arg0 : BitVec 32 := BitVec.ofNat 32 (i 0).val
  let c0_i32_12 : BitVec 32 := 0#32
  let v22 : BitVec 1 := Scalar.cmpi .sgt arg0 c0_i32_12
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S2048x2048 : Shape := ⟨2, ![2048, 2048]⟩
abbrev S_ : Shape := ⟨0, ![]⟩
abbrev S2048 : Shape := ⟨1, ![2048]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.ConvBlock.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.KernelIdeal Cert.KernelIdeal.Gen

namespace Cert.ConvBack

/-- A column moved down by `n` rows, zeros coming in at the top. -/
def down (n : ℕ) (X : Fin 2048 → EReal) (s : Fin 2048) : EReal :=
  if n ≤ (s : ℕ) then X ⟨s - n, by omega⟩ else 0

/-- A column moved up by `n` rows, zeros coming in at the bottom. -/
def up (n : ℕ) (X : Fin 2048 → EReal) (s : Fin 2048) : EReal :=
  if h : (s : ℕ) + n < 2048 then X ⟨s + n, h⟩ else 0

/-- The causal convolution of width three of one column. -/
def conv (X : Fin 2048 → EReal) (W : Fin 3 → EReal) (B : EReal) (s : Fin 2048) : EReal :=
  B + W 0 * down 2 X s + W 1 * down 1 X s + W 2 * X s

/-- The gradient reaching one column of the convolution's result: the gate's (half 0) or the value's (half 1). -/
def dz (X : Fin 2 → Fin 2048 → EReal) (W : Fin 2 → Fin 3 → EReal) (B : Fin 2 → EReal) (D : Fin 2048 → EReal)
    (h : Fin 2) (s : Fin 2048) : EReal :=
  if h = 0 then
    D s * conv (X 1) (W 1) (B 1) s
      * (Ideal.logistic (conv (X 0) (W 0) (B 0) s)
        * (1 + conv (X 0) (W 0) (B 0) s * (1 - Ideal.logistic (conv (X 0) (W 0) (B 0) s))))
  else D s * (conv (X 0) (W 0) (B 0) s * Ideal.logistic (conv (X 0) (W 0) (B 0) s))

/-- The convolution's gradient in its input: the transposed convolution. -/
def dx (W : Fin 3 → EReal) (Z : Fin 2048 → EReal) (s : Fin 2048) : EReal :=
  W 2 * Z s + W 1 * up 1 Z s + W 0 * up 2 Z s

/-- The convolution's gradient in its tap `k`. -/
def dw (X Z : Fin 2048 → EReal) (k : Fin 3) : EReal := ∑ s, Z s * down (2 - k) X s

theorem down_zero (X : Fin 2048 → EReal) (s : Fin 2048) : down 0 X s = X s := by simp [down]

theorem sge1 : ∀ a : Fin 8, IntOp.cmpi .sge (BitVec.ofNat 32 a) 1#32 = if 1 ≤ (a : ℕ) then 1#1 else 0#1 := by decide
theorem sge2 : ∀ a : Fin 8, IntOp.cmpi .sge (BitVec.ofNat 32 a) 2#32 = if 2 ≤ (a : ℕ) then 1#1 else 0#1 := by decide
theorem slt7 : ∀ a : Fin 8, IntOp.cmpi .slt (BitVec.ofNat 32 a) 7#32 = if (a : ℕ) < 7 then 1#1 else 0#1 := by decide
theorem slt6 : ∀ a : Fin 8, IntOp.cmpi .slt (BitVec.ofNat 32 a) 6#32 = if (a : ℕ) < 6 then 1#1 else 0#1 := by decide

theorem sel_if (p : Prop) [Decidable p] (a b : EReal) :
    Scalar.select (if p then 1#1 else 0#1) a b = if p then a else b := by
  by_cases h : p <;> simp [h, Scalar.select]

/-- The rotation by 1 with its first rows cleared is the move down by 1. -/
theorem ladder_down1 (X : Fin 2048 → EReal) (s : Fin 2048) :
    (if _h : (s : ℕ) < 8 then
      Scalar.select (IntOp.cmpi .sge (BitVec.ofNat 32 s) 1#32) (X ⟨((s : ℕ) + 2048 - 1) % 2048, by omega⟩) 0
    else X ⟨(8 + ((s : ℕ) - 8) + 2048 - 1) % 2048, by omega⟩) = down 1 X s := by
  have hs := s.isLt
  unfold down
  split_ifs with h1 h2 h2
  · rw [sge1 ⟨s, h1⟩, sel_if, if_pos h2]
    congr 2; omega
  · rw [sge1 ⟨s, h1⟩, sel_if, if_neg h2]
  · congr 2; omega
  · omega

/-- The rotation by 2047 with its last rows cleared is the move up by 1. -/
theorem ladder_up1 (X : Fin 2048 → EReal) (s : Fin 2048) :
    (if _h : (s : ℕ) < 2040 then X ⟨((s : ℕ) + 2048 - 2047) % 2048, by omega⟩
    else Scalar.select (IntOp.cmpi .slt (BitVec.ofNat 32 ((s : ℕ) - 2040)) 7#32)
      (X ⟨(2040 + ((s : ℕ) - 2040) + 2048 - 2047) % 2048, by omega⟩) 0) = up 1 X s := by
  have hs := s.isLt
  unfold up
  split_ifs with h1 h2 h2
  · congr 2; omega
  · omega
  · rw [slt7 ⟨(s : ℕ) - 2040, by omega⟩, sel_if, if_pos (by show (s : ℕ) - 2040 < 7; omega)]
    congr 2; omega
  · rw [slt7 ⟨(s : ℕ) - 2040, by omega⟩, sel_if, if_neg (by show ¬ (s : ℕ) - 2040 < 7; omega)]

/-- The rotation by 2 with its first rows cleared is the move down by 2. -/
theorem ladder_down2 (X : Fin 2048 → EReal) (s : Fin 2048) :
    (if _h : (s : ℕ) < 8 then
      Scalar.select (IntOp.cmpi .sge (BitVec.ofNat 32 s) 2#32) (X ⟨((s : ℕ) + 2048 - 2) % 2048, by omega⟩) 0
    else X ⟨(8 + ((s : ℕ) - 8) + 2048 - 2) % 2048, by omega⟩) = down 2 X s := by
  have hs := s.isLt
  unfold down
  split_ifs with h1 h2 h2
  · rw [sge2 ⟨s, h1⟩, sel_if, if_pos h2]
    congr 2; omega
  · rw [sge2 ⟨s, h1⟩, sel_if, if_neg h2]
  · congr 2; omega
  · omega

/-- The rotation by 2046 with its last rows cleared is the move up by 2. -/
theorem ladder_up2 (X : Fin 2048 → EReal) (s : Fin 2048) :
    (if _h : (s : ℕ) < 2040 then X ⟨((s : ℕ) + 2048 - 2046) % 2048, by omega⟩
    else Scalar.select (IntOp.cmpi .slt (BitVec.ofNat 32 ((s : ℕ) - 2040)) 6#32)
      (X ⟨(2040 + ((s : ℕ) - 2040) + 2048 - 2046) % 2048, by omega⟩) 0) = up 2 X s := by
  have hs := s.isLt
  unfold up
  split_ifs with h1 h2 h2
  · congr 2; omega
  · omega
  · rw [slt6 ⟨(s : ℕ) - 2040, by omega⟩, sel_if, if_pos (by show (s : ℕ) - 2040 < 6; omega)]
    congr 2; omega
  · rw [slt6 ⟨(s : ℕ) - 2040, by omega⟩, sel_if, if_neg (by show ¬ (s : ℕ) - 2040 < 6; omega)]

theorem pay8_at (v : Vec Ideal S1x2048x256 .f32) (s : Fin 2048) (l : Fin 256) :
    k0_pay8 (F := Ideal) v (ix2 s l) = down 1 (fun r => v (ix3 0 r l)) s := by
  pointwise [k0_pay8, k0_pay3]
  exact ladder_down1 (fun r => v (ix3 0 r l)) s
theorem pay9_at (v : Vec Ideal S1x2048x256 .f32) (s : Fin 2048) (l : Fin 256) :
    k0_pay9 (F := Ideal) v (ix2 s l) = down 2 (fun r => v (ix3 0 r l)) s := by
  pointwise [k0_pay9, k0_pay3]
  exact ladder_down2 (fun r => v (ix3 0 r l)) s
theorem pay12_at (v : Vec Ideal S2048x256 .f32) (s : Fin 2048) (l : Fin 256) :
    k0_pay12 (F := Ideal) v (ix2 s l) = down 1 (fun r => v (ix2 r l)) s := by
  pointwise [k0_pay12]
  exact ladder_down1 (fun r => v (ix2 r l)) s
theorem pay13_at (v : Vec Ideal S2048x256 .f32) (s : Fin 2048) (l : Fin 256) :
    k0_pay13 (F := Ideal) v (ix2 s l) = down 2 (fun r => v (ix2 r l)) s := by
  pointwise [k0_pay13]
  exact ladder_down2 (fun r => v (ix2 r l)) s

theorem pay19_at (v8 v43 v77 v80 v82) (s : Fin 2048) (l : Fin 256) :
    k0_pay19 (F := Ideal) v8 v43 v77 v80 v82 (ix3 0 s l)
      = dx (fun k => v8 (ix2 k l)) (fun r => k0_pay18 (F := Ideal) v43 v77 v80 v82 (ix2 r l)) s := by
  pointwise [k0_pay19, dx]
  exact congrArg₂ _ (congrArg₂ _ rfl (congrArg _ (ladder_up1 (fun r => k0_pay18 (F := Ideal) v43 v77 v80 v82 (ix2 r l)) s)))
    (congrArg _ (ladder_up2 (fun r => k0_pay18 (F := Ideal) v43 v77 v80 v82 (ix2 r l)) s))

theorem pay30_at (v10 v79) (s : Fin 2048) (l : Fin 256) :
    k0_pay30 (F := Ideal) (k0_pay24 v10 v79) (k0_pay25 v10) (k0_pay27 v79) k0_pay28 (k0_pay29 v79) (ix3 0 s l)
      = dx (fun k => v10 (ix2 k l)) (fun r => v79 (ix2 r l)) s := by
  pointwise [k0_pay30, k0_pay24, k0_pay25, k0_pay26, k0_pay27, k0_pay28, k0_pay29, dx]
  exact congrArg₂ _ (congrArg₂ _ rfl (congrArg _ (ladder_up1 (fun r => v79 (ix2 r l)) s)))
    (congrArg _ (ladder_up2 (fun r => v79 (ix2 r l)) s))

variable (x0 : Vec Ideal S2x2048x256 .f32) (x1 : Vec Ideal S2x3x256 .f32) (x2 : Vec Ideal S2x1x256 .f32) (x3 : Vec Ideal S2048x2048 .bf16) (x4 : Vec Ideal S256x2048 .bf16) (x5 : Vec Ideal S8x128 .f32)

/-- Column `l` of the block's half `h` of the convolution's input. -/
def bX (l : Fin 256) (h : Fin 2) (s : Fin 2048) : EReal := x0 (ix3 h s l)
/-- The taps of column `l` of the block's half `h`. -/
def bW (l : Fin 256) (h : Fin 2) (k : Fin 3) : EReal := x1 (ix3 h k l)
/-- The bias of column `l` of the block's half `h`. -/
def bB (l : Fin 256) (h : Fin 2) : EReal := x2 (ix3 h 0 l)
/-- The product with the transposed weight: the gradient reaching the gated value. -/
def bD (l : Fin 256) (s : Fin 2048) : EReal := ∑ k : Fin 2048, x3 (ix2 s k) * x4 (ix2 l k)

theorem pay35_at (s : Fin 2048) (l : Fin 256) : k0_pay35 (F := Ideal) x0 x1 x2 x3 x4 x5 (ix2 s l) = bD x3 x4 l s := by
  pointwise [k0_pay35, k0_pay2, bD]
theorem pay36_at (s : Fin 2048) (l : Fin 256) : k0_pay36 (F := Ideal) x0 x1 x2 x3 x4 x5 (ix2 s l) = bX x0 l 0 s := by
  pointwise [k0_pay36, k0_pay3, bX]
theorem pay37_at (s : Fin 2048) (l : Fin 256) : k0_pay37 (F := Ideal) x0 x1 x2 x3 x4 x5 (ix2 s l) = bX x0 l 1 s := by
  pointwise [k0_pay37, k0_pay4, bX]
theorem pay38_at (k : Fin 3) (l : Fin 256) : k0_pay38 (F := Ideal) x0 x1 x2 x3 x4 x5 (ix2 k l) = bW x1 l 0 k := by
  pointwise [k0_pay38, k0_pay5, bW]
theorem pay39_at (k : Fin 3) (l : Fin 256) : k0_pay39 (F := Ideal) x0 x1 x2 x3 x4 x5 (ix2 k l) = bW x1 l 1 k := by
  pointwise [k0_pay39, k0_pay6, bW]
theorem pay40_at (l : Fin 256) : k0_pay40 (F := Ideal) x0 x1 x2 x3 x4 x5 (ix2 0 l) = bB x2 l 0 := by
  pointwise [k0_pay40, k0_pay7, bB]
theorem pay41_at (s : Fin 2048) (l : Fin 256) : k0_pay41 (F := Ideal) x0 x1 x2 x3 x4 x5 (ix2 s l) = down 1 (bX x0 l 0) s := by
  pointwise [k0_pay41, pay8_at]
  rfl
theorem pay42_at (s : Fin 2048) (l : Fin 256) : k0_pay42 (F := Ideal) x0 x1 x2 x3 x4 x5 (ix2 s l) = down 2 (bX x0 l 0) s := by
  pointwise [k0_pay42, pay9_at]
  rfl
theorem pay43_at (s : Fin 2048) (l : Fin 256) : k0_pay43 (F := Ideal) x0 x1 x2 x3 x4 x5 (ix2 s l) = bW x1 l 0 0 := by
  pointwise [k0_pay43, k0_pay10, k0_pay5, bW]
theorem pay44_at (s : Fin 2048) (l : Fin 256) :
    k0_pay44 (F := Ideal) x0 x1 x2 x3 x4 x5 (ix2 s l) = conv (bX x0 l 0) (bW x1 l 0) (bB x2 l 0) s := by
  pointwise [k0_pay44, k0_pay11, pay36_at, pay38_at, pay40_at, pay41_at, pay42_at, pay43_at, conv]

theorem pay45_at (s : Fin 2048) (l : Fin 256) :
    k0_pay45 (F := Ideal) x0 x1 x2 x3 x4 x5 (ix2 s l) = Ideal.logistic (conv (bX x0 l 0) (bW x1 l 0) (bB x2 l 0) s) := by
  rw [← pay44_at x0 x1 x2 x3 x4 x5]
  pointwise [k0_pay45, k0_pay44, k0_pay14]
theorem pay46_at (s : Fin 2048) (l : Fin 256) :
    k0_pay46 (F := Ideal) x0 x1 x2 x3 x4 x5 (ix2 s l) = dz (bX x0 l) (bW x1 l) (bB x2 l) (bD x3 x4 l) 1 s := by
  rw [dz, if_neg (by decide), ← pay45_at x0 x1 x2 x3 x4 x5, ← pay44_at x0 x1 x2 x3 x4 x5, ← pay35_at x0 x1 x2 x3 x4 x5]
  pointwise [k0_pay46, k0_pay45, k0_pay44, k0_pay15]
theorem pay47_at (s : Fin 2048) (l : Fin 256) :
    k0_pay47 (F := Ideal) x0 x1 x2 x3 x4 x5 (ix2 s l) = bD x3 x4 l s * conv (bX x0 l 1) (bW x1 l 1) (bB x2 l 1) s := by
  pointwise [k0_pay47, k0_pay16, pay12_at, pay13_at, pay35_at, pay37_at, pay39_at, conv]
  rfl
theorem pay48_at (s : Fin 2048) (l : Fin 256) :
    k0_pay48 (F := Ideal) x0 x1 x2 x3 x4 x5 (ix2 s l) = 1 - Ideal.logistic (conv (bX x0 l 0) (bW x1 l 0) (bB x2 l 0) s) := by
  rw [← pay45_at x0 x1 x2 x3 x4 x5]
  pointwise [k0_pay48, k0_pay45, k0_pay17]
theorem pay49_at (s : Fin 2048) (l : Fin 256) :
    k0_pay49 (F := Ideal) x0 x1 x2 x3 x4 x5 (ix2 s l) = dz (bX x0 l) (bW x1 l) (bB x2 l) (bD x3 x4 l) 0 s := by
  rw [dz, if_pos rfl]
  pointwise [k0_pay49, k0_pay18, pay44_at, pay45_at, pay47_at, pay48_at]

theorem pay1_at (s : FVec Ideal S1x256 .f32) (l : Fin 256) : k0_pay1 (F := Ideal) s (ix3 0 0 l) = s (ix2 0 l) := by
  pointwise [k0_pay1]
theorem pay34_at (v : FVec Ideal S2048x256 .f32) (l : Fin 256) :
    k0_pay34 (F := Ideal) v (ix2 0 l) = ∑ s : Fin 2048, v (ix2 s l) := by
  pointwise [k0_pay34]
theorem pay23_at (v : FVec Ideal S2048x256 .f32) (l : Fin 256) :
    k0_pay23 (F := Ideal) v (ix3 0 0 l) = ∑ s : Fin 2048, v (ix2 s l) := by
  pointwise [k0_pay23]
theorem pay20_at (v30 v43 v77 v80 v82) (l : Fin 256) :
    k0_pay20 (F := Ideal) v30 v43 v77 v80 v82 (ix3 0 0 l)
      = ∑ s : Fin 2048, k0_pay18 (F := Ideal) v43 v77 v80 v82 (ix2 s l) * v30 (ix2 s l) := by
  pointwise [k0_pay20]
theorem pay21_at (a b) (l : Fin 256) :
    k0_pay21 (F := Ideal) a b (ix3 0 0 l) = ∑ s : Fin 2048, b (ix2 s l) * a (ix2 s l) := by
  pointwise [k0_pay21]
theorem pay22_at (a b) (l : Fin 256) :
    k0_pay22 (F := Ideal) a b (ix3 0 0 l) = ∑ s : Fin 2048, b (ix2 s l) * a (ix2 s l) := by
  pointwise [k0_pay22]
theorem pay31_at (a b) (l : Fin 256) :
    k0_pay31 (F := Ideal) a b (ix3 0 0 l) = ∑ s : Fin 2048, b (ix2 s l) * a (ix2 s l) := by
  pointwise [k0_pay31]
theorem pay32_at (a b) (l : Fin 256) :
    k0_pay32 (F := Ideal) a b (ix3 0 0 l) = ∑ s : Fin 2048, b (ix2 s l) * a (ix2 s l) := by
  pointwise [k0_pay32]
theorem pay33_at (a b) (l : Fin 256) :
    k0_pay33 (F := Ideal) a b (ix3 0 0 l) = ∑ s : Fin 2048, b (ix2 s l) * a (ix2 s l) := by
  pointwise [k0_pay33]

/-- What the call leaves in its first result's block. -/
theorem out6_at (h : Fin 2) (s : Fin 2048) (l : Fin 256) :
    out0_6 (F := Ideal) x0 x1 x2 x3 x4 x5 (ix3 h s l) = dx (bW x1 l h) (dz (bX x0 l) (bW x1 l) (bB x2 l) (bD x3 x4 l) h) s := by
  unfold out0_6
  canon_tiles x h
  case piece0 =>
    obtain rfl : h = 1 := Fin.ext (by change (h : ℕ) = 1 + _ at h0; show (h : ℕ) = 1; omega)
    obtain rfl : x = ix3 0 s l := by blk_ext [h1, h2]; exacts [h1.symm, h2.symm]
    rw [pay30_at]
    simp only [pay39_at, pay46_at]
  case piece1 =>
    obtain rfl : h = 0 := Fin.ext (by change (h : ℕ) = _ at h0; show (h : ℕ) = 0; omega)
    obtain rfl : x = ix3 0 s l := by blk_ext [h1, h2]; exacts [h1.symm, h2.symm]
    rw [pay19_at]
    exact congrArg₂ (fun W Z => dx W Z s) (funext fun k => pay38_at x0 x1 x2 x3 x4 x5 k l) (funext fun r => pay49_at x0 x1 x2 x3 x4 x5 r l)
theorem out8_at (h : Fin 2) (l : Fin 256) :
    out0_8 (F := Ideal) x0 x1 x2 x3 x4 x5 (ix3 h 0 l) = ∑ s, dz (bX x0 l) (bW x1 l) (bB x2 l) (bD x3 x4 l) h s := by
  unfold out0_8
  canon_tiles x h
  case piece0 =>
    obtain rfl : h = 1 := Fin.ext (by change (h : ℕ) = 1 + _ at h0; show (h : ℕ) = 1; omega)
    obtain rfl : x = ix3 0 0 l := by blk_ext [h1, h2]; exact h2.symm
    rw [pay1_at, pay34_at]
    simp only [pay46_at]
  case piece1 =>
    obtain rfl : h = 0 := Fin.ext (by change (h : ℕ) = _ at h0; show (h : ℕ) = 0; omega)
    obtain rfl : x = ix3 0 0 l := by blk_ext [h1, h2]; exact h2.symm
    rw [pay23_at]
    simp only [pay49_at]
theorem out7_at (h : Fin 2) (k : Fin 3) (l : Fin 256) :
    out0_7 (F := Ideal) x0 x1 x2 x3 x4 x5 (ix3 h k l) = dw (bX x0 l h) (dz (bX x0 l) (bW x1 l) (bB x2 l) (bD x3 x4 l) h) k := by
  unfold out0_7
  canon_tiles x h
  all_goals obtain rfl : x = ix3 0 0 l := by blk_ext [h1, h2]; exact h2.symm
  case piece0 =>
    obtain rfl : h = 1 := Fin.ext (by change (h : ℕ) = 1 + _ at h0; show (h : ℕ) = 1; omega)
    obtain rfl : k = 2 := Fin.ext (by change (k : ℕ) = 2 + _ at h1; show (k : ℕ) = 2; omega)
    rw [pay33_at]
    simp only [pay46_at, pay37_at, dw]
    exact Finset.sum_congr rfl fun s _ => by rw [show 2 - ((2 : Fin 3) : ℕ) = 0 from rfl, down_zero]
  case piece1 =>
    obtain rfl : h = 1 := Fin.ext (by change (h : ℕ) = 1 + _ at h0; show (h : ℕ) = 1; omega)
    obtain rfl : k = 1 := Fin.ext (by change (k : ℕ) = 1 + _ at h1; show (k : ℕ) = 1; omega)
    rw [pay32_at]
    simp only [pay46_at, pay12_at, pay37_at, dw]; rfl
  case piece2 =>
    obtain rfl : h = 1 := Fin.ext (by change (h : ℕ) = 1 + _ at h0; show (h : ℕ) = 1; omega)
    obtain rfl : k = 0 := Fin.ext (by change (k : ℕ) = _ at h1; show (k : ℕ) = 0; omega)
    rw [pay31_at]
    simp only [pay46_at, pay13_at, pay37_at, dw]; rfl
  case piece3 =>
    obtain rfl : h = 0 := Fin.ext (by change (h : ℕ) = _ at h0; show (h : ℕ) = 0; omega)
    obtain rfl : k = 2 := Fin.ext (by change (k : ℕ) = 2 + _ at h1; show (k : ℕ) = 2; omega)
    rw [pay22_at]
    simp only [pay49_at, pay36_at, dw]
    exact Finset.sum_congr rfl fun s _ => by rw [show 2 - ((2 : Fin 3) : ℕ) = 0 from rfl, down_zero]
  case piece4 =>
    obtain rfl : h = 0 := Fin.ext (by change (h : ℕ) = _ at h0; show (h : ℕ) = 0; omega)
    obtain rfl : k = 1 := Fin.ext (by change (k : ℕ) = 1 + _ at h1; show (k : ℕ) = 1; omega)
    rw [pay21_at]
    simp only [pay49_at, pay41_at, dw]; rfl
  case piece5 =>
    obtain rfl : h = 0 := Fin.ext (by change (h : ℕ) = _ at h0; show (h : ℕ) = 0; omega)
    obtain rfl : k = 0 := Fin.ext (by change (k : ℕ) = _ at h1; show (k : ℕ) = 0; omega)
    rw [pay20_at]
    exact Finset.sum_congr rfl fun s _ => congrArg₂ _ (pay49_at x0 x1 x2 x3 x4 x5 s l) (pay42_at x0 x1 x2 x3 x4 x5 s l)

end Cert.ConvBack
-- ==== Proof.ConvKernel.lean ====
module

public import proofs.«01_k».proof.Proof.ConvBlock
public import proofs.«01_k».proof.Proof.Gen.KernelIdeal.Value
import Idealize.ShloMosaic.Lib.Pipeline.ValueKit
import Idealize.ShloMosaic.Lib.Pointwise
import Idealize.ShloMosaic.Lib.Claim

@[expose] public section

/-! What the convolution call leaves in its three results, over the five argument arrays. -/

namespace Cert.ConvBack
open Idealize.ShloMosaic Idealize.ShloMosaic.Pointwise Idealize.ShloMosaic.Pipeline Cert.KernelIdeal Cert.KernelIdeal.Gen
open Idealize.ShloMosaic.TcCoe Idealize.SL.Sem

noncomputable section

/-- Column `j` of half `h`, in the flat layout. -/
def col (h : Fin 2) (j : Fin 5632) : Fin 11264 := ⟨h * 5632 + j, by omega⟩

/-- The columns of the arguments that belong to channel `j`: its input, taps, bias and the gradient of its activation. -/
def gX (X : FVec Ideal S2048x11264 .f32) (j : Fin 5632) (h : Fin 2) (s : Fin 2048) : EReal := X (ix2 s (col h j))
def gW (W : FVec Ideal S3x11264 .f32) (j : Fin 5632) (h : Fin 2) (k : Fin 3) : EReal := W (ix2 k (col h j))
def gB (B : FVec Ideal S11264 .f32) (j : Fin 5632) (h : Fin 2) : EReal := B (ix1 (col h j))
def gD (U : FVec Ideal S5632x2048 .bf16) (D : FVec Ideal S2048x2048 .bf16) (j : Fin 5632) (s : Fin 2048) : EReal :=
  ∑ k : Fin 2048, D (ix2 s k) * U (ix2 j k)

/-- The gradient of the convolution's output, at channel `j`. -/
def gZ (X : FVec Ideal S2048x11264 .f32) (W : FVec Ideal S3x11264 .f32) (B : FVec Ideal S11264 .f32)
    (U : FVec Ideal S5632x2048 .bf16) (D : FVec Ideal S2048x2048 .bf16) (j : Fin 5632) : Fin 2 → Fin 2048 → EReal :=
  dz (gX X j) (gW W j) (gB B j) (gD U D j)

/-- The three results over the arguments. -/
def resX (X : FVec Ideal S2048x11264 .f32) (W : FVec Ideal S3x11264 .f32) (B : FVec Ideal S11264 .f32)
    (U : FVec Ideal S5632x2048 .bf16) (D : FVec Ideal S2048x2048 .bf16) : FVec Ideal S2x2048x5632 .bf16 :=
  fun i => dx (gW W (i 2) (i 0)) (gZ X W B U D (i 2) (i 0)) (i 1)
def resW (X : FVec Ideal S2048x11264 .f32) (W : FVec Ideal S3x11264 .f32) (B : FVec Ideal S11264 .f32)
    (U : FVec Ideal S5632x2048 .bf16) (D : FVec Ideal S2048x2048 .bf16) : FVec Ideal S2x3x5632 .f32 :=
  fun i => dw (gX X (i 2) (i 0)) (gZ X W B U D (i 2) (i 0)) (i 1)
def resB (X : FVec Ideal S2048x11264 .f32) (W : FVec Ideal S3x11264 .f32) (B : FVec Ideal S11264 .f32)
    (U : FVec Ideal S5632x2048 .bf16) (D : FVec Ideal S2048x2048 .bf16) : FVec Ideal S2x1x5632 .f32 :=
  fun i => ∑ s, gZ X W B U D (i 2) (i 0) s

theorem idx : ∀ t : Fin cfg0.N, win0_0.index t = ![0, 0, t.val] ∧ win0_1.index t = ![0, 0, t.val]
    ∧ win0_2.index t = ![0, 0, t.val] ∧ win0_3.index t = ![0, 0] ∧ win0_4.index t = ![t.val, 0]
    ∧ win0_6.index t = ![0, 0, t.val] ∧ win0_7.index t = ![0, 0, t.val] ∧ win0_8.index t = ![0, 0, t.val] ∧ t.val < 22 :=
  (by decide +kernel : ∀ t : Fin grid0.N, _)

variable (m : (ℓ : Loc nD τ sig) → Buf (Elt Ideal) ℓ) (c : Dev nD)

/-- The channel of lane `l` of block `t`. -/
def chan (t : Fin cfg0.N) (l : Fin 256) : Fin 5632 := ⟨t * 256 + l, by have := (idx t).2.2.2.2.2.2.2.2; omega⟩

theorem blkX (t : Fin cfg0.N) (l : Fin 256) :
    bX (iblk m c 0 t) l = gX (m ((c : Thread nD τ).loc main_arg0)) (chan t l) := by
  funext h s
  unfold bX gX
  blk_point [iblk, idx t, chan, col]
theorem blkW (t : Fin cfg0.N) (l : Fin 256) :
    bW (iblk m c 1 t) l = gW (m ((c : Thread nD τ).loc main_arg1)) (chan t l) := by
  funext h s
  unfold bW gW
  blk_point [iblk, idx t, chan, col]
theorem blkB (t : Fin cfg0.N) (l : Fin 256) :
    bB (iblk m c 2 t) l = gB (m ((c : Thread nD τ).loc main_arg2)) (chan t l) := by
  funext h
  unfold bB gB
  blk_point [iblk, idx t, chan, col]
theorem blkD (t : Fin cfg0.N) (l : Fin 256) :
    bD (iblk m c 3 t) (iblk m c 4 t) l
      = gD (m ((c : Thread nD τ).loc main_arg3)) (m ((c : Thread nD τ).loc main_arg4)) (chan t l) := by
  funext s
  unfold bD gD
  blk_point [iblk, V, idx t, chan]

theorem final6 : (dats m 0 c).arrAt 6 cfg0.N = resX (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  obtain ⟨h, s, l, rfl⟩ : ∃ (h : Fin 2) (s : Fin 2048) (l : Fin 256), y = ix3 h s l :=
    ⟨y 0, y 1, y 2, by funext a; fin_cases a <;> rfl⟩
  refine (out6_at _ _ _ _ _ _ h s l).trans ?_
  rw [blkX, blkW, blkB, blkD]
  have e : (win0_6.blk t).view.emb (ix3 h s l) = ix3 h s (chan t l) := by blk_ext [idx t, chan]
  rw [e]
  rfl

theorem final7 : (dats m 0 c).arrAt 7 cfg0.N = resW (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  obtain ⟨h, k, l, rfl⟩ : ∃ (h : Fin 2) (k : Fin 3) (l : Fin 256), y = ix3 h k l :=
    ⟨y 0, y 1, y 2, by funext a; fin_cases a <;> rfl⟩
  refine (out7_at _ _ _ _ _ _ h k l).trans ?_
  rw [blkX, blkW, blkB, blkD]
  have e : (win0_7.blk t).view.emb (ix3 h k l) = ix3 h k (chan t l) := by blk_ext [idx t, chan]
  rw [e]
  rfl

theorem final8 : (dats m 0 c).arrAt 8 cfg0.N = resB (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t _ y => ?_
  blk_simp
  rw [after0_8]
  obtain ⟨h, k, l, rfl⟩ : ∃ (h : Fin 2) (k : Fin 1) (l : Fin 256), y = ix3 h k l :=
    ⟨y 0, y 1, y 2, by funext a; fin_cases a <;> rfl⟩
  obtain rfl : k = 0 := Subsingleton.elim _ _
  refine (out8_at _ _ _ _ _ _ h l).trans ?_
  rw [blkX, blkW, blkB, blkD]
  have e : (win0_8.blk t).view.emb (ix3 h 0 l) = ix3 h 0 (chan t l) := by blk_ext [idx t, chan]
  rw [e]
  rfl

end

end Cert.ConvBack
-- ==== Proof.ConvReference.lean ====
module

public import proofs.«01_k».proof.Proof.ConvKernel
public import proofs.«01_k».proof.Proof.Gen.ReferenceIdeal.Read
public import proofs.«01_k».proof.Proof.Gen.ReferenceIdeal.Run
import Idealize.ShloMosaic.Lib.Pointwise

@[expose] public section

/-! The reference's stages, read at an index. -/

namespace Cert.ConvBack
open Idealize.ShloMosaic Idealize.ShloMosaic.Pointwise Cert.ReferenceIdeal Cert.ReferenceIdeal.Read
open Idealize.ShloMosaic.TcCoe Idealize.SL.Sem

noncomputable section

variable (x0 : FVec Ideal Cert.KernelIdeal.S2048x11264 .f32) (x1 : FVec Ideal Cert.KernelIdeal.S3x11264 .f32)
  (x2 : FVec Ideal Cert.KernelIdeal.S11264 .f32)
  (x3 : FVec Ideal Cert.KernelIdeal.S5632x2048 .bf16) (x4 : FVec Ideal Cert.KernelIdeal.S2048x2048 .bf16)

theorem v1_at (r : Fin 2050) (n : Fin 11264) :
    val_main_v1 (F := Ideal) x0 (ix2 r n) = if h : 2 ≤ (r : ℕ) then x0 (ix2 ⟨r - 2, by omega⟩ n) else 0 := by
  pointwise [val_main_v1, val_main_v0, val_main_cst]
  have hr := r.isLt
  by_cases h : 2 ≤ (r : ℕ)
  · rw [dif_pos h, dif_neg (by omega)]
  · rw [dif_neg h, dif_pos (by omega)]
theorem v3_at (s : Fin 2048) (n : Fin 11264) :
    val_main_v3 (F := Ideal) x0 (ix2 s n) = down 2 (fun r => x0 (ix2 r n)) s := by
  pointwise [val_main_v3, v1_at]
  rfl
theorem v12_at (s : Fin 2048) (n : Fin 11264) :
    val_main_v12 (F := Ideal) x0 (ix2 s n) = down 1 (fun r => x0 (ix2 r n)) s := by
  pointwise [val_main_v12, v1_at]
  unfold down
  split_ifs with h h' h'
  · congr 3; omega
  · omega
  · omega
  · rfl
theorem v19_at (s : Fin 2048) (n : Fin 11264) :
    val_main_v19 (F := Ideal) x0 (ix2 s n) = x0 (ix2 s n) := by
  pointwise [val_main_v19, v1_at]
theorem v25_at (s : Fin 2048) (n : Fin 11264) :
    val_main_v25 (F := Ideal) x0 x1 x2 (ix2 s n)
      = conv (fun r => x0 (ix2 r n)) (fun k => x1 (ix2 k n)) (x2 (ix1 n)) s := by
  pointwise [val_main_v25, val_main_v24, val_main_v23, val_main_v22, val_main_v21, val_main_v20, val_main_v18, val_main_v17,
    val_main_v16, val_main_v15, val_main_v14, val_main_v13, val_main_v11, val_main_v10, val_main_v9, val_main_v8,
    val_main_v7, val_main_v6, val_main_v5, val_main_v4, v3_at, v12_at, v19_at, conv]
  rw [mul_comm (x1 (ix2 0 n)), mul_comm (x1 (ix2 1 n)), mul_comm (x1 (ix2 2 n))]
theorem col0 (j : Fin 5632) : (⟨(j : ℕ), by omega⟩ : Fin 11264) = col 0 j := Fin.ext (by show (j : ℕ) = 0 * 5632 + j; omega)
theorem col1 (j : Fin 5632) : (⟨5632 + (j : ℕ), by omega⟩ : Fin 11264) = col 1 j :=
  Fin.ext (by show 5632 + (j : ℕ) = 1 * 5632 + j; omega)
theorem v26_at (s : Fin 2048) (j : Fin 5632) :
    val_main_v26 (F := Ideal) x0 x1 x2 (ix2 s j) = conv (gX x0 j 0) (gW x1 j 0) (gB x2 j 0) s := by
  pointwise [val_main_v26, v25_at]
  simp only [col0]; rfl
theorem v27_at (s : Fin 2048) (j : Fin 5632) :
    val_main_v27 (F := Ideal) x0 x1 x2 (ix2 s j) = conv (gX x0 j 1) (gW x1 j 1) (gB x2 j 1) s := by
  pointwise [val_main_v27, v25_at]
  simp only [col1]; rfl
theorem v28_2_at (s : Fin 2048) (j : Fin 5632) :
    val_main_v28_2 (F := Ideal) x0 x1 x2 (ix2 s j)
      = Ideal.div 1 (1 + Ideal.exp (-(conv (gX x0 j 0) (gW x1 j 0) (gB x2 j 0) s))) := by
  pointwise [val_main_v28_2, val_main_call0_v4, val_main_call0_v3, val_main_call0_v2, val_main_call0_v1, val_main_call0_v0,
    val_main_call0_cst, val_main_call0_cst_0, v26_at]
theorem v33_at (s : Fin 2048) (j : Fin 5632) :
    val_main_v33 (F := Ideal) x3 x4 (ix2 s j) = gD x3 x4 j s := by
  pointwise [val_main_v33, val_main_v32, val_main_v30, gD]
theorem v34_at (s : Fin 2048) (j : Fin 5632) :
    val_main_v34 (F := Ideal) x0 x1 x2 x3 x4 (ix2 s j)
      = conv (gX x0 j 0) (gW x1 j 0) (gB x2 j 0) s
        * Ideal.div 1 (1 + Ideal.exp (-(conv (gX x0 j 0) (gW x1 j 0) (gB x2 j 0) s))) * gD x3 x4 j s := by
  pointwise [val_main_v34, val_main_v28_0, v28_2_at, v26_at, v33_at]
theorem v36_at (s : Fin 2048) (j : Fin 5632) :
    val_main_v36 (F := Ideal) x0 x1 x2 x3 x4 (ix2 s j)
      = gD x3 x4 j s * conv (gX x0 j 1) (gW x1 j 1) (gB x2 j 1) s
          * Ideal.div 1 (1 + Ideal.exp (-(conv (gX x0 j 0) (gW x1 j 0) (gB x2 j 0) s)))
        + conv (gX x0 j 0) (gW x1 j 0) (gB x2 j 0) s * (gD x3 x4 j s * conv (gX x0 j 1) (gW x1 j 1) (gB x2 j 1) s)
          * (Ideal.div 1 (1 + Ideal.exp (-(conv (gX x0 j 0) (gW x1 j 0) (gB x2 j 0) s)))
            * (1 - Ideal.div 1 (1 + Ideal.exp (-(conv (gX x0 j 0) (gW x1 j 0) (gB x2 j 0) s))))) := by
  pointwise [val_main_v36, val_main_call1_v2, val_main_call1_v1, val_main_call1_v0, val_main_v35, val_main_v28_1,
    val_main_call0_v7, val_main_call0_v6, val_main_call0_cst_1, v28_2_at, v26_at, v27_at, v33_at]
theorem v37_at (s : Fin 2048) (h : Fin 2) (j : Fin 5632) :
    val_main_v37 (F := Ideal) x0 x1 x2 x3 x4 (ix2 s (col h j))
      = if h = 0 then val_main_v36 (F := Ideal) x0 x1 x2 x3 x4 (ix2 s j) else val_main_v34 (F := Ideal) x0 x1 x2 x3 x4 (ix2 s j) := by
  pointwise [val_main_v37]
  obtain rfl | rfl : h = 0 ∨ h = 1 := by omega
  · have e : (col 0 j : ℕ) = j := by simp [col]
    have hj := j.isLt
    rw [dif_pos (e ▸ hj)]
    simp only [e, if_true]
  · have e : (col 1 j : ℕ) = 5632 + j := by simp [col]
    have hj : ¬ (col 1 j : ℕ) < 5632 := by rw [e]; omega
    rw [dif_neg hj]
    simp only [e, Nat.add_sub_cancel_left, if_neg (show ¬ (1 : Fin 2) = 0 by decide)]
theorem v60_at (n : Fin 11264) :
    val_main_v60 (F := Ideal) x0 x1 x2 x3 x4 (ix1 n) = ∑ s : Fin 2048, val_main_v37 (F := Ideal) x0 x1 x2 x3 x4 (ix2 s n) := by
  pointwise [val_main_v60, val_main_v59, val_main_v58, val_main_cst_9, val_main_cst_10]
  simp only [Finset.univ_unique, Finset.sum_singleton]
theorem v69_at (k : Fin 3) (n : Fin 11264) :
    val_main_v69 (F := Ideal) x0 x1 x2 x3 x4 (ix2 k n)
      = dw (fun r => x0 (ix2 r n)) (fun s => val_main_v37 (F := Ideal) x0 x1 x2 x3 x4 (ix2 s n)) k := by
  pointwise [val_main_v69, val_main_v68, val_main_v67, val_main_v66, val_main_v63, val_main_v62, val_main_v61, val_main_v55,
    val_main_v54, val_main_v53, val_main_v52, val_main_v49, val_main_v48, val_main_v47, val_main_v45, val_main_v44,
    val_main_v43, val_main_v40, val_main_v39, val_main_v38, val_main_cst_1, val_main_cst_2, val_main_cst_3, val_main_cst_5,
    val_main_cst_6, val_main_cst_7, val_main_cst_11, val_main_cst_12, val_main_cst_13, v3_at, v12_at, v19_at, dw]
  obtain rfl | rfl | rfl : k = 0 ∨ k = 1 ∨ k = 2 := by omega
  all_goals simp [mul_comm, down_zero]
theorem v73_at (s : Fin 2048) (n : Fin 11264) :
    val_main_v73 (F := Ideal) x0 x1 x2 x3 x4 (ix2 s n)
      = dx (fun k => x1 (ix2 k n)) (fun s => val_main_v37 (F := Ideal) x0 x1 x2 x3 x4 (ix2 s n)) s := by
  pointwise [val_main_v73, val_main_v71, val_main_v70, val_main_v65, val_main_v64, val_main_v57, val_main_v56, val_main_v51,
    val_main_v50, val_main_v46, val_main_v42, val_main_v41, val_main_cst_4, val_main_cst_8, val_main_cst_14,
    val_main_v22, val_main_v21, val_main_v20, val_main_v15, val_main_v14, val_main_v13, val_main_v6, val_main_v5, val_main_v4, dx]
  have hs := s.isLt
  have e1 : (if h : 1 ≤ 2 + (s : ℕ) ∧ 2 + (s : ℕ) - 1 < 2048 then
      val_main_v37 (F := Ideal) x0 x1 x2 x3 x4 (ix2 ⟨2 + s - 1, by omega⟩ n) * x1 (ix2 1 n) else 0)
      = x1 (ix2 1 n) * up 1 (fun s => val_main_v37 (F := Ideal) x0 x1 x2 x3 x4 (ix2 s n)) s := by
    unfold up
    by_cases h : (s : ℕ) + 1 < 2048
    · rw [dif_pos (by omega), dif_pos h, mul_comm]
      congr 3; exact Fin.ext (by show 2 + (s : ℕ) - 1 = s + 1; omega)
    · rw [dif_neg (by omega), dif_neg h, mul_zero]
  have e2 : (if h : 2 + (s : ℕ) < 2048 then
      val_main_v37 (F := Ideal) x0 x1 x2 x3 x4 (ix2 ⟨2 + s, h⟩ n) * x1 (ix2 0 n) else 0)
      = x1 (ix2 0 n) * up 2 (fun s => val_main_v37 (F := Ideal) x0 x1 x2 x3 x4 (ix2 s n)) s := by
    unfold up
    by_cases h : (s : ℕ) + 2 < 2048
    · rw [dif_pos (by omega), dif_pos h, mul_comm]
      congr 3; exact Fin.ext (by show 2 + (s : ℕ) = s + 2; omega)
    · rw [dif_neg (by omega), dif_neg h, mul_zero]
  refine congrArg₂ (· + ·) (congrArg₂ (· + ·) (mul_comm _ _) e1) e2
theorem v76_at (h : Fin 2) (s : Fin 2048) (j : Fin 5632) :
    val_main_v76 (F := Ideal) x0 x1 x2 x3 x4 (ix3 h s j) = val_main_v73 (F := Ideal) x0 x1 x2 x3 x4 (ix2 s (col h j)) := by
  pointwise [val_main_v76, val_main_v75, val_main_v74]
  rfl
theorem v78_at (h : Fin 2) (s : Fin 3) (j : Fin 5632) :
    val_main_v78 (F := Ideal) x0 x1 x2 x3 x4 (ix3 h s j) = val_main_v69 (F := Ideal) x0 x1 x2 x3 x4 (ix2 s (col h j)) := by
  pointwise [val_main_v78, val_main_v77]
  rfl
theorem v80_at (h : Fin 2) (j : Fin 5632) :
    val_main_v80 (F := Ideal) x0 x1 x2 x3 x4 (ix3 h 0 j) = val_main_v60 (F := Ideal) x0 x1 x2 x3 x4 (ix1 (col h j)) := by
  pointwise [val_main_v80, val_main_v79]
  rfl

/-- A value that is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.zero : IsReal 0 := ⟨0, rfl⟩
theorem IsReal.sum {n : ℕ} {f : Fin n → EReal} (hf : ∀ k, IsReal (f k)) : IsReal (∑ k, f k) := by
  choose g hg using hf
  exact ⟨∑ k, g k, by simp only [hg]; exact (map_sum (⟨⟨(↑), EReal.coe_zero⟩, EReal.coe_add⟩ : ℝ →+ EReal) g Finset.univ).symm⟩
theorem IsReal.down {n : ℕ} {X : Fin 2048 → EReal} (hX : ∀ s, IsReal (X s)) (s) : IsReal (down n X s) := by
  unfold ConvBack.down; split_ifs
  · exact hX _
  · exact .zero
theorem IsReal.conv {X : Fin 2048 → EReal} {W : Fin 3 → EReal} {B : EReal} (hX : ∀ s, IsReal (X s)) (hW : ∀ k, IsReal (W k))
    (hB : IsReal B) (s) : IsReal (conv X W B s) :=
  ((hB.add ((hW 0).mul (.down hX s))).add ((hW 1).mul (.down hX s))).add ((hW 2).mul (hX s))

/-- The gate's gradient, written the reference's way and the kernel's. -/
theorem gate_grad {a g : EReal} (ha : IsReal a) (hg : IsReal g) :
    a * Ideal.logistic g + g * a * (Ideal.logistic g * (1 - Ideal.logistic g))
      = a * (Ideal.logistic g * (1 + g * (1 - Ideal.logistic g))) := by
  obtain ⟨a, rfl⟩ := ha; obtain ⟨g, rfl⟩ := hg
  rw [Ideal.logistic_coe]
  norm_cast
  congr 1
  ring

section
variable (hx0 : ∀ i, IsReal (x0 i)) (hx1 : ∀ i, IsReal (x1 i)) (hx2 : ∀ i, IsReal (x2 i))
  (hx3 : ∀ i, IsReal (x3 i)) (hx4 : ∀ i, IsReal (x4 i))
include hx0 hx1 hx2 hx3 hx4

theorem v37_col (s : Fin 2048) (h : Fin 2) (j : Fin 5632) :
    val_main_v37 (F := Ideal) x0 x1 x2 x3 x4 (ix2 s (col h j)) = gZ x0 x1 x2 x3 x4 j h s := by
  rw [v37_at, v36_at, v34_at]
  unfold gZ dz
  split_ifs
  · exact gate_grad ((IsReal.sum fun k => (hx4 _).mul (hx3 _)).mul (.conv (fun s => hx0 _) (fun k => hx1 _) (hx2 _) s))
      (.conv (fun s => hx0 _) (fun k => hx1 _) (hx2 _) s)
  · exact mul_comm _ _

theorem ref76 : val_main_v76 (F := Ideal) x0 x1 x2 x3 x4 = resX x0 x1 x2 x3 x4 := by
  funext i
  obtain ⟨h, s, j, rfl⟩ : ∃ (h : Fin 2) (s : Fin 2048) (j : Fin 5632), i = ix3 h s j :=
    ⟨i 0, i 1, i 2, by funext a; fin_cases a <;> rfl⟩
  rw [v76_at, v73_at]
  exact congrArg (dx _ · s) (funext fun s => v37_col x0 x1 x2 x3 x4 hx0 hx1 hx2 hx3 hx4 s h j)
theorem ref78 : val_main_v78 (F := Ideal) x0 x1 x2 x3 x4 = resW x0 x1 x2 x3 x4 := by
  funext i
  obtain ⟨h, k, j, rfl⟩ : ∃ (h : Fin 2) (k : Fin 3) (j : Fin 5632), i = ix3 h k j :=
    ⟨i 0, i 1, i 2, by funext a; fin_cases a <;> rfl⟩
  rw [v78_at, v69_at]
  exact congrArg (dw _ · k) (funext fun s => v37_col x0 x1 x2 x3 x4 hx0 hx1 hx2 hx3 hx4 s h j)
theorem ref80 : val_main_v80 (F := Ideal) x0 x1 x2 x3 x4 = resB x0 x1 x2 x3 x4 := by
  funext i
  obtain ⟨h, k, j, rfl⟩ : ∃ (h : Fin 2) (k : Fin 1) (j : Fin 5632), i = ix3 h k j :=
    ⟨i 0, i 1, i 2, by funext a; fin_cases a <;> rfl⟩
  obtain rfl : k = 0 := Subsingleton.elim _ _
  rw [v80_at, v60_at]
  exact Finset.sum_congr rfl fun s _ => v37_col x0 x1 x2 x3 x4 hx0 hx1 hx2 hx3 hx4 s h j

end

end

end Cert.ConvBack
-- ==== Proof.ConvFinite.lean ====
module

public import proofs.«01_k».proof.Proof.ConvReference
public import proofs.«01_k».proof.Defs
public import Idealize.ShloMosaic.Lib.ReduceAll
import Idealize.ShloMosaic.Lib.Pointwise

@[expose] public section

/-! What the precondition says: every element of every argument is a real number. -/

namespace Cert.ConvBack
open Idealize.ShloMosaic Idealize.ShloMosaic.Pointwise
open Idealize.ShloMosaic.TcCoe Idealize.SL.Sem

theorem real_of_below {x : EReal} (h : Ideal.cmp .olt (max x (-x)) ⊤ = 1#1) : IsReal x := by
  have h' : max x (-x) < ⊤ := by
    by_contra hn
    simp [Ideal.cmp, hn] at h
  induction x with
  | bot => simp at h'
  | top => simp at h'
  | coe r => exact ⟨r, rfl⟩

instance : Subsingleton Cert.Pre_finite.S_.Idx := ⟨fun a b => funext fun k => k.elim0⟩

theorem reals {s t u : Shape} {axes : List (Fin s.rank)} {φ : FTy} [Subsingleton t.Idx] (x b : FVec Ideal s φ)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) (i : s.Idx) : IsReal (x i) := by
  have := Host.reduce_andi_all _ _ _ _ j e i
  refine real_of_below (x := x i) ?_
  rw [← hb i]
  exact this

theorem inf32 : Ideal.ofBits .f32 0x7F800000#32 = ⊤ := by simp [Ideal.ofBits, Ideal.ieee]
theorem inf16 : Ideal.ofBits .bf16 0x7F80#16 = ⊤ := by simp [Ideal.ofBits, Ideal.ieee]

theorem all_real [Cert.Pre_finite.Facts] (x0 : FVec Ideal Cert.Pre_finite.S2048x11264 .f32) (x1 : FVec Ideal Cert.Pre_finite.S3x11264 .f32)
    (x2 : FVec Ideal Cert.Pre_finite.S11264 .f32) (x3 : FVec Ideal Cert.Pre_finite.S5632x2048 .bf16)
    (x4 : FVec Ideal Cert.Pre_finite.S2048x2048 .bf16) (h : Cert.Pre_finite.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have e := congrFun h (fun a => a.elim0)
  simp only [Cert.Pre_finite.fn, Cert.Pre_finite.fn_part1, andi, IntOp.andi_eq_one] at e
  obtain ⟨⟨⟨⟨e0, e1⟩, e2⟩, e3⟩, e4⟩ := e
  exact ⟨reals x0 _ (fun i => inf32) _ _ _ _ e0, reals x1 _ (fun i => inf32) _ _ _ _ e1, reals x2 _ (fun i => inf32) _ _ _ _ e2,
    reals x3 _ (fun i => inf16) _ _ _ _ e3, reals x4 _ (fun i => inf16) _ _ _ _ e4⟩

end Cert.ConvBack
-- ==== Proof.UpDw.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

/-! The gradient in the weight of the product before the convolution: both sides are one sum over the rows. -/

set_option maxRecDepth 16384

noncomputable section

namespace Cert.UpDw
open Idealize.ShloMosaic Idealize.ShloMosaic.Pointwise Idealize.ShloMosaic.Pipeline Cert.Kernel2Ideal Cert.Kernel2Ideal.Gen
open Idealize.ShloMosaic.TcCoe Idealize.SL.Sem

/-- Column `l` of block `b`, in the flat layout. -/
def col (b : Fin 8) (l : Fin 1408) : Fin 11264 := ⟨b * 1408 + l, by omega⟩

/-- The result: column `i 1` of the activations against column `i 2` of block `i 0` of the gradient. -/
def res (A : FVec Ideal S2048x2048 .bf16) (D : FVec Ideal S2048x11264 .bf16) : FVec Ideal S8x2048x1408 .bf16 :=
  fun i => ∑ k : Fin 2048, A (ix2 k (i 1)) * D (ix2 k (col (i 0) (i 2)))

theorem out_at (x : Vec Ideal S2048x1024 .bf16) (y : Vec Ideal S1x2048x2816 .bf16) (b : Fin 2) (r : Fin 1024) (l : Fin 1408) :
    out0_2 (F := Ideal) x y (ix3 b r l) = ∑ k : Fin 2048, x (ix2 k r) * y (ix3 0 k ⟨b * 1408 + l, by omega⟩) := by
  unfold out0_2
  canon_tiles q h
  case piece0 =>
    obtain rfl : b = 1 := Fin.ext (by change (b : ℕ) = 1 + _ at h0; show (b : ℕ) = 1; omega)
    obtain rfl : q = ix3 0 r l := by blk_ext [h1, h2]; exacts [h1.symm, h2.symm]
    pointwise [k0_pay3, k0_pay1]
  case piece1 =>
    obtain rfl : b = 0 := Fin.ext (by change (b : ℕ) = _ at h0; show (b : ℕ) = 0; omega)
    obtain rfl : q = ix3 0 r l := by blk_ext [h1, h2]; exacts [h1.symm, h2.symm]
    pointwise [k0_pay2, k0_pay1]

theorem idx : ∀ t : Fin cfg0.N, win0_0.index t = ![0, t.val % 2] ∧ win0_1.index t = ![t.val / 4, 0, t.val / 2 % 2]
    ∧ win0_2.index t = ![t.val / 2, t.val % 2, 0] ∧ t.val < 8 :=
  (by decide +kernel : ∀ t : Fin grid0.N, _)

variable (m : (ℓ : Loc nD τ sig) → Buf (Elt Ideal) ℓ) (c : Dev nD)

/-- The row of the result that row `r` of block `t` is. -/
def row (t : Fin cfg0.N) (r : Fin 1024) : Fin 2048 := ⟨t % 2 * 1024 + r, by omega⟩
/-- The block of the result that plane `b` of block `t` is. -/
def plane (t : Fin cfg0.N) (b : Fin 2) : Fin 8 := ⟨t / 2 * 2 + b, by have := (idx t).2.2.2; omega⟩

theorem blkA (t : Fin cfg0.N) (k : Fin 2048) (r : Fin 1024) :
    iblk m c 0 t (ix2 k r) = m ((c : Thread nD τ).loc main_arg0) (ix2 k (row t r)) := by
  blk_point [iblk, idx t, row]
theorem blkD (t : Fin cfg0.N) (k : Fin 2048) (b : Fin 2) (l : Fin 1408) :
    iblk m c 1 t (ix3 0 k ⟨b * 1408 + l, by omega⟩) = m ((c : Thread nD τ).loc main_arg1) (ix2 k (col (plane t b) l)) := by
  blk_point [iblk, idx t, col, plane]

theorem final : (dats m 0 c).arrAt 2 cfg0.N
    = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨b, r, l, rfl⟩ : ∃ (b : Fin 2) (r : Fin 1024) (l : Fin 1408), y = ix3 b r l :=
    ⟨y 0, y 1, y 2, by funext a; fin_cases a <;> rfl⟩
  refine (out_at _ _ b r l).trans ?_
  simp only [blkA, blkD]
  have e : (win0_2.blk t).view.emb (ix3 b r l) = ix3 (plane t b) (row t r) l := by blk_ext [idx t, plane, row]
  rw [e]
  rfl

theorem ref (x0 : FVec Ideal S2048x2048 .bf16) (x1 : FVec Ideal S2048x11264 .bf16) :
    Cert.Reference2Ideal.Read.val_main_v8 (F := Ideal) x0 x1 = res x0 x1 := by
  funext i
  obtain ⟨b, r, l, rfl⟩ : ∃ (b : Fin 8) (r : Fin 2048) (l : Fin 1408), i = ix3 b r l :=
    ⟨i 0, i 1, i 2, by funext a; fin_cases a <;> rfl⟩
  pointwise [Cert.Reference2Ideal.Read.val_main_v8, Cert.Reference2Ideal.Read.val_main_v7, Cert.Reference2Ideal.Read.val_main_v6,
    Cert.Reference2Ideal.Read.val_main_v5, Cert.Reference2Ideal.Read.val_main_v4, Cert.Reference2Ideal.Read.val_main_v1,
    Cert.Reference2Ideal.Read.val_main_v0, res, col]
  exact Finset.sum_congr rfl fun k _ => mul_comm _ _

end Cert.UpDw

end
-- ==== Proof.InDx.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

/-! The gradient in the activations of the first product: the kernel adds four products over a quarter of the columns
    each, the reference sums over all columns at once. -/

set_option maxRecDepth 16384

noncomputable section

namespace Cert.InDx
open Idealize.ShloMosaic Idealize.ShloMosaic.Pointwise Idealize.ShloMosaic.Pipeline Cert.Kernel6Ideal Cert.Kernel6Ideal.Gen
open Idealize.ShloMosaic.TcCoe Idealize.SL.Sem

/-- The result: row `i 0` of the gradient against row `i 1` of the weight. -/
def res (D W : FVec Ideal S2048x5120 .bf16) : FVec Ideal S2048x2048 .f32 :=
  fun i => ∑ k : Fin 5120, D (ix2 (i 0) k) * W (ix2 (i 1) k)

/-- A sum taken an eighth at a time. -/
theorem eighths (n N : ℕ) (e : N = n + n + (n + n) + (n + n) + (n + n)) (f : Fin N → EReal) :
    ∑ k, f k = (∑ k : Fin n, f ⟨k, by omega⟩ + ∑ k : Fin n, f ⟨n + k, by omega⟩)
      + (∑ k : Fin n, f ⟨n + n + k, by omega⟩ + ∑ k : Fin n, f ⟨n + n + (n + k), by omega⟩)
      + (∑ k : Fin n, f ⟨n + n + (n + n) + k, by omega⟩ + ∑ k : Fin n, f ⟨n + n + (n + n) + (n + k), by omega⟩)
      + (∑ k : Fin n, f ⟨n + n + (n + n) + (n + n) + k, by omega⟩
        + ∑ k : Fin n, f ⟨n + n + (n + n) + (n + n) + (n + k), by omega⟩) := by
  subst e
  simp only [Fin.sum_univ_add]
  rfl

theorem out_at (x : Vec Ideal S512x5120 .bf16) (y : Vec Ideal S8x1024x640 .bf16) (z : Vec Ideal S8x128 .f32) (r : Fin 512)
    (n : Fin 1024) : out0_3 (F := Ideal) x y z (ix2 r n)
      = ∑ k : Fin 5120, x (ix2 r k) * y (ix3 ⟨k / 640, by omega⟩ n ⟨k % 640, by omega⟩) := by
  unfold out0_3
  canon_tiles q h
  obtain rfl : q = ix2 r n := by blk_ext [h0, h1]
  pointwise [k0_pay1, k0_pay2, k0_pay3]
  rw [eighths 640 5120 rfl]
  have key : ∀ (b : Fin 8) (k : Fin 640) (p : ℕ) (hp : p = b * 640 + k),
      x (ix2 r ⟨p, by omega⟩) * y (ix3 b n k)
        = x (ix2 r ⟨p, by omega⟩) * y (ix3 ⟨p / 640, by omega⟩ n ⟨p % 640, by omega⟩) := fun b k p hp => by
    have e1 : (⟨p / 640, by omega⟩ : Fin 8) = b := Fin.ext (by show p / 640 = b; omega)
    have e2 : (⟨p % 640, by omega⟩ : Fin 640) = k := Fin.ext (by show p % 640 = k; omega)
    rw [e1, e2]
  refine congrArg₂ _ (congrArg₂ _ (congrArg₂ _ (congrArg₂ _ ?_ ?_) (congrArg₂ _ ?_ ?_)) (congrArg₂ _ ?_ ?_)) (congrArg₂ _ ?_ ?_)
  · exact Finset.sum_congr rfl fun k _ => key 0 k _ (by show (k : ℕ) = 0 * 640 + k; omega)
  · exact Finset.sum_congr rfl fun k _ => key 1 k _ (by show 640 + (k : ℕ) = 1 * 640 + k; omega)
  · exact Finset.sum_congr rfl fun k _ => key 2 k _ (by show 1280 + (k : ℕ) = 2 * 640 + k; omega)
  · exact Finset.sum_congr rfl fun k _ => key 3 k _ (by show 1280 + (640 + (k : ℕ)) = 3 * 640 + k; omega)
  · exact Finset.sum_congr rfl fun k _ => key 4 k _ (by show 2560 + (k : ℕ) = 4 * 640 + k; omega)
  · exact Finset.sum_congr rfl fun k _ => key 5 k _ (by show 2560 + (640 + (k : ℕ)) = 5 * 640 + k; omega)
  · exact Finset.sum_congr rfl fun k _ => key 6 k _ (by show 3840 + (k : ℕ) = 6 * 640 + k; omega)
  · exact Finset.sum_congr rfl fun k _ => key 7 k _ (by show 3840 + (640 + (k : ℕ)) = 7 * 640 + k; omega)

theorem idx : ∀ t : Fin cfg0.N, win0_0.index t = ![t.val % 4, 0] ∧ win0_1.index t = ![0, t.val / 4, 0]
    ∧ win0_3.index t = ![t.val % 4, t.val / 4] ∧ t.val < 8 := (by decide +kernel : ∀ t : Fin grid0.N, _)

variable (m : (ℓ : Loc nD τ sig) → Buf (Elt Ideal) ℓ) (c : Dev nD)

/-- The row and the column of the result that row `r` and column `n` of block `t` are. -/
def row (t : Fin cfg0.N) (r : Fin 512) : Fin 2048 := ⟨t % 4 * 512 + r, by omega⟩
def column (t : Fin cfg0.N) (n : Fin 1024) : Fin 2048 := ⟨t / 4 * 1024 + n, by have := (idx t).2.2.2; omega⟩

theorem blkD (t : Fin cfg0.N) (r : Fin 512) (k : Fin 5120) :
    iblk m c 0 t (ix2 r k) = m ((c : Thread nD τ).loc main_arg0) (ix2 (row t r) k) := by
  blk_point [iblk, idx t, row]
theorem blkW (t : Fin cfg0.N) (n : Fin 1024) (k : Fin 5120) :
    iblk m c 1 t (ix3 ⟨k / 640, by omega⟩ n ⟨k % 640, by omega⟩)
      = m ((c : Thread nD τ).loc main_arg1) (ix2 (column t n) k) := by
  blk_point [iblk, idx t, column]

theorem final : (dats m 0 c).arrAt 3 cfg0.N
    = res (m ((c : Thread nD τ).loc main_arg0)) (m ((c : Thread nD τ).loc main_arg1)) := by
  refine (dats m 0 c).arrAt_eq_of_covers 3 _ (by decide +kernel) fun t _ y => ?_
  blk_simp
  rw [after0_3]
  obtain ⟨r, n, rfl⟩ : ∃ (r : Fin 512) (n : Fin 1024), y = ix2 r n := ⟨y 0, y 1, by funext a; fin_cases a <;> rfl⟩
  refine (out_at _ _ _ r n).trans ?_
  simp only [blkD, blkW]
  have e : (win0_3.blk t).view.emb (ix2 r n) = ix2 (row t r) (column t n) := by blk_ext [idx t, row, column]
  rw [e]
  rfl

theorem ref (x0 x1 : FVec Ideal S2048x5120 .bf16) :
    Cert.Reference6Ideal.Read.val_main_v4 (F := Ideal) x0 x1 = res x0 x1 := by
  funext i
  obtain ⟨r, n, rfl⟩ : ∃ (r : Fin 2048) (n : Fin 2048), i = ix2 r n := ⟨i 0, i 1, by funext a; fin_cases a <;> rfl⟩
  pointwise [Cert.Reference6Ideal.Read.val_main_v4, Cert.Reference6Ideal.Read.val_main_v1,
    Cert.Reference6Ideal.Read.val_main_v0, res]

end Cert.InDx

end
-- ==== Proof.UpDx.lean ====
module

public import proofs.«01_k».proof.Proof.Gen.Kernel3Ideal.Value
public import proofs.«01_k».proof.Proof.Gen.Reference3Ideal.Read
public import proofs.«01_k».proof.Proof.InDx
public import Idealize.ShloMosaic.Lib.Pipeline.ValueKit
public import Idealize.ShloMosaic.Lib.Pointwise

@[expose] public section

/-! The gradient in the activations of the product before the convolution: the kernel adds four products over a quarter of the columns
    each, the reference sums over all columns at once. -/

set_option maxRecDepth 16384

noncomputable section

namespace Cert.UpDx
open Idealize.ShloMosaic Idealize.ShloMosaic.Pointwise Idealize.ShloMosaic.Pipeline Cert.Kernel3Ideal Cert.Kernel3Ideal.Gen
open Idealize.ShloMosaic.TcCoe Idealize.SL.Sem

/-- The result: row `i 0` of the gradient against row `i 1` of the weight. -/
def res (D W : FVec Ideal S2048x11264 .bf16) : FVec Ideal S2048x2048 .f32 :=
  fun i => ∑ k : Fin 11264, D (ix2 (i 0) k) * W (ix2 (i 1) k)

theorem out_at (x : Vec Ideal S2x512x5632 .bf16) (y : Vec Ideal S8x512x1408 .bf16) (z : Vec Ideal S8x128 .f32) (r : Fin 512)
    (n : Fin 512) : out0_3 (F := Ideal) x y z (ix2 r n)
      = ∑ k : Fin 11264, x (ix3 ⟨k / 5632, by omega⟩ r ⟨k % 5632, by omega⟩) * y (ix3 ⟨k / 1408, by omega⟩ n ⟨k % 1408, by omega⟩) := by
  unfold out0_3
  canon_tiles q h
  obtain rfl : q = ix2 r n := by blk_ext [h0, h1]
  pointwise [k0_pay1, k0_pay2]
  rw [Cert.InDx.eighths 1408 11264 rfl]
  have key : ∀ (b : Fin 8) (k : Fin 1408) (p : ℕ) (hp : p = b * 1408 + k),
      ∀ (g : Fin 2) (q : ℕ) (hq : p = g * 5632 + q) (hl : q < 5632), x (ix3 g r ⟨q, hl⟩) * y (ix3 b n k)
        = x (ix3 ⟨p / 5632, by omega⟩ r ⟨p % 5632, by omega⟩) * y (ix3 ⟨p / 1408, by omega⟩ n ⟨p % 1408, by omega⟩) := fun b k p hp g q hq hl => by
    have e1 : (⟨p / 1408, by omega⟩ : Fin 8) = b := Fin.ext (by show p / 1408 = b; omega)
    have e2 : (⟨p % 1408, by omega⟩ : Fin 1408) = k := Fin.ext (by show p % 1408 = k; omega)
    have e3 : (⟨p / 5632, by omega⟩ : Fin 2) = g := Fin.ext (by show p / 5632 = g; omega)
    have e4 : (⟨p % 5632, by omega⟩ : Fin 5632) = ⟨q, hl⟩ := Fin.ext (by show p % 5632 = q; omega)
    rw [e1, e2, e3, e4]
  refine congrArg₂ _ (congrArg₂ _ (congrArg₂ _ (congrArg₂ _ ?_ ?_) (congrArg₂ _ ?_ ?_)) (congrArg₂ _ ?_ ?_)) (congrArg₂ _ ?_ ?_)
  · exact Finset.sum_congr rfl fun k _ => key 0 k ((k : ℕ)) (by show _ = 0 * 1408 + (k : ℕ); omega) 0 ((k : ℕ)) (by show _ = 0 * 5632 + _; omega) (by omega)
  · exact Finset.sum_congr rfl fun k _ => key 1 k (1408 + (k : ℕ)) (by show _ = 1 * 1408 + (k : ℕ); omega) 0 (1408 + (k : ℕ)) (by show _ = 0 * 5632 + _; omega) (by omega)
  · exact Finset.sum_congr rfl fun k _ => key 2 k (2816 + (k : ℕ)) (by show _ = 2 * 1408 + (k : ℕ); omega) 0 (2816 + (k : ℕ)) (by show _ = 0 * 5632 + _; omega) (by omega)
  · exact Finset.sum_congr rfl fun k _ => key 3 k (2816 + (1408 + (k : ℕ))) (by show _ = 3 * 1408 + (k : ℕ); omega) 0 (2816 + (1408 + (k : ℕ))) (by show _ = 0 * 5632 + _; omega) (by omega)
  · exact Finset.sum_congr rfl fun k _ => key 4 k (5632 + (k : ℕ)) (by show _ = 4 * 1408 + (k : ℕ); omega) 1 ((k : ℕ)) (by show _ = 1 * 5632 + _; omega) (by omega)
  · exact Finset.sum_congr rfl fun k _ => key 5 k (5632 + (1408 + (k : ℕ))) (by show _ = 5 * 1408 + (k : ℕ); omega) 1 (1408 + (k : ℕ)) (by show _ = 1 * 5632 + _; omega) (by omega)
  · exact Finset.sum_congr rfl fun k _ => key 6 k (8448 + (k : ℕ)) (by show _ = 6 * 1408 + (k : ℕ); omega) 1 (2816 + (k : ℕ)) (by show _ = 1 * 5632 + _; omega) (by omega)
  · exact Finset.sum_congr rfl fun k _ => key 7 k (8448 + (1408 + (k : ℕ))) (by show _ = 7 * 1408 + (k : ℕ); omega) 1 (2816 + (1408 + (k : ℕ))) (by show _ = 1 * 5632 + _; omega) (by omega)

theorem idx : ∀ t : Fin cfg0.N, win0_0.index t = ![0, t.val % 4, 0] ∧ win0_1.index t = ![0, t.val / 4, 0]
    ∧ win0_3.index t = ![t.val % 4, t.val / 4] ∧ t.val < 16 := (by decide +kernel : ∀ t : Fin grid0.N, _)

variable (m : (ℓ : Loc nD τ sig) → Buf (Elt Ideal) ℓ) (c : Dev nD)

/-- The row and the column of the result that row `r` and column `n` of block `t` are. -/
def row (t : Fin cfg0.N) (r : Fin 512) : Fin 2048 := ⟨t % 4 * 512 + r, by omega⟩
def column (t : Fin cfg0.N) (n : Fin 512) : Fin 2048 := ⟨t / 4 * 512 + n, by have := (idx t).2.2.2; omega⟩

theorem blkD (t : Fin cfg0.N) (r : Fin 512) (k : Fin 11264) :
    iblk m c 0 t (ix3 ⟨k / 5632, by omega⟩ r ⟨k % 5632, by omega⟩) = m ((c : Thread nD τ).loc main_arg0) (ix2 (row t r) k) := by
  blk_point [iblk, idx t, row]
theorem blkW (t : Fin cfg0.N) (n : Fin 512) (k : Fin 11264) :
    iblk m c 1 t (ix3 ⟨k / 1408, by omega⟩ n ⟨k % 1408, by omega⟩)
      = m ((c : Thread nD τ).loc main_arg1) (ix2 (column t n) k) := by
  blk_point [iblk, idx t, column]

theorem final : (dats m 0 c).arrAt 3 cfg0.N
    = res (m ((c : Thread nD τ).loc main_arg0)) (m ((c : Thread nD τ).loc main_arg1)) := by
  refine (dats m 0 c).arrAt_eq_of_covers 3 _ (by decide +kernel) fun t _ y => ?_
  blk_simp
  rw [after0_3]
  obtain ⟨r, n, rfl⟩ : ∃ (r : Fin 512) (n : Fin 512), y = ix2 r n := ⟨y 0, y 1, by funext a; fin_cases a <;> rfl⟩
  refine (out_at _ _ _ r n).trans ?_
  simp only [blkD, blkW]
  have e : (win0_3.blk t).view.emb (ix2 r n) = ix2 (row t r) (column t n) := by blk_ext [idx t, row, column]
  rw [e]
  rfl

theorem ref (x0 x1 : FVec Ideal S2048x11264 .bf16) :
    Cert.Reference3Ideal.Read.val_main_v4 (F := Ideal) x0 x1 = res x0 x1 := by
  funext i
  obtain ⟨r, n, rfl⟩ : ∃ (r : Fin 2048) (n : Fin 2048), i = ix2 r n := ⟨i 0, i 1, by funext a; fin_cases a <;> rfl⟩
  pointwise [Cert.Reference3Ideal.Read.val_main_v4, Cert.Reference3Ideal.Read.val_main_v1,
    Cert.Reference3Ideal.Read.val_main_v0, res]

end Cert.UpDx

end
-- ==== Proof.DownDw.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

/-! The gradient in the weight of the last product of the gated layer: both sides are one sum over the rows. -/

set_option maxRecDepth 16384

noncomputable section

namespace Cert.DownDw
open Idealize.ShloMosaic Idealize.ShloMosaic.Pointwise Idealize.ShloMosaic.Pipeline Cert.Kernel4Ideal Cert.Kernel4Ideal.Gen
open Idealize.ShloMosaic.TcCoe Idealize.SL.Sem

/-- The result: column `i 0` of the activations against column `i 1` of the gradient. -/
def res (A : FVec Ideal S2048x5632 .bf16) (D : FVec Ideal S2048x2048 .bf16) : FVec Ideal S5632x2048 .bf16 :=
  fun i => ∑ k : Fin 2048, A (ix2 k (i 0)) * D (ix2 k (i 1))

theorem out_at (x : Vec Ideal S2048x512 .bf16) (y : Vec Ideal S2048x2048 .bf16) (r : Fin 512) (n : Fin 2048) :
    out0_2 (F := Ideal) x y (ix2 r n) = ∑ k : Fin 2048, x (ix2 k r) * y (ix2 k n) := by
  unfold out0_2
  canon_tiles q h
  obtain rfl : q = ix2 r n := by blk_ext [h0, h1]
  pointwise [k0_pay1]

theorem idx : ∀ t : Fin cfg0.N, win0_0.index t = ![0, t.val] ∧ win0_1.index t = ![0, 0] ∧ win0_2.index t = ![t.val, 0]
    ∧ t.val < 11 := (by decide +kernel : ∀ t : Fin grid0.N, _)

variable (m : (ℓ : Loc nD τ sig) → Buf (Elt Ideal) ℓ) (c : Dev nD)

/-- The row of the result that row `r` of block `t` is. -/
def row (t : Fin cfg0.N) (r : Fin 512) : Fin 5632 := ⟨t * 512 + r, by have := (idx t).2.2.2; omega⟩

theorem blkA (t : Fin cfg0.N) (k : Fin 2048) (r : Fin 512) :
    iblk m c 0 t (ix2 k r) = m ((c : Thread nD τ).loc main_arg0) (ix2 k (row t r)) := by
  blk_point [iblk, idx t, row]
theorem blkD (t : Fin cfg0.N) (k : Fin 2048) (n : Fin 2048) :
    iblk m c 1 t (ix2 k n) = m ((c : Thread nD τ).loc main_arg1) (ix2 k n) := by
  blk_point [iblk, idx t]

theorem final : (dats m 0 c).arrAt 2 cfg0.N
    = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, n, rfl⟩ : ∃ (r : Fin 512) (n : Fin 2048), y = ix2 r n := ⟨y 0, y 1, by funext a; fin_cases a <;> rfl⟩
  refine (out_at _ _ r n).trans ?_
  simp only [blkA, blkD]
  have e : (win0_2.blk t).view.emb (ix2 r n) = ix2 (row t r) n := by blk_ext [idx t, row]
  rw [e]
  rfl

theorem ref (x0 : FVec Ideal S2048x5632 .bf16) (x1 : FVec Ideal S2048x2048 .bf16) :
    Cert.Reference4Ideal.Read.val_main_v6 (F := Ideal) x0 x1 = res x0 x1 := by
  funext i
  obtain ⟨r, n, rfl⟩ : ∃ (r : Fin 5632) (n : Fin 2048), i = ix2 r n := ⟨i 0, i 1, by funext a; fin_cases a <;> rfl⟩
  pointwise [Cert.Reference4Ideal.Read.val_main_v6, Cert.Reference4Ideal.Read.val_main_v5, Cert.Reference4Ideal.Read.val_main_v4,
    Cert.Reference4Ideal.Read.val_main_v1, Cert.Reference4Ideal.Read.val_main_v0, res]
  exact Finset.sum_congr rfl fun k _ => mul_comm _ _

end Cert.DownDw

end
-- ==== Proof.InDw.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

/-! The gradient in the weight of the first product: both sides are one sum over the rows. -/

set_option maxRecDepth 16384

noncomputable section

namespace Cert.InDw
open Idealize.ShloMosaic Idealize.ShloMosaic.Pointwise Idealize.ShloMosaic.Pipeline Cert.Kernel5Ideal Cert.Kernel5Ideal.Gen
open Idealize.ShloMosaic.TcCoe Idealize.SL.Sem

/-- Column `l` of block `b`, in the flat layout. -/
def col (b : Fin 8) (l : Fin 640) : Fin 5120 := ⟨b * 640 + l, by omega⟩

/-- The result: column `i 1` of the activations against column `i 2` of block `i 0` of the gradient. -/
def res (A : FVec Ideal S2048x2048 .bf16) (D : FVec Ideal S2048x5120 .bf16) : FVec Ideal S8x2048x640 .bf16 :=
  fun i => ∑ k : Fin 2048, A (ix2 k (i 1)) * D (ix2 k (col (i 0) (i 2)))

theorem out_at (x : Vec Ideal S2048x2048 .bf16) (y : Vec Ideal S2048x1280 .bf16) (b : Fin 2) (r : Fin 2048) (l : Fin 640) :
    out0_2 (F := Ideal) x y (ix3 b r l) = ∑ k : Fin 2048, x (ix2 k r) * y (ix2 k ⟨b * 640 + l, by omega⟩) := by
  unfold out0_2
  canon_tiles q h
  case piece0 =>
    obtain rfl : b = 1 := Fin.ext (by change (b : ℕ) = 1 + _ at h0; show (b : ℕ) = 1; omega)
    obtain rfl : q = ix3 0 r l := by blk_ext [h1, h2]; exacts [h1.symm, h2.symm]
    pointwise [k0_pay3, k0_pay1]
  case piece1 =>
    obtain rfl : b = 0 := Fin.ext (by change (b : ℕ) = _ at h0; show (b : ℕ) = 0; omega)
    obtain rfl : q = ix3 0 r l := by blk_ext [h1, h2]; exacts [h1.symm, h2.symm]
    pointwise [k0_pay2, k0_pay1]

theorem idx : ∀ t : Fin cfg0.N, win0_0.index t = ![0, 0] ∧ win0_1.index t = ![0, t.val] ∧ win0_2.index t = ![t.val, 0, 0]
    ∧ t.val < 4 :=
  (by decide +kernel : ∀ t : Fin grid0.N, _)

variable (m : (ℓ : Loc nD τ sig) → Buf (Elt Ideal) ℓ) (c : Dev nD)

/-- The block of the result that plane `b` of block `t` is. -/
def plane (t : Fin cfg0.N) (b : Fin 2) : Fin 8 := ⟨t * 2 + b, by have := (idx t).2.2.2; omega⟩

theorem blkA (t : Fin cfg0.N) (k : Fin 2048) (r : Fin 2048) :
    iblk m c 0 t (ix2 k r) = m ((c : Thread nD τ).loc main_arg0) (ix2 k r) := by
  blk_point [iblk, idx t]
theorem blkD (t : Fin cfg0.N) (k : Fin 2048) (b : Fin 2) (l : Fin 640) :
    iblk m c 1 t (ix2 k ⟨b * 640 + l, by omega⟩) = m ((c : Thread nD τ).loc main_arg1) (ix2 k (col (plane t b) l)) := by
  blk_point [iblk, idx t, col, plane]

theorem final : (dats m 0 c).arrAt 2 cfg0.N
    = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨b, r, l, rfl⟩ : ∃ (b : Fin 2) (r : Fin 2048) (l : Fin 640), y = ix3 b r l :=
    ⟨y 0, y 1, y 2, by funext a; fin_cases a <;> rfl⟩
  refine (out_at _ _ b r l).trans ?_
  simp only [blkA, blkD]
  have e : (win0_2.blk t).view.emb (ix3 b r l) = ix3 (plane t b) r l := by blk_ext [idx t, plane]
  rw [e]
  rfl

theorem ref (x0 : FVec Ideal S2048x2048 .bf16) (x1 : FVec Ideal S2048x5120 .bf16) :
    Cert.Reference5Ideal.Read.val_main_v8 (F := Ideal) x0 x1 = res x0 x1 := by
  funext i
  obtain ⟨b, r, l, rfl⟩ : ∃ (b : Fin 8) (r : Fin 2048) (l : Fin 640), i = ix3 b r l :=
    ⟨i 0, i 1, i 2, by funext a; fin_cases a <;> rfl⟩
  pointwise [Cert.Reference5Ideal.Read.val_main_v8, Cert.Reference5Ideal.Read.val_main_v7, Cert.Reference5Ideal.Read.val_main_v6,
    Cert.Reference5Ideal.Read.val_main_v5, Cert.Reference5Ideal.Read.val_main_v4, Cert.Reference5Ideal.Read.val_main_v1,
    Cert.Reference5Ideal.Read.val_main_v0, res, col]
  exact Finset.sum_congr rfl fun k _ => mul_comm _ _

end Cert.InDw

end
-- ==== Proof.OutDw.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

/-! The gradient in the weight of the product after the mixing: both sides are one sum over the rows. -/

set_option maxRecDepth 16384

noncomputable section

namespace Cert.OutDw
open Idealize.ShloMosaic Idealize.ShloMosaic.Pointwise Idealize.ShloMosaic.Pipeline Cert.Kernel7Ideal Cert.Kernel7Ideal.Gen
open Idealize.ShloMosaic.TcCoe Idealize.SL.Sem

/-- The result: column `i 0` of the activations against column `i 1` of the gradient. -/
def res (A D : FVec Ideal S2048x2048 .bf16) : FVec Ideal S2048x2048 .bf16 :=
  fun i => ∑ k : Fin 2048, A (ix2 k (i 0)) * D (ix2 k (i 1))

theorem out_at (x : Vec Ideal S2048x512 .bf16) (y : Vec Ideal S2048x2048 .bf16) (r : Fin 512) (n : Fin 2048) :
    out0_2 (F := Ideal) x y (ix2 r n) = ∑ k : Fin 2048, x (ix2 k r) * y (ix2 k n) := by
  unfold out0_2
  canon_tiles q h
  obtain rfl : q = ix2 r n := by blk_ext [h0, h1]
  pointwise [k0_pay1]

theorem idx : ∀ t : Fin cfg0.N, win0_0.index t = ![0, t.val] ∧ win0_1.index t = ![0, 0] ∧ win0_2.index t = ![t.val, 0]
    ∧ t.val < 4 := (by decide +kernel : ∀ t : Fin grid0.N, _)

variable (m : (ℓ : Loc nD τ sig) → Buf (Elt Ideal) ℓ) (c : Dev nD)

/-- The row of the result that row `r` of block `t` is. -/
def row (t : Fin cfg0.N) (r : Fin 512) : Fin 2048 := ⟨t * 512 + r, by have := (idx t).2.2.2; omega⟩

theorem blkA (t : Fin cfg0.N) (k : Fin 2048) (r : Fin 512) :
    iblk m c 0 t (ix2 k r) = m ((c : Thread nD τ).loc main_arg0) (ix2 k (row t r)) := by
  blk_point [iblk, idx t, row]
theorem blkD (t : Fin cfg0.N) (k : Fin 2048) (n : Fin 2048) :
    iblk m c 1 t (ix2 k n) = m ((c : Thread nD τ).loc main_arg1) (ix2 k n) := by
  blk_point [iblk, idx t]

theorem final : (dats m 0 c).arrAt 2 cfg0.N
    = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, n, rfl⟩ : ∃ (r : Fin 512) (n : Fin 2048), y = ix2 r n := ⟨y 0, y 1, by funext a; fin_cases a <;> rfl⟩
  refine (out_at _ _ r n).trans ?_
  simp only [blkA, blkD]
  have e : (win0_2.blk t).view.emb (ix2 r n) = ix2 (row t r) n := by blk_ext [idx t, row]
  rw [e]
  rfl

theorem ref (x0 x1 : FVec Ideal S2048x2048 .bf16) :
    Cert.Reference7Ideal.Read.val_main_v6 (F := Ideal) x0 x1 = res x0 x1 := by
  funext i
  obtain ⟨r, n, rfl⟩ : ∃ (r : Fin 2048) (n : Fin 2048), i = ix2 r n := ⟨i 0, i 1, by funext a; fin_cases a <;> rfl⟩
  pointwise [Cert.Reference7Ideal.Read.val_main_v6, Cert.Reference7Ideal.Read.val_main_v5, Cert.Reference7Ideal.Read.val_main_v4,
    Cert.Reference7Ideal.Read.val_main_v1, Cert.Reference7Ideal.Read.val_main_v0, res]
  exact Finset.sum_congr rfl fun k _ => mul_comm _ _

end Cert.OutDw

end
-- ==== Proof.OutDx.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

/-! The gradient in the activations of the product after the mixing: both sides are one sum over the columns. -/

set_option maxRecDepth 16384

noncomputable section

namespace Cert.OutDx
open Idealize.ShloMosaic Idealize.ShloMosaic.Pointwise Idealize.ShloMosaic.Pipeline Cert.Kernel8Ideal Cert.Kernel8Ideal.Gen
open Idealize.ShloMosaic.TcCoe Idealize.SL.Sem

/-- The result: row `i 0` of the gradient against row `i 1` of the weight. -/
def res (D W : FVec Ideal S2048x2048 .bf16) : FVec Ideal S2048x2048 .f32 :=
  fun i => ∑ k : Fin 2048, D (ix2 (i 0) k) * W (ix2 (i 1) k)

theorem out_at (x : Vec Ideal S2048x2048 .bf16) (y : Vec Ideal S512x2048 .bf16) (z : Vec Ideal S8x128 .f32) (r : Fin 2048)
    (n : Fin 512) : out0_3 (F := Ideal) x y z (ix2 r n) = ∑ k : Fin 2048, x (ix2 r k) * y (ix2 n k) := by
  unfold out0_3
  canon_tiles q h
  obtain rfl : q = ix2 r n := by blk_ext [h0, h1]
  pointwise [k0_pay1]

theorem idx : ∀ t : Fin cfg0.N, win0_0.index t = ![0, 0] ∧ win0_1.index t = ![t.val, 0] ∧ win0_3.index t = ![0, t.val]
    ∧ t.val < 4 := (by decide +kernel : ∀ t : Fin grid0.N, _)

variable (m : (ℓ : Loc nD τ sig) → Buf (Elt Ideal) ℓ) (c : Dev nD)

/-- The column of the result that column `n` of block `t` is. -/
def column (t : Fin cfg0.N) (n : Fin 512) : Fin 2048 := ⟨t * 512 + n, by have := (idx t).2.2.2; omega⟩

theorem blkD (t : Fin cfg0.N) (r : Fin 2048) (k : Fin 2048) :
    iblk m c 0 t (ix2 r k) = m ((c : Thread nD τ).loc main_arg0) (ix2 r k) := by
  blk_point [iblk, idx t]
theorem blkW (t : Fin cfg0.N) (n : Fin 512) (k : Fin 2048) :
    iblk m c 1 t (ix2 n k) = m ((c : Thread nD τ).loc main_arg1) (ix2 (column t n) k) := by
  blk_point [iblk, idx t, column]

theorem final : (dats m 0 c).arrAt 3 cfg0.N
    = res (m ((c : Thread nD τ).loc main_arg0)) (m ((c : Thread nD τ).loc main_arg1)) := by
  refine (dats m 0 c).arrAt_eq_of_covers 3 _ (by decide +kernel) fun t _ y => ?_
  blk_simp
  rw [after0_3]
  obtain ⟨r, n, rfl⟩ : ∃ (r : Fin 2048) (n : Fin 512), y = ix2 r n := ⟨y 0, y 1, by funext a; fin_cases a <;> rfl⟩
  refine (out_at _ _ _ r n).trans ?_
  simp only [blkD, blkW]
  have e : (win0_3.blk t).view.emb (ix2 r n) = ix2 r (column t n) := by blk_ext [idx t, column]
  rw [e]
  rfl

theorem ref (x0 x1 : FVec Ideal S2048x2048 .bf16) :
    Cert.Reference8Ideal.Read.val_main_v4 (F := Ideal) x0 x1 = res x0 x1 := by
  funext i
  obtain ⟨r, n, rfl⟩ : ∃ (r : Fin 2048) (n : Fin 2048), i = ix2 r n := ⟨i 0, i 1, by funext a; fin_cases a <;> rfl⟩
  pointwise [Cert.Reference8Ideal.Read.val_main_v4, Cert.Reference8Ideal.Read.val_main_v1,
    Cert.Reference8Ideal.Read.val_main_v0, res]

end Cert.OutDx

end
-- ==== Proof.NormFwd.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise

@[expose] public section

/-! The normalisation before the first product. -/

set_option maxRecDepth 16384

noncomputable section

namespace Cert.NormFwd
open Idealize.ShloMosaic Idealize.ShloMosaic.Pointwise Idealize.ShloMosaic.Pipeline Cert.Kernel14Ideal Cert.Kernel14Ideal.Gen
open Idealize.ShloMosaic.TcCoe Idealize.SL.Sem

/-- The reciprocal of the root of a row's mean square. -/
def scale (f : Fin 2048 → EReal) : EReal :=
  Ideal.rsqrt (Ideal.div (∑ k, f k * f k) (Ideal.ofBits .f32 0x45000000#32) + Ideal.ofBits .f32 0x358637BD#32)

/-- The result: each element by its row's scale and its column's gain. -/
def res (X : FVec Ideal S2048x2048 .f32) (G : FVec Ideal S2048 .f32) : FVec Ideal S2048x2048 .bf16 :=
  fun i => X i * scale (fun k => X (ix2 (i 0) k)) * G (ix1 (i 1))

theorem out_at (x : Vec Ideal S256x2048 .f32) (g : Vec Ideal S1x2048 .f32) (r : Fin 256) (n : Fin 2048) :
    out0_2 (F := Ideal) x g (ix2 r n) = x (ix2 r n) * scale (fun k => x (ix2 r k)) * g (ix2 0 n) := by
  unfold out0_2
  canon_tiles q h
  obtain rfl : q = ix2 r n := by blk_ext [h0, h1]
  pointwise [k0_pay1]
  rfl

theorem idx : ∀ t : Fin cfg0.N, win0_0.index t = ![t.val, 0] ∧ win0_1.index t = ![0, 0]
    ∧ win0_2.index t = ![t.val, 0] ∧ t.val < 8 := (by decide +kernel : ∀ t : Fin grid0.N, _)

variable (m : (ℓ : Loc nD τ sig) → Buf (Elt Ideal) ℓ) (c : Dev nD)

/-- The row of the result that row `r` of block `t` is. -/
def row (t : Fin cfg0.N) (r : Fin 256) : Fin 2048 := ⟨t * 256 + r, by have := (idx t).2.2.2; omega⟩

theorem blkX (t : Fin cfg0.N) (r : Fin 256) (k : Fin 2048) :
    iblk m c 0 t (ix2 r k) = m ((c : Thread nD τ).loc main_arg0) (ix2 (row t r) k) := by
  blk_point [iblk, idx t, row]
theorem blkG (t : Fin cfg0.N) (n : Fin 2048) :
    iblk m c 1 t (ix2 0 n) = m ((c : Thread nD τ).loc main_arg1) (ix1 n) := by
  blk_point [iblk, idx t]

theorem final : (dats m 0 c).arrAt 2 cfg0.N = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, n, rfl⟩ : ∃ (r : Fin 256) (n : Fin 2048), y = ix2 r n := ⟨y 0, y 1, by funext a; fin_cases a <;> rfl⟩
  refine (out_at _ _ r n).trans ?_
  simp only [blkX, blkG]
  have e : (win0_2.blk t).view.emb (ix2 r n) = ix2 (row t r) n := by blk_ext [idx t, row]
  rw [e]
  rfl

theorem ref (x0 : FVec Ideal S2048x2048 .f32) (x1 : FVec Ideal S2048 .f32) :
    Cert.Reference14Ideal.Read.val_main_v13 (F := Ideal) x0 x1 = res x0 x1 := by
  funext i
  obtain ⟨r, n, rfl⟩ : ∃ (r : Fin 2048) (n : Fin 2048), i = ix2 r n := ⟨i 0, i 1, by funext a; fin_cases a <;> rfl⟩
  pointwise [Cert.Reference14Ideal.Read.val_main_v13, Cert.Reference14Ideal.Read.val_main_v12, Cert.Reference14Ideal.Read.val_main_v11, Cert.Reference14Ideal.Read.val_main_v10, Cert.Reference14Ideal.Read.val_main_v9, Cert.Reference14Ideal.Read.val_main_v8, Cert.Reference14Ideal.Read.val_main_v7, Cert.Reference14Ideal.Read.val_main_v6, Cert.Reference14Ideal.Read.val_main_v5, Cert.Reference14Ideal.Read.val_main_v4, Cert.Reference14Ideal.Read.val_main_v3, Cert.Reference14Ideal.Read.val_main_v2, Cert.Reference14Ideal.Read.val_main_v1, Cert.Reference14Ideal.Read.val_main_v0, Cert.Reference14Ideal.Read.val_main_cst, Cert.Reference14Ideal.Read.val_main_cst_0, Cert.Reference14Ideal.Read.val_main_cst_1, res]
  rfl

end Cert.NormFwd

end
-- ==== Proof.NormBwd.lean ====
module

public import proofs.«01_k».proof.Proof.Gen.Kernel9Ideal.Value
public import proofs.«01_k».proof.Proof.Gen.Reference9Ideal.Read
public import proofs.«01_k».proof.Proof.NormFwd
public import Idealize.ShloMosaic.Lib.Pipeline.ValueKit
public import Idealize.ShloMosaic.Lib.Pointwise
import Mathlib.Data.EReal.Inv

@[expose] public section

/-! The gradient of the normalisation with the residual's gradient added, and of the gain, which the kernel adds up
    256 rows at a time. The two ways of writing the first agree at every extended real: where a row has an infinite element
    its scale is zero and both are the residual's gradient, elsewhere the scale is a positive real number. -/

set_option maxRecDepth 16384

noncomputable section

namespace Cert.NormBwd
open Idealize.ShloMosaic Idealize.ShloMosaic.Pointwise Idealize.ShloMosaic.Pipeline Cert.Kernel9Ideal Cert.Kernel9Ideal.Gen
open Idealize.ShloMosaic.TcCoe Idealize.SL.Sem
open Cert.NormFwd (scale)

/-! ## The two formulas -/

theorem width : Ideal.ofBits .f32 0x45000000#32 = ((2048 : ℝ) : EReal) := by
  simp [Ideal.ofBits, Ideal.ieee, -EReal.coe_mul]; norm_num
theorem half : Ideal.ofBits .f32 0xBF000000#32 = ((-(1 / 2) : ℝ) : EReal) := by
  simp [Ideal.ofBits, Ideal.ieee, -EReal.coe_mul, -EReal.coe_neg]; norm_num
theorem eps : ∃ e : ℝ, 0 < e ∧ Ideal.ofBits .f32 0x358637BD#32 = (e : EReal) := by
  refine ⟨_, ?_, by simp [Ideal.ofBits, Ideal.ieee, -EReal.coe_mul]; rfl⟩
  positivity

/-- The mean square of a row, with the small constant added. -/
def square (f : Fin 2048 → EReal) : EReal :=
  Ideal.div (∑ k, f k * f k) (Ideal.ofBits .f32 0x45000000#32) + Ideal.ofBits .f32 0x358637BD#32

/-- The gradient in an element as the kernel writes it: `d` the residual's, `x` the row, `a` the gradient reaching it. -/
def grad (d : EReal) (x a : Fin 2048 → EReal) (n : Fin 2048) : EReal :=
  d + scale x * (a n - x n * scale x * Ideal.div (∑ k, a k * (x k * scale x)) (Ideal.ofBits .f32 0x45000000#32))

/-- The same as the reference writes it. -/
def slope (x a : Fin 2048 → EReal) : EReal :=
  Ideal.div ((∑ k, x k * a k) * (Ideal.ofBits .f32 0xBF000000#32 * Ideal.div (scale x) (square x))) (Ideal.ofBits .f32 0x45000000#32)
def gradRef (d : EReal) (x a : Fin 2048 → EReal) (n : Fin 2048) : EReal :=
  d + a n * scale x + x n * slope x a + slope x a * x n

theorem sum_scaled {n : ℕ} (r : ℝ) (hr : 0 ≤ r) (f : Fin n → EReal) : ∑ k, f k * (r : EReal) = (∑ k, f k) * r := by
  classical
  induction (Finset.univ : Finset (Fin n)) using Finset.induction_on with
  | empty => simp
  | insert a s ha ih =>
    rw [Finset.sum_insert ha, Finset.sum_insert ha, ih, mul_comm _ (r : EReal), mul_comm _ (r : EReal), mul_comm _ (r : EReal),
      EReal.left_distrib_of_nonneg_of_ne_top (EReal.coe_nonneg.mpr hr) (EReal.coe_ne_top r)]

theorem twice (y : EReal) (c : ℝ) (hc : c ≤ 0) : y * (c : EReal) + y * c = y * ((2 * c : ℝ) : EReal) := by
  rcases eq_or_lt_of_le hc with rfl | hc
  · simp
  induction y with
  | bot => rw [EReal.bot_mul_coe_of_neg hc, EReal.bot_mul_coe_of_neg (by linarith)]; rfl
  | top => rw [EReal.top_mul_coe_of_neg hc, EReal.top_mul_coe_of_neg (by linarith)]; rfl
  | coe y => norm_cast; ring

theorem positive (d : EReal) (x a : Fin 2048 → EReal) (n : Fin 2048) (r v : ℝ) (hr : 0 < r) (hv : 0 < v) (hrv : r * r = 1 / v)
    (hs : scale x = r) (hq : square x = v) : grad d x a n = gradRef d x a n := by
  unfold grad gradRef slope
  rw [hs, hq, width, half, Ideal.div_coe hv.ne', Ideal.div_coe (by norm_num), Ideal.div_coe (by norm_num)]
  have e1 : ∑ k, a k * (x k * (r : EReal)) = (∑ k, x k * a k) * r := by
    rw [← sum_scaled r hr.le]
    exact Finset.sum_congr rfl fun k _ => by rw [← mul_assoc, mul_comm (a k)]
  rw [e1]
  generalize (∑ k, x k * a k) = T
  have c1 : ((-(1 / 2) : ℝ) : EReal) * ((r : EReal) * ((1 / v : ℝ) : EReal)) = ((-(1 / 2) * (r * (1 / v)) : ℝ) : EReal) := by
    push_cast; rfl
  have c2 : x n * (T * ((-(1 / 2) * (r * (1 / v)) : ℝ) : EReal) * ((1 / 2048 : ℝ) : EReal))
      = (x n * T) * ((-(1 / 2) * (r * (1 / v)) * (1 / 2048) : ℝ) : EReal) := by
    rw [EReal.coe_mul _ (1 / 2048 : ℝ), mul_assoc, mul_assoc]
  have c3 : x n * (r : EReal) * (T * r * ((1 / 2048 : ℝ) : EReal)) = (x n * T) * ((r * r * (1 / 2048) : ℝ) : EReal) := by
    rw [EReal.coe_mul, EReal.coe_mul]; ac_rfl
  rw [c1, mul_comm (T * _ * _) (x n), c2, add_assoc, twice _ _ (by
    have : 0 < r * (1 / v) := by positivity
    nlinarith), c3, sub_eq_add_neg, EReal.left_distrib_of_nonneg_of_ne_top (EReal.coe_nonneg.mpr hr.le) (EReal.coe_ne_top r),
    ← add_assoc, mul_comm (r : EReal) (a n)]
  refine congrArg₂ _ rfl ?_
  rw [← mul_neg, ← EReal.coe_neg, mul_comm (r : EReal), mul_assoc, ← EReal.coe_mul]
  refine congrArg₂ _ rfl (congrArg _ ?_)
  rw [← hrv]; ring

/-- The two agree. -/
theorem formulas (d : EReal) (x a : Fin 2048 → EReal) (n : Fin 2048) : grad d x a n = gradRef d x a n := by
  obtain ⟨e, he, hε⟩ := eps
  have hnn : ∀ k, 0 ≤ x k * x k := fun k => by
    induction x k with
    | bot => simp
    | top => simp
    | coe r => exact_mod_cast mul_self_nonneg r
  have hS : 0 ≤ ∑ k, x k * x k := Finset.sum_nonneg fun k _ => hnn k
  have hq : square x = Ideal.div (∑ k, x k * x k) (Ideal.ofBits .f32 0x45000000#32) + Ideal.ofBits .f32 0x358637BD#32 := rfl
  have hs : scale x = Ideal.rsqrt (square x) := rfl
  rw [width, hε, Ideal.div_coe (by norm_num)] at hq
  induction hS' : ∑ k, x k * x k with
  | bot => rw [hS'] at hS; simp at hS
  | top =>
    rw [hS', EReal.top_mul_coe_of_pos (by norm_num), EReal.top_add_coe] at hq
    rw [hq, Ideal.rsqrt_top] at hs
    unfold grad gradRef slope
    rw [hs, hq]
    simp [Ideal.div, width]
  | coe S =>
    rw [hS'] at hS hq
    have hS0 : 0 ≤ S := by exact_mod_cast hS
    have hv : 0 < S * (1 / 2048) + e := by positivity
    have hq' : square x = ((S * (1 / 2048) + e : ℝ) : EReal) := by rw [hq]; norm_cast
    rw [hq', Ideal.rsqrt_coe, if_neg (not_lt.mpr hv.le), if_neg hv.ne'] at hs
    refine positive d x a n _ _ (inv_pos.mpr (Real.sqrt_pos.mpr hv)) hv ?_ hs hq'
    rw [← mul_inv, Real.mul_self_sqrt hv.le]
    exact (one_div _).symm

/-! ## The kernel's blocks -/

theorem dx_at (x dh dres : Vec Ideal S256x2048 .f32) (g : Vec Ideal S1x2048 .f32) (r : Fin 256) (n : Fin 2048) :
    k0_pay4 (F := Ideal) x dh dres g (ix2 r n)
      = grad (dres (ix2 r n)) (fun k => x (ix2 r k)) (fun k => dh (ix2 r k) * g (ix2 0 k)) n := by
  pointwise [k0_pay4, k0_pay3, k0_pay2]
  rfl
theorem dxb_at (x dh dres : Vec Ideal S256x2048 .f32) (g : Vec Ideal S1x2048 .f32) (r : Fin 256) (n : Fin 2048) :
    k0_pay5 (F := Ideal) x dh dres g (ix2 r n) = k0_pay4 (F := Ideal) x dh dres g (ix2 r n) := by
  pointwise [k0_pay5]
theorem dg_at (x dh : Vec Ideal S256x2048 .f32) (n : Fin 2048) :
    k0_pay6 (F := Ideal) x dh (ix2 0 n) = ∑ r : Fin 256, dh (ix2 r n) * (x (ix2 r n) * scale fun k => x (ix2 r k)) := by
  pointwise [k0_pay6, k0_pay3, k0_pay2]
  rfl
theorem add_at (p o : FVec Ideal S1x2048 .f32) (j : S1x2048.Idx) : k0_pay1 (F := Ideal) p o j = o j + p j := by
  pointwise [k0_pay1]

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ t.val < 8 := (by decide +kernel : ∀ t : Fin grid0.N, _)

variable (m : (ℓ : Loc nD τ sig) → Buf (Elt Ideal) ℓ) (c : Dev nD)

/-- The row of the arrays that row `r` of block `t` is. -/
def row (t : Fin cfg0.N) (r : Fin 256) : Fin 2048 :=
  ⟨t * 256 + r, by obtain ⟨_, _, _, _, _, _, _, h⟩ := idx t; omega⟩

theorem blkH (t : Fin cfg0.N) (r : Fin 256) (k : Fin 2048) :
    iblk m c 0 t (ix2 r k) = m ((c : Thread nD τ).loc main_arg0) (ix2 (row t r) k) := by
  blk_point [iblk, idx t, row]
theorem blkX (t : Fin cfg0.N) (r : Fin 256) (k : Fin 2048) :
    iblk m c 1 t (ix2 r k) = m ((c : Thread nD τ).loc main_arg1) (ix2 (row t r) k) := by
  blk_point [iblk, idx t, row]
theorem blkG (t : Fin cfg0.N) (n : Fin 2048) :
    iblk m c 2 t (ix2 0 n) = m ((c : Thread nD τ).loc main_arg2) (ix1 n) := by
  blk_point [iblk, idx t]
theorem blkR (t : Fin cfg0.N) (r : Fin 256) (k : Fin 2048) :
    iblk m c 3 t (ix2 r k) = m ((c : Thread nD τ).loc main_arg3) (ix2 (row t r) k) := by
  blk_point [iblk, idx t, row]

/-- What a point leaves in the block of the first gradient, whichever case it is. -/
theorem left_dx (t : Fin cfg0.N) : (outsAt0 m c t.val t.isLt).1 = k0_pay4 (iblk m c 1 t) (iblk m c 0 t) (iblk m c 3 t) (iblk m c 2 t) := by
  by_cases h : t.val = 0
  · rw [outsAt0_A m c t (by omega) (by omega)]; frame_out
  · rw [outsAt0_B m c t (by obtain ⟨_, _, _, _, _, _, _, h⟩ := idx t; omega) (by omega)]; frame_out
theorem left_dxb (t : Fin cfg0.N) : (outsAt0 m c t.val t.isLt).2.1 = k0_pay5 (iblk m c 1 t) (iblk m c 0 t) (iblk m c 3 t) (iblk m c 2 t) := by
  by_cases h : t.val = 0
  · rw [outsAt0_A m c t (by omega) (by omega)]; frame_out
  · rw [outsAt0_B m c t (by obtain ⟨_, _, _, _, _, _, _, h⟩ := idx t; omega) (by omega)]; frame_out

/-! ## The results -/

/-- The gradient in the layer's input, the residual's added. -/
def dx (H X : FVec Ideal S2048x2048 .f32) (G : FVec Ideal S2048 .f32) (R : FVec Ideal S2048x2048 .f32) : FVec Ideal S2048x2048 .f32 :=
  fun i => grad (R i) (fun k => X (ix2 (i 0) k)) (fun k => H (ix2 (i 0) k) * G (ix1 k)) (i 1)
def dxb (H X : FVec Ideal S2048x2048 .f32) (G : FVec Ideal S2048 .f32) (R : FVec Ideal S2048x2048 .f32) : FVec Ideal S2048x2048 .bf16 :=
  fun i => dx H X G R i
/-- The gradient in the gain: a sum over the rows. -/
def dg (H X : FVec Ideal S2048x2048 .f32) : FVec Ideal S1x2048 .f32 :=
  fun i => ∑ r : Fin 2048, H (ix2 r (i 1)) * (X (ix2 r (i 1)) * scale fun k => X (ix2 r k))

theorem final_dx : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, left_dx]
  obtain ⟨r, n, rfl⟩ : ∃ (r : Fin 256) (n : Fin 2048), y = ix2 r n := ⟨y 0, y 1, by funext a; fin_cases a <;> rfl⟩
  refine (dx_at _ _ _ _ r n).trans ?_
  simp only [blkX, blkG, blkH, blkR]
  have e : (win0_4.blk t).view.emb (ix2 r n) = ix2 (row t r) n := by blk_ext [idx t, row]
  rw [e]
  rfl
theorem final_dxb : (dats m 0 c).arrAt 5 cfg0.N = dxb (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t _ y => ?_
  blk_simp
  rw [after0_5, left_dxb]
  obtain ⟨r, n, rfl⟩ : ∃ (r : Fin 256) (n : Fin 2048), y = ix2 r n := ⟨y 0, y 1, by funext a; fin_cases a <;> rfl⟩
  refine ((dxb_at _ _ _ _ r n).trans (dx_at _ _ _ _ r n)).trans ?_
  simp only [blkX, blkG, blkH, blkR]
  have e : (win0_5.blk t).view.emb (ix2 r n) = ix2 (row t r) n := by blk_ext [idx t, row]
  rw [e]
  rfl

def last : Fin cfg0.N := ⟨7, by decide +kernel⟩

theorem final_dg : (dats m 0 c).arrAt 6 cfg0.N = dg (m ((c : Thread nD τ).loc main_arg0)) (m ((c : Thread nD τ).loc main_arg1)) := by
  refine (dats m 0 c).arrAt_eq_of_after_last 6 last (by decide +kernel) _ fun j => ?_
  blk_simp
  rw [after0_6, Pipeline.eq_sum_fin_of_reset_step_apply_last (fun n h => (outsAt0 m c n h).2.2) 8 (fun _ => 0)
    (fun t j => k0_pay6 (iblk m c 1 t) (iblk m c 0 t) j)
    (fun t h j => by
      have := lt_of_lt_of_eq t.isLt N_0
      rw [outsAt0_A m c t h (by omega), zero_add]; frame_out)
    (fun t h j => by
      have := lt_of_lt_of_eq t.isLt N_0
      rw [outsAt0_B m c t h (by omega)]; frame_out; rw [add_at]) (le_of_eq N_0) last rfl j, zero_add]
  obtain ⟨n, rfl⟩ : ∃ n : Fin 2048, j = ix2 0 n := ⟨j 1, by funext a; fin_cases a <;> first | rfl | exact Subsingleton.elim (α := Fin 1) _ _⟩
  simp only [dg_at, blkX, blkH]
  exact Fin.sum_mul_add_congr (S := 8) fun t k hl => rfl

theorem ref_dx (x0 x1 : FVec Ideal S2048x2048 .f32) (x2 : FVec Ideal S2048 .f32) (x3 : FVec Ideal S2048x2048 .f32) :
    Cert.Reference9Ideal.Read.val_main_v36 (F := Ideal) x0 x1 x2 x3 = dx x0 x1 x2 x3 := by
  funext i
  obtain ⟨r, n, rfl⟩ : ∃ (r : Fin 2048) (n : Fin 2048), i = ix2 r n := ⟨i 0, i 1, by funext a; fin_cases a <;> rfl⟩
  refine Eq.trans ?_ (formulas _ _ _ _).symm
  pointwise [Cert.Reference9Ideal.Read.val_main_v36, Cert.Reference9Ideal.Read.val_main_v35, Cert.Reference9Ideal.Read.val_main_v34, Cert.Reference9Ideal.Read.val_main_v33, Cert.Reference9Ideal.Read.val_main_v32, Cert.Reference9Ideal.Read.val_main_v31, Cert.Reference9Ideal.Read.val_main_v30, Cert.Reference9Ideal.Read.val_main_v29, Cert.Reference9Ideal.Read.val_main_v28, Cert.Reference9Ideal.Read.val_main_v27, Cert.Reference9Ideal.Read.val_main_v26, Cert.Reference9Ideal.Read.val_main_v25, Cert.Reference9Ideal.Read.val_main_v24, Cert.Reference9Ideal.Read.val_main_v23, Cert.Reference9Ideal.Read.val_main_v22, Cert.Reference9Ideal.Read.val_main_v20, Cert.Reference9Ideal.Read.val_main_v19, Cert.Reference9Ideal.Read.val_main_v14, Cert.Reference9Ideal.Read.val_main_v13, Cert.Reference9Ideal.Read.val_main_v12, Cert.Reference9Ideal.Read.val_main_v11, Cert.Reference9Ideal.Read.val_main_v10, Cert.Reference9Ideal.Read.val_main_v9, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6, Cert.Reference9Ideal.Read.val_main_cst_7]
  simp only [Finset.univ_unique, Finset.sum_singleton]
  rfl
theorem ref_dxb (x0 x1 : FVec Ideal S2048x2048 .f32) (x2 : FVec Ideal S2048 .f32) (x3 : FVec Ideal S2048x2048 .f32) :
    Cert.Reference9Ideal.Read.val_main_v37 (F := Ideal) x0 x1 x2 x3 = dxb x0 x1 x2 x3 := by
  unfold dxb
  rw [← ref_dx]
  funext i
  pointwise [Cert.Reference9Ideal.Read.val_main_v37]
theorem ref_dg (x0 x1 : FVec Ideal S2048x2048 .f32) :
    Cert.Reference9Ideal.Read.val_main_v38 (F := Ideal) x0 x1 = dg x0 x1 := by
  funext i
  obtain ⟨n, rfl⟩ : ∃ n : Fin 2048, i = ix2 0 n := ⟨i 1, by funext a; fin_cases a <;> first | rfl | exact Subsingleton.elim (α := Fin 1) _ _⟩
  pointwise [Cert.Reference9Ideal.Read.val_main_v38, Cert.Reference9Ideal.Read.val_main_v21, Cert.Reference9Ideal.Read.val_main_v18, Cert.Reference9Ideal.Read.val_main_v17, Cert.Reference9Ideal.Read.val_main_v16, Cert.Reference9Ideal.Read.val_main_v12, Cert.Reference9Ideal.Read.val_main_v11, Cert.Reference9Ideal.Read.val_main_v7, Cert.Reference9Ideal.Read.val_main_v6, Cert.Reference9Ideal.Read.val_main_v5, Cert.Reference9Ideal.Read.val_main_v4, Cert.Reference9Ideal.Read.val_main_v3, Cert.Reference9Ideal.Read.val_main_v2, Cert.Reference9Ideal.Read.val_main_v1, Cert.Reference9Ideal.Read.val_main_v0, Cert.Reference9Ideal.Read.val_main_cst, Cert.Reference9Ideal.Read.val_main_cst_0, Cert.Reference9Ideal.Read.val_main_cst_1, Cert.Reference9Ideal.Read.val_main_cst_3, Cert.Reference9Ideal.Read.val_main_cst_4]
  simp only [Finset.univ_unique, Finset.sum_singleton]
  exact Finset.sum_congr rfl fun k _ => mul_comm _ _

end Cert.NormBwd

end
-- ==== Proof.InFwd.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise

@[expose] public section

/-! The first product: one sum over the columns. -/

set_option maxRecDepth 16384

noncomputable section

namespace Cert.InFwd
open Idealize.ShloMosaic Idealize.ShloMosaic.Pointwise Idealize.ShloMosaic.Pipeline Cert.Kernel10Ideal Cert.Kernel10Ideal.Gen
open Idealize.ShloMosaic.TcCoe Idealize.SL.Sem

/-- The result: row `i 0` of the activations against column `i 1` of the weight. -/
def res (A : FVec Ideal S2048x2048 .bf16) (W : FVec Ideal S2048x5120 .bf16) : FVec Ideal S2048x5120 .f32 :=
  fun i => ∑ k : Fin 2048, A (ix2 (i 0) k) * W (ix2 k (i 1))

theorem out_at (x : Vec Ideal S1024x2048 .bf16) (y : Vec Ideal S2x2048x640 .bf16) (r : Fin 1024)
    (n : Fin 1280) : out0_2 (F := Ideal) x y (ix2 r n)
      = ∑ k : Fin 2048, x (ix2 r k) * y (ix3 ⟨n / 640, by omega⟩ k ⟨n % 640, by omega⟩) := by
  unfold out0_2
  canon_tiles q h
  obtain rfl : q = ix2 r n := by blk_ext [h0, h1]
  pointwise [k0_pay1]
  refine Finset.sum_congr rfl fun k _ => ?_
  rcases Nat.lt_or_ge n 640 with hn | hn
  · have e0 : (⟨n / 640, by omega⟩ : Fin 2) = 0 := Fin.ext (by show (n : ℕ) / 640 = 0; omega)
    have e1 : (⟨n % 640, by omega⟩ : Fin 640) = ⟨n, hn⟩ := Fin.ext (by show (n : ℕ) % 640 = n; omega)
    rw [dif_pos hn, e0, e1]
  · have e0 : (⟨n / 640, by omega⟩ : Fin 2) = 1 := Fin.ext (by show (n : ℕ) / 640 = 1; omega)
    have e1 : (⟨n % 640, by omega⟩ : Fin 640) = ⟨n - 640, by omega⟩ := Fin.ext (by show (n : ℕ) % 640 = n - 640; omega)
    rw [dif_neg (by omega), e0, e1]

theorem idx : ∀ t : Fin cfg0.N, win0_0.index t = ![t.val % 2, 0] ∧ win0_1.index t = ![t.val / 2, 0, 0]
    ∧ win0_2.index t = ![t.val % 2, t.val / 2] ∧ t.val < 8 := (by decide +kernel : ∀ t : Fin grid0.N, _)

variable (m : (ℓ : Loc nD τ sig) → Buf (Elt Ideal) ℓ) (c : Dev nD)

/-- The row and the column of the result that row `r` and column `n` of block `t` are. -/
def row (t : Fin cfg0.N) (r : Fin 1024) : Fin 2048 := ⟨t % 2 * 1024 + r, by omega⟩
def column (t : Fin cfg0.N) (n : Fin 1280) : Fin 5120 := ⟨t / 2 * 1280 + n, by have := (idx t).2.2.2; omega⟩

theorem blkA (t : Fin cfg0.N) (r : Fin 1024) (k : Fin 2048) :
    iblk m c 0 t (ix2 r k) = m ((c : Thread nD τ).loc main_arg0) (ix2 (row t r) k) := by
  blk_point [iblk, idx t, row]
theorem blkW (t : Fin cfg0.N) (n : Fin 1280) (k : Fin 2048) :
    iblk m c 1 t (ix3 ⟨n / 640, by omega⟩ k ⟨n % 640, by omega⟩)
      = m ((c : Thread nD τ).loc main_arg1) (ix2 k (column t n)) := by
  blk_point [iblk, idx t, column]

theorem final : (dats m 0 c).arrAt 2 cfg0.N = res (m ((c : Thread nD τ).loc main_arg0)) (m ((c : Thread nD τ).loc main_arg1)) := by
  refine (dats m 0 c).arrAt_eq_of_covers 2 _ (by decide +kernel) fun t _ y => ?_
  blk_simp
  rw [after0_2]
  obtain ⟨r, n, rfl⟩ : ∃ (r : Fin 1024) (n : Fin 1280), y = ix2 r n := ⟨y 0, y 1, by funext a; fin_cases a <;> rfl⟩
  refine (out_at _ _ r n).trans ?_
  simp only [blkA, blkW]
  have e : (win0_2.blk t).view.emb (ix2 r n) = ix2 (row t r) (column t n) := by blk_ext [idx t, row, column]
  rw [e]
  rfl

theorem ref (x0 : FVec Ideal S2048x2048 .bf16) (x1 : FVec Ideal S2048x5120 .bf16) :
    Cert.Reference10Ideal.Read.val_main_v2 (F := Ideal) x0 x1 = res x0 x1 := by
  funext i
  obtain ⟨r, n, rfl⟩ : ∃ (r : Fin 2048) (n : Fin 5120), i = ix2 r n := ⟨i 0, i 1, by funext a; fin_cases a <;> rfl⟩
  pointwise [Cert.Reference10Ideal.Read.val_main_v2, Cert.Reference10Ideal.Read.val_main_v1, Cert.Reference10Ideal.Read.val_main_v0, res]

end Cert.InFwd

end
-- ==== Proof.OutFwd.lean ====
module

public import proofs.«01_k».proof.Proof.Gen.Kernel11Ideal.Value
public import proofs.«01_k».proof.Proof.Gen.Reference11Ideal.Read
public import proofs.«01_k».proof.Proof.NormFwd
public import Idealize.ShloMosaic.Lib.Pipeline.ValueKit
public import Idealize.ShloMosaic.Lib.Pointwise

@[expose] public section

/-! The product after the mixing with its residual, and the normalisation before the next product. -/

set_option maxRecDepth 16384

noncomputable section

namespace Cert.OutFwd
open Idealize.ShloMosaic Idealize.ShloMosaic.Pointwise Idealize.ShloMosaic.Pipeline Cert.Kernel11Ideal Cert.Kernel11Ideal.Gen
open Idealize.ShloMosaic.TcCoe Idealize.SL.Sem

/-- The activations: row `i 0` of the mixed heads against column `i 1` of the weight, and the residual. -/
def res (A W : FVec Ideal S2048x2048 .bf16) (X : FVec Ideal S2048x2048 .f32) : FVec Ideal S2048x2048 .f32 :=
  fun i => ∑ k : Fin 2048, A (ix2 (i 0) k) * W (ix2 k (i 1)) + X i

theorem out_at (x : Vec Ideal S512x2048 .bf16) (y : Vec Ideal S2048x2048 .bf16) (z : Vec Ideal S512x2048 .f32)
    (g : Vec Ideal S1x2048 .f32) (r : Fin 512) (n : Fin 2048) :
    out0_4 (F := Ideal) x y z g (ix2 r n) = ∑ k : Fin 2048, x (ix2 r k) * y (ix2 k n) + z (ix2 r n) := by
  unfold out0_4
  canon_tiles q h
  obtain rfl : q = ix2 r n := by blk_ext [h0, h1]
  pointwise [k0_pay1]

theorem norm_at (x : Vec Ideal S512x2048 .bf16) (y : Vec Ideal S2048x2048 .bf16) (z : Vec Ideal S512x2048 .f32)
    (g : Vec Ideal S1x2048 .f32) (r : Fin 512) (n : Fin 2048) :
    out0_5 (F := Ideal) x y z g (ix2 r n)
      = (∑ k : Fin 2048, x (ix2 r k) * y (ix2 k n) + z (ix2 r n))
        * Cert.NormFwd.scale (fun l => ∑ k : Fin 2048, x (ix2 r k) * y (ix2 k l) + z (ix2 r l)) * g (ix2 0 n) := by
  unfold out0_5
  canon_tiles q h
  obtain rfl : q = ix2 r n := by blk_ext [h0, h1]
  pointwise [k0_pay2, k0_pay1]
  rfl

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0]
    ∧ t.val < 4 := (by decide +kernel : ∀ t : Fin grid0.N, _)

variable (m : (ℓ : Loc nD τ sig) → Buf (Elt Ideal) ℓ) (c : Dev nD)

/-- The row of the result that row `r` of block `t` is. -/
def row (t : Fin cfg0.N) (r : Fin 512) : Fin 2048 := ⟨t * 512 + r, by have := (idx t).2.2.2.2.2.2; omega⟩

theorem blkA (t : Fin cfg0.N) (r : Fin 512) (k : Fin 2048) :
    iblk m c 0 t (ix2 r k) = m ((c : Thread nD τ).loc main_arg0) (ix2 (row t r) k) := by
  blk_point [iblk, idx t, row]
theorem blkW (t : Fin cfg0.N) (k : Fin 2048) (n : Fin 2048) :
    iblk m c 1 t (ix2 k n) = m ((c : Thread nD τ).loc main_arg1) (ix2 k n) := by
  blk_point [iblk, idx t]
theorem blkX (t : Fin cfg0.N) (r : Fin 512) (n : Fin 2048) :
    iblk m c 2 t (ix2 r n) = m ((c : Thread nD τ).loc main_arg2) (ix2 (row t r) n) := by
  blk_point [iblk, idx t, row]
theorem blkG (t : Fin cfg0.N) (n : Fin 2048) :
    iblk m c 3 t (ix2 0 n) = m ((c : Thread nD τ).loc main_arg3) (ix1 n) := by
  blk_point [iblk, idx t]

theorem final : (dats m 0 c).arrAt 4 cfg0.N = res (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, n, rfl⟩ : ∃ (r : Fin 512) (n : Fin 2048), y = ix2 r n := ⟨y 0, y 1, by funext a; fin_cases a <;> rfl⟩
  refine (out_at _ _ _ _ r n).trans ?_
  simp only [blkA, blkW, blkX]
  have e : (win0_4.blk t).view.emb (ix2 r n) = ix2 (row t r) n := by blk_ext [idx t, row]
  rw [e]
  rfl

theorem final_norm : (dats m 0 c).arrAt 5 cfg0.N = Cert.NormFwd.res (res (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]
  obtain ⟨r, n, rfl⟩ : ∃ (r : Fin 512) (n : Fin 2048), y = ix2 r n := ⟨y 0, y 1, by funext a; fin_cases a <;> rfl⟩
  refine (norm_at _ _ _ _ r n).trans ?_
  simp only [blkA, blkW, blkX, blkG]
  have e : (win0_5.blk t).view.emb (ix2 r n) = ix2 (row t r) n := by blk_ext [idx t, row]
  rw [e]
  rfl

theorem ref (x0 x1 : FVec Ideal S2048x2048 .bf16) (x2 : FVec Ideal S2048x2048 .f32) :
    Cert.Reference11Ideal.Read.val_main_v3 (F := Ideal) x0 x1 x2 = res x0 x1 x2 := by
  funext i
  obtain ⟨r, n, rfl⟩ : ∃ (r : Fin 2048) (n : Fin 2048), i = ix2 r n := ⟨i 0, i 1, by funext a; fin_cases a <;> rfl⟩
  pointwise [Cert.Reference11Ideal.Read.val_main_v3, Cert.Reference11Ideal.Read.val_main_v2, Cert.Reference11Ideal.Read.val_main_v1, Cert.Reference11Ideal.Read.val_main_v0, res]
  exact add_comm _ _

theorem ref_norm (x0 x1 : FVec Ideal S2048x2048 .bf16) (x2 : FVec Ideal S2048x2048 .f32) (x3 : FVec Ideal S2048 .f32) :
    Cert.Reference11Ideal.Read.val_main_v17 (F := Ideal) x0 x1 x2 x3 = Cert.NormFwd.res (res x0 x1 x2) x3 := by
  rw [← ref x0 x1 x2]
  funext i
  obtain ⟨r, n, rfl⟩ : ∃ (r : Fin 2048) (n : Fin 2048), i = ix2 r n := ⟨i 0, i 1, by funext a; fin_cases a <;> rfl⟩
  pointwise [Cert.Reference11Ideal.Read.val_main_v17, Cert.Reference11Ideal.Read.val_main_v16, Cert.Reference11Ideal.Read.val_main_v15, Cert.Reference11Ideal.Read.val_main_v14, Cert.Reference11Ideal.Read.val_main_v13, Cert.Reference11Ideal.Read.val_main_v12, Cert.Reference11Ideal.Read.val_main_v11, Cert.Reference11Ideal.Read.val_main_v10, Cert.Reference11Ideal.Read.val_main_v9, Cert.Reference11Ideal.Read.val_main_v8, Cert.Reference11Ideal.Read.val_main_v7, Cert.Reference11Ideal.Read.val_main_v6, Cert.Reference11Ideal.Read.val_main_v5, Cert.Reference11Ideal.Read.val_main_v4, Cert.Reference11Ideal.Read.val_main_cst, Cert.Reference11Ideal.Read.val_main_cst_0, Cert.Reference11Ideal.Read.val_main_cst_1, Cert.NormFwd.res]
  rfl

end Cert.OutFwd

end
-- ==== Proof.UpRun.lean ====
module

public import proofs.«01_k».proof.Proof.Gen.Kernel12Ideal.Frame
public import proofs.«01_k».proof.Proof.Gen.Kernel12Ideal.Skeleton
public import Idealize.ShloMosaic.Lib.Claim
public import Idealize.ShloMosaic.Lib.Pipeline.Value

/-! The up-projection, convolution and gate of the forward pass, run point by point.

The kernel keeps the last eight rows of a block's product for the next block of rows, in a scratch that is
never cleared: at a first block of rows it takes zeros in place of what the scratch holds. So the run of one
point is stated over any contents of the scratch, and what a point leaves there depends on the point alone. -/

@[expose] public section

set_option maxRecDepth 16384

noncomputable section

namespace Cert.Kernel12Ideal.Body

open Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions of this module speak of. -/
abbrev Res (F : FTy → Type) [FloatOps F] := MT nD τ sig Unit (Elt F) ℕ (UR sig nD τ) ℕ

variable (m : (ℓ : Loc nD τ sig) → Buf (Elt F) ℓ) (ρ : Dev nD → PrngReg)

/-- One buffer of each output, and the carried scratch, through which their contents are stated. -/
abbrev upView : View sig .tc .vmem S2x512x1408 .f32 := (Memref.whole cc0_stg5_0 : Memref sig .tc .vmem S2x512x1408 .f32).view
abbrev actView : View sig .tc .vmem S512x1408 .bf16 := (Memref.whole cc0_stg6_0 : Memref sig .tc .vmem S512x1408 .bf16).view
abbrev carry : Memref sig .tc .vmem S2x8x1408 .f32 := Memref.whole cc0_scratch0

abbrev stg0 (t : Fin cfg0.N) : Memref sig .tc .vmem S512x2048 .bf16 := win0_0.stage (cfg0.slots t 0)
theorem hst0 (t : Fin cfg0.N) : (stg0 t).IsWhole := hstage0_0 ((cfg0.slots t 0).cast nbuf0_0)
abbrev stg1 (t : Fin cfg0.N) : Memref sig .tc .vmem S1x2048x1408 .bf16 := win0_1.stage (cfg0.slots t 1)
theorem hst1 (t : Fin cfg0.N) : (stg1 t).IsWhole := hstage0_1 ((cfg0.slots t 1).cast nbuf0_1)
abbrev stg2 (t : Fin cfg0.N) : Memref sig .tc .vmem S1x2048x1408 .bf16 := win0_2.stage (cfg0.slots t 2)
theorem hst2 (t : Fin cfg0.N) : (stg2 t).IsWhole := hstage0_2 ((cfg0.slots t 2).cast nbuf0_2)
abbrev stg3 (t : Fin cfg0.N) : Memref sig .tc .vmem S2x3x1408 .f32 := win0_3.stage (cfg0.slots t 3)
theorem hst3 (t : Fin cfg0.N) : (stg3 t).IsWhole := hstage0_3 ((cfg0.slots t 3).cast nbuf0_3)
abbrev stg4 (t : Fin cfg0.N) : Memref sig .tc .vmem S2x1x1408 .f32 := win0_4.stage (cfg0.slots t 4)
theorem hst4 (t : Fin cfg0.N) : (stg4 t).IsWhole := hstage0_4 ((cfg0.slots t 4).cast nbuf0_4)
abbrev stg5 (t : Fin cfg0.N) : Memref sig .tc .vmem S2x512x1408 .f32 := win0_5.stage (cfg0.slots t 5)
theorem hst5 (t : Fin cfg0.N) : (stg5 t).IsWhole := hstage0_5 ((cfg0.slots t 5).cast nbuf0_5)
abbrev stg6 (t : Fin cfg0.N) : Memref sig .tc .vmem S512x1408 .bf16 := win0_6.stage (cfg0.slots t 6)
theorem hst6 (t : Fin cfg0.N) : (stg6 t).IsWhole := hstage0_6 ((cfg0.slots t 6).cast nbuf0_6)

/-- Between points: the scratch at some contents, and the generator's register. -/
theorem between_eq (c : Dev nD) :
    (Pipeline.ΦA spec0 c : sProp (Res F))
      = iprop(iprop((∃ d, owns (c : Thread nD τ) carry fullShare d)) ∗ (∃ r, prngReg c r)) := by
  unfold Pipeline.ΦA; rw [scopedRest0_eq]; simp only [carry, owns_whole]; try rfl

/-! ## One point -/

section Point

variable (c : Dev nD) (i : grid0.Coords)
  (arg2 : Memref sig .tc .vmem S512x2048 .bf16) (harg2 : arg2.IsWhole)
  (arg3 : Memref sig .tc .vmem S1x2048x1408 .bf16) (harg3 : arg3.IsWhole)
  (arg4 : Memref sig .tc .vmem S1x2048x1408 .bf16) (harg4 : arg4.IsWhole)
  (arg5 : Memref sig .tc .vmem S2x3x1408 .f32) (harg5 : arg5.IsWhole)
  (arg6 : Memref sig .tc .vmem S2x1x1408 .f32) (harg6 : arg6.IsWhole)
  (arg7 : Memref sig .tc .vmem S2x512x1408 .f32) (harg7 : arg7.IsWhole)
  (arg8 : Memref sig .tc .vmem S512x1408 .bf16) (harg8 : arg8.IsWhole)
  (arg9 : Memref sig .tc .vmem S2x8x1408 .f32) (harg9 : arg9.IsWhole)
  (x0 : Vec F S512x2048 .bf16) (x1 : Vec F S1x2048x1408 .bf16) (x2 : Vec F S1x2048x1408 .bf16) (x3 : Vec F S2x3x1408 .f32) (x4 : Vec F S2x1x1408 .f32)
  (xs : Vec F S2x8x1408 .f32)

set_option maxHeartbeats 1000000 in
/-- One run of the body over any contents `xs` of the scratch: the stores it makes into the two outputs and the
scratch, with the proof that it makes them and leaves its inputs alone. -/
def pointRun :
    Σ' (L5 : List (View.Piece (Elt F) S2x512x1408 .f32)), Σ' (L6 : List (View.Piece (Elt F) S512x1408 .bf16)), { LS : List (View.Piece (Elt F) S2x8x1408 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0_up_conv_gate_fwd i arg2 harg2 arg3 harg3 arg4 harg4 arg5 harg5 arg6 harg6 arg7 harg7 arg8 harg8 arg9 harg9) K } := by
  refine ⟨?_, ?_, ?_, fun E K => ?run⟩
  case run =>
    simp only [cc0_up_conv_gate_fwd_eq_skeleton]; unfold cc0_up_conv_gate_fwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg9.eq_unread hfs
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

/-- The stores into each output, and those into the scratch, cover it. -/
theorem up_cover (y : S2x512x1408.Idx) :
    ∃ pc ∈ (pointRun c i arg2 harg2 arg3 harg3 arg4 harg4 arg5 harg5 arg6 harg6 arg7 harg7 arg8 harg8 arg9 harg9 x0 x1 x2 x3 x4 xs).1, y ∈ pc.1.set :=
  View.cover_of_tiledL (pointRun c i arg2 harg2 arg3 harg3 arg4 harg4 arg5 harg5 arg6 harg6 arg7 harg7 arg8 harg8 arg9 harg9 x0 x1 x2 x3 x4 xs).1 S1x512x1408.size (by sl_kernel_rfl) y

theorem act_cover (y : S512x1408.Idx) :
    ∃ pc ∈ (pointRun c i arg2 harg2 arg3 harg3 arg4 harg4 arg5 harg5 arg6 harg6 arg7 harg7 arg8 harg8 arg9 harg9 x0 x1 x2 x3 x4 xs).2.1, y ∈ pc.1.set :=
  View.cover_of_tiledL (pointRun c i arg2 harg2 arg3 harg3 arg4 harg4 arg5 harg5 arg6 harg6 arg7 harg7 arg8 harg8 arg9 harg9 x0 x1 x2 x3 x4 xs).2.1 S512x1408.size (by sl_kernel_rfl) y

theorem carry_cover (y : S2x8x1408.Idx) :
    ∃ pc ∈ (pointRun c i arg2 harg2 arg3 harg3 arg4 harg4 arg5 harg5 arg6 harg6 arg7 harg7 arg8 harg8 arg9 harg9 x0 x1 x2 x3 x4 xs).2.2.1, y ∈ pc.1.set :=
  View.cover_of_tiledL (pointRun c i arg2 harg2 arg3 harg3 arg4 harg4 arg5 harg5 arg6 harg6 arg7 harg7 arg8 harg8 arg9 harg9 x0 x1 x2 x3 x4 xs).2.2.1 S1x8x1408.size (by sl_kernel_rfl) y

/-- What the stores leave in each output and in the scratch. -/
def upLeft : Vec F S2x512x1408 .f32 :=
  upView.read (Elt F) (upView.writes (Elt F) upView.junk (pointRun c i arg2 harg2 arg3 harg3 arg4 harg4 arg5 harg5 arg6 harg6 arg7 harg7 arg8 harg8 arg9 harg9 x0 x1 x2 x3 x4 xs).1)

def actLeft : Vec F S512x1408 .bf16 :=
  actView.read (Elt F) (actView.writes (Elt F) actView.junk (pointRun c i arg2 harg2 arg3 harg3 arg4 harg4 arg5 harg5 arg6 harg6 arg7 harg7 arg8 harg8 arg9 harg9 x0 x1 x2 x3 x4 xs).2.1)

def carryLeft : Vec F S2x8x1408 .f32 :=
  carry.view.read (Elt F) (carry.view.writes (Elt F) carry.view.junk (pointRun c i arg2 harg2 arg3 harg3 arg4 harg4 arg5 harg5 arg6 harg6 arg7 harg7 arg8 harg8 arg9 harg9 x0 x1 x2 x3 x4 xs).2.2.1)

/-- The product of a block, and the rows it leaves in the scratch, do not depend on what the scratch held. -/
theorem upLeft_const (xs' : Vec F S2x8x1408 .f32) :
    upLeft c i arg2 harg2 arg3 harg3 arg4 harg4 arg5 harg5 arg6 harg6 arg7 harg7 arg8 harg8 arg9 harg9 x0 x1 x2 x3 x4 xs = upLeft c i arg2 harg2 arg3 harg3 arg4 harg4 arg5 harg5 arg6 harg6 arg7 harg7 arg8 harg8 arg9 harg9 x0 x1 x2 x3 x4 xs' := by
  unfold upLeft pointRun
  dsimp only

theorem carryLeft_const (xs' : Vec F S2x8x1408 .f32) :
    carryLeft c i arg2 harg2 arg3 harg3 arg4 harg4 arg5 harg5 arg6 harg6 arg7 harg7 arg8 harg8 arg9 harg9 x0 x1 x2 x3 x4 xs = carryLeft c i arg2 harg2 arg3 harg3 arg4 harg4 arg5 harg5 arg6 harg6 arg7 harg7 arg8 harg8 arg9 harg9 x0 x1 x2 x3 x4 xs' := by
  unfold carryLeft pointRun
  dsimp only

/-- At a first block of rows the gated product does not depend on it either: zeros are taken in its place. -/
theorem actLeft_first (hi : (i 1).val = 0) (xs' : Vec F S2x8x1408 .f32) :
    actLeft c i arg2 harg2 arg3 harg3 arg4 harg4 arg5 harg5 arg6 harg6 arg7 harg7 arg8 harg8 arg9 harg9 x0 x1 x2 x3 x4 xs = actLeft c i arg2 harg2 arg3 harg3 arg4 harg4 arg5 harg5 arg6 harg6 arg7 harg7 arg8 harg8 arg9 harg9 x0 x1 x2 x3 x4 xs' := by
  have hc : Scalar.cmpi .eq (BitVec.ofNat 32 (i 1).val) 0#32 = 1#1 := by rw [hi]; rfl
  have e5 : ∀ (v1 : Vec F S512x2048 .bf16) (v2 : Vec F S1x2048x1408 .bf16) (a : Vec F S1x8x1408 .f32),
      k0_pay5 i v1 v2 a = k0_pay5 i v1 v2 (fun _ => Scalar.ofBits .f32 0x00000000#32) := by
    intro v1 v2 a
    simp only [k0_pay5]
    rw [hc]
    rfl
  have e14 : ∀ (v1 : Vec F S512x2048 .bf16) (v2 : Vec F S1x2048x1408 .bf16) (a : Vec F S1x8x1408 .f32),
      k0_pay14 (Scalar.cmpi .eq (BitVec.ofNat 32 (i 1).val) 0#32) v1 v2 a
        = k0_pay14 (Scalar.cmpi .eq (BitVec.ofNat 32 (i 1).val) 0#32) v1 v2 (fun _ => Scalar.ofBits .f32 0x00000000#32) := by
    intro v1 v2 a
    simp only [k0_pay14]
    rw [hc]
    rfl
  unfold actLeft pointRun
  dsimp only
  unfold pointRun.sl.r_5 pointRun.sl.r_7 pointRun.sl.r_10 pointRun.sl.r_1 pointRun.sl.r_3 pointRun.sl.v0
  simp only [k0_pay6, k0_pay8, k0_pay15, k0_pay18, e5, e14]

end Point

end Cert.Kernel12Ideal.Body

end
-- ==== Proof.UpBody.lean ====
module

public import proofs.«01_k».proof.Proof.UpRun

/-! The up-projection, convolution and gate of the forward pass: every point, and the run of the whole call. -/

@[expose] public section

set_option maxRecDepth 16384

noncomputable section

namespace Cert.Kernel12Ideal.Body

open Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Every point -/

/-- What point `t` leaves over scratch contents `xs`. -/
def upAt (c : Dev nD) (t : Fin cfg0.N) (xs : Vec F S2x8x1408 .f32) : Vec F S2x512x1408 .f32 :=
  upLeft c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs

def actAt (c : Dev nD) (t : Fin cfg0.N) (xs : Vec F S2x8x1408 .f32) : Vec F S512x1408 .bf16 :=
  actLeft c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs

def carryAt (c : Dev nD) (t : Fin cfg0.N) (xs : Vec F S2x8x1408 .f32) : Vec F S2x8x1408 .f32 :=
  carryLeft c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs

/-- Contents no point reads: the scratch before the first point. -/
def noCarry : Vec F S2x8x1408 .f32 := carry.view.read (Elt F) carry.view.junk

/-- What point `n` leaves in the scratch, whatever the scratch held. -/
def carryAfter (c : Dev nD) (n : ℕ) (hn : n < cfg0.N) : Vec F S2x8x1408 .f32 := carryAt m c ⟨n, hn⟩ noCarry

theorem carryAt_eq (c : Dev nD) (t : Fin cfg0.N) (xs : Vec F S2x8x1408 .f32) :
    carryAt m c t xs = carryAfter m c t.val t.isLt := by
  show carryAt m c t xs = carryAt m c t noCarry
  unfold carryAt
  exact carryLeft_const ..

theorem upAt_eq (c : Dev nD) (t : Fin cfg0.N) (xs : Vec F S2x8x1408 .f32) :
    upAt m c t xs = upAt m c t noCarry := upLeft_const ..

/-- What point `n` finds in the scratch. -/
def carryBefore (c : Dev nD) : (n : ℕ) → n < cfg0.N → Vec F S2x8x1408 .f32
  | 0, _ => noCarry
  | n + 1, hn => carryAfter m c n (Nat.lt_of_succ_lt hn)

/-- At the first point the gated product does not depend on the scratch either: zeros are taken in its place. -/
theorem actAt_zero (c : Dev nD) (t : Fin cfg0.N) (ht : t.val % 4 = 0) (xs xs' : Vec F S2x8x1408 .f32) :
    actAt m c t xs = actAt m c t xs' := by
  have h1 : ((grid0.coords t) 1).val = t.val / 1 % 4 := Pipeline.Grid.coords_val t 1 (by decide) rfl
  have hv : ((grid0.coords t) 1).val = 0 := by omega
  exact actLeft_first (hi := hv) ..

/-- Whatever an output's buffer or the scratch held, after point `t` it reads as named above. -/
theorem read_up (c : Dev nD) (t : Fin cfg0.N) (V' : View sig .tc .vmem S2x512x1408 .f32) (e) (xs : Vec F S2x8x1408 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs).1) = upAt m c t noCarry := by
  rw [← upAt_eq m c t xs]; unfold upAt upLeft
  exact View.read_writes_of_cover _ _ _ _ _ (fun y => up_cover (y := y) ..)

theorem read_act (c : Dev nD) (t : Fin cfg0.N) (V' : View sig .tc .vmem S512x1408 .bf16) (e) (xs : Vec F S2x8x1408 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs).2.1) = actAt m c t xs := by
  unfold actAt actLeft
  exact View.read_writes_of_cover _ _ _ _ _ (fun y => act_cover (y := y) ..)

theorem read_carry (c : Dev nD) (t : Fin cfg0.N) (V' : View sig .tc .vmem S2x8x1408 .f32) (e) (xs : Vec F S2x8x1408 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) xs).2.2.1) = carryAfter m c t.val t.isLt := by
  rw [← carryAt_eq m c t xs]; unfold carryAt carryLeft
  exact View.read_writes_of_cover _ _ _ _ _ (fun y => carry_cover (y := y) ..)

/-- The scratch before position `n`. -/
def Held (c : Dev nD) : (n : ℕ) → n ≤ cfg0.N → sProp (Res F)
  | 0, _ => Pipeline.ΦA spec0 c
  | n + 1, hn => iprop(iprop(owns (c : Thread nD τ) carry fullShare (carryAfter m c n hn)) ∗ (∃ r, prngReg c r))

theorem Held_zero (c : Dev nD) (n : ℕ) (h : n ≤ cfg0.N) (hz : n = 0) : Held m c n h = Pipeline.ΦA spec0 c := by
  subst hz; rfl

theorem Held_pos (c : Dev nD) (n : ℕ) (h : n ≤ cfg0.N) (hz : n ≠ 0) :
    Held m c n h = iprop(iprop(owns (c : Thread nD τ) carry fullShare (carryAfter m c (n - 1) (by omega))) ∗ (∃ r, prngReg c r)) := by
  cases n with
  | zero => exact absurd rfl hz
  | succ n => rfl

theorem carryBefore_pos (c : Dev nD) (n : ℕ) (h : n < cfg0.N) (hz : n ≠ 0) :
    carryBefore m c n h = carryAfter m c (n - 1) (by omega) := by
  cases n with
  | zero => exact absurd rfl hz
  | succ n => rfl

/-- What each window's buffer holds after a point, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => upAt m c t noCarry
    | ⟨6, _⟩ => actAt m c t (carryBefore m c t.val t.isLt)
  Φ t := Held m c t.val (Nat.le_of_lt_succ t.isLt)
  q w := Pipeline.shareOf spec0 w
  owed _ := 0

theorem arrays_eq (c : Dev nD) (w : Fin cfg0.W) : (dats m 0 c).A w = V m c (Pipeline.arrRef spec0 w) := by
  dsimp only [dats]

theorem held_at (c : Dev nD) (t : Fin cfg0.N) :
    (dats m 0 c).Φ t.castSucc = Held m c t.val (Nat.le_of_lt t.isLt) := by
  dsimp only [dats]; exact Pipeline.Dat.Φ_castSucc (Held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = upAt m c t noCarry := by dsimp only [dats]
theorem after6 (c : Dev nD) (t : Fin cfg0.N) : (dats m 0 c).after 6 t = actAt m c t (carryBefore m c t.val t.isLt) := by dsimp only [dats]

theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d
theorem before3 (c : Dev nD) (t : Fin cfg0.N) (d) : (dats m 0 c).before 3 t d = iblk m c 3 t :=
  before0_3_of m (dats m 0 c) (arrays_eq m c 3) (after3 m c) t d
theorem before4 (c : Dev nD) (t : Fin cfg0.N) (d) : (dats m 0 c).before 4 t d = iblk m c 4 t :=
  before0_4_of m (dats m 0 c) (arrays_eq m c 4) (after4 m c) t d

/-! ## The body at every point -/

/-- What a point is given: the scratch, and each window's buffer. -/
def given (c : Dev nD) (t : Fin cfg0.N) : sProp (Res F) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- What a point returns. -/
def returned (c : Dev nD) (t : Fin cfg0.N) : sProp (Res F) :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t))

set_option maxHeartbeats 6400000 in
theorem point_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4]
  rw [show (dats m 0 c).owesAt () t.succ = (dats m 0 c).owesAt () t.castSucc from rfl,
    after0, after1, after2, after3, after4, after5, after6,
    show (dats m 0 c).Φ t.succ = iprop(iprop(owns (c : Thread nD τ) carry fullShare (carryAfter m c t.val t.isLt)) ∗ (∃ r, prngReg c r)) from rfl]
  by_cases hz : t.val = 0
  · rw [held_at m c t, Held_zero m c _ _ hz, between_eq]
    iintro ⟨⟨⟨%d, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((pointRun c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) d).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hg]
    · isplitl [HS]
      · unfold owns; iexists _; isplitr
        swap; · iexact HS
        ipureintro
        exact read_carry m c t _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact read_up m c t _ _ _
    unfold owns; iexists _; isplitr
    swap; · iexact H6
    ipureintro
    exact (read_act m c t _ _ _).trans (actAt_zero m c t (by omega) _ _)
  · rw [held_at m c t, Held_pos m c _ _ hz, ← carryBefore_pos m c t.val t.isLt hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply ((pointRun c (grid0.coords t) (stg0 t) (hst0 t) (stg1 t) (hst1 t) (stg2 t) (hst2 t) (stg3 t) (hst3 t) (stg4 t) (hst4 t) (stg5 t) (hst5 t) (stg6 t) (hst6 t) carry (Memref.isWhole_whole _) (iblk m c 0 t) (iblk m c 1 t) (iblk m c 2 t) (iblk m c 3 t) (iblk m c 4 t) (carryBefore m c t.val t.isLt)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hg]
    · isplitl [HS]
      · unfold owns; iexists _; isplitr
        swap; · iexact HS
        ipureintro
        exact read_carry m c t _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact read_up m c t _ _ _
    unfold owns; iexists _; isplitr
    swap; · iexact H6
    ipureintro
    exact read_act m c t _ _ _

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point_sound m c t) rfl .rfl fun _ => .rfl

theorem enter (c : Dev nD) : Pipeline.ΦA spec0 c ⊢ (dats m 0 c).Φ 0 := by
  rw [show (dats m 0 c).Φ 0 = Held m c 0 (Nat.zero_le _) from rfl, Held_zero m c 0 _ rfl]
  try exact Idealize.SL.BI.Entails.refl _

theorem leave (c : Dev nD) : (dats m 0 c).Φ (Fin.last cfg0.N) ⊢ Pipeline.ΦA spec0 c := by
  rw [show (dats m 0 c).Φ (Fin.last cfg0.N) = Held m c (Fin.last cfg0.N).val (Nat.le_of_lt_succ (Fin.last cfg0.N).isLt) from rfl,
    Held_pos m c _ _ (by rw [Fin.val_last]; have : cfg0.N = 16 := N_0; omega), between_eq]
  iintro ⟨HS, Hg⟩
  isplitl [HS]
  · iexists _; iexact HS
  iexact Hg

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays_eq m) (hin := enter m) (hout := leave m)

theorem run_arrays : θ_run defs (onTc (τ := τ) (main (F := F))) (s₀ m ρ) (Pipeline.FramePost cfgs (dats m) 0 (V m)) :=
  (θ_run defs _ _).mono (fun _ h => h.1) (run_quiet m ρ)

/-- The arguments end as they began, and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays_eq m) (run_arrays m ρ)) ((θ_run defs _ _).mono (fun _ h => h.2) (run_quiet m ρ))

/-- The run with its two results named. -/
theorem run_named : θ_run defs (onTc (τ := τ) (main (F := F))) ⟨m, fun _ => 0, ρ⟩ fun r => ∀ c : Dev nD,
      r.2.mem ((c : Thread nD τ).loc main_v5_0) = (dats m 0 c).arrAt 5 cfg0.N
      ∧ r.2.mem ((c : Thread nD τ).loc main_v5_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 5, (h.1 c).1 6, (h.2.1 c)⟩)
    (θ_run_and (run_arrays m ρ) (unchanged m ρ))

end Cert.Kernel12Ideal.Body

end
-- ==== Proof.UpFwd.lean ====
module

public import proofs.«01_k».proof.Proof.UpBody
public import proofs.«01_k».proof.Proof.UpBodyBits
public import proofs.«01_k».proof.Proof.ConvBlock
public import proofs.«01_k».proof.Proof.Gen.Reference12Ideal.Read
public import Idealize.ShloMosaic.Lib.Pipeline.ValueKit
public import Idealize.ShloMosaic.Lib.Pointwise

@[expose] public section

/-! The up-projection, the convolution along the sequence and the gate of the forward pass: the kernel convolves 512
    rows at a time over the last rows of the block before them, the reference convolves all rows at once. -/

set_option maxRecDepth 16384

noncomputable section

namespace Cert.UpFwd
open Idealize.ShloMosaic Idealize.ShloMosaic.Pointwise Idealize.ShloMosaic.Pipeline Cert.Kernel12Ideal Cert.Kernel12Ideal.Gen
open Cert.Kernel12Ideal.Body Cert.ConvBack
open Idealize.ShloMosaic.TcCoe Idealize.SL.Sem

/-! ## The results -/

/-- Column `j` of half `h` among the columns of the weight. -/
def col (h : Fin 2) (j : Fin 5632) : Fin 11264 := ⟨h * 5632 + j, by omega⟩

/-- Column `j` of half `h` of the product. -/
def prod (H : FVec Ideal S2048x2048 .bf16) (U : FVec Ideal S2048x11264 .bf16) (h : Fin 2) (j : Fin 5632) (s : Fin 2048) : EReal :=
  ∑ k : Fin 2048, H (ix2 s k) * U (ix2 k (col h j))

/-- The same convolved along the sequence. -/
def mixed (H : FVec Ideal S2048x2048 .bf16) (U : FVec Ideal S2048x11264 .bf16) (W : FVec Ideal S3x11264 .f32) (B : FVec Ideal S11264 .f32)
    (h : Fin 2) (j : Fin 5632) (s : Fin 2048) : EReal :=
  conv (prod H U h j) (fun k => W (ix2 k (col h j))) (B (ix1 (col h j))) s

def resUp (H : FVec Ideal S2048x2048 .bf16) (U : FVec Ideal S2048x11264 .bf16) : FVec Ideal S2x2048x5632 .f32 :=
  fun i => prod H U (i 0) (i 2) (i 1)

def resAct (H : FVec Ideal S2048x2048 .bf16) (U : FVec Ideal S2048x11264 .bf16) (W : FVec Ideal S3x11264 .f32) (B : FVec Ideal S11264 .f32) :
    FVec Ideal S2048x5632 .bf16 :=
  fun i => mixed H U W B 0 (i 1) (i 0) * Ideal.logistic (mixed H U W B 0 (i 1) (i 0)) * mixed H U W B 1 (i 1) (i 0)

/-! ## One block -/

/-- Column `l` of a block of the product. -/
def blockProd (a : Vec Ideal S512x2048 .bf16) (b : Vec Ideal S1x2048x1408 .bf16) (l : Fin 1408) (r : Fin 512) : EReal :=
  ∑ k : Fin 2048, a (ix2 r k) * b (ix3 0 k l)

/-- A column of a block moved down by `d` rows, the eight rows before the block coming in at the top. -/
def lag (d : ℕ) (E : Fin 8 → EReal) (P : Fin 512 → EReal) (r : Fin 512) : EReal :=
  if d ≤ (r : ℕ) then P ⟨r - d, by omega⟩ else E ⟨(8 + r - d) % 8, by omega⟩

/-- The convolution within a block. -/
def blockConv (E : Fin 8 → EReal) (P : Fin 512 → EReal) (W : Fin 3 → EReal) (B : EReal) (r : Fin 512) : EReal :=
  B + W 0 * lag 2 E P r + W 1 * lag 1 E P r + W 2 * P r

/-- The eight rows before the block: zeros at a first block, what the scratch holds at a later one. -/
def edge (i : grid0.Coords) (xs : Vec Ideal S1x8x1408 .f32) (l : Fin 1408) (q : Fin 8) : EReal :=
  if (i 1).val = 0 then 0 else xs (ix3 0 q l)

theorem first_word : ∀ a : Fin 4, Scalar.cmpi .eq (BitVec.ofNat 32 a) 0#32 = if (a : ℕ) = 0 then 1#1 else 0#1 := by decide

theorem select_one {α : Type} (a b : α) : Scalar.select 1#1 a b = a := rfl
theorem select_zero {α : Type} (a b : α) : Scalar.select 0#1 a b = b := rfl

theorem pay2_at (a : Vec Ideal S512x2048 .bf16) (b : Vec Ideal S1x2048x1408 .bf16) (r : Fin 512) (l : Fin 1408) :
    k0_pay2 (F := Ideal) a b (ix2 r l) = blockProd a b l r := by
  pointwise [k0_pay2, blockProd]
theorem pay11_at (a : Vec Ideal S512x2048 .bf16) (b : Vec Ideal S1x2048x1408 .bf16) (r : Fin 512) (l : Fin 1408) :
    k0_pay11 (F := Ideal) a b (ix2 r l) = blockProd a b l r := by
  pointwise [k0_pay11, blockProd]

/-- Rotating the eight rows and the block by `d` and dropping the first eight moves the block down by `d`. -/
theorem turned (d : ℕ) (hd : d ≤ 2) (E : Fin 8 → EReal) (P : Fin 512 → EReal) (r : Fin 512) :
    (if h : (8 + (r : ℕ) + 520 - d) % 520 < 8 then E ⟨(8 + (r : ℕ) + 520 - d) % 520, h⟩
      else P ⟨(8 + (r : ℕ) + 520 - d) % 520 - 8, by omega⟩) = lag d E P r := by
  have hr := r.isLt
  unfold lag
  split_ifs with h1 h2 h2
  · omega
  · congr 2; omega
  · congr 2; omega
  · omega

theorem pay5_at (i : grid0.Coords) (a : Vec Ideal S512x2048 .bf16) (b : Vec Ideal S1x2048x1408 .bf16) (xs : Vec Ideal S1x8x1408 .f32)
    (q : Fin 520) (l : Fin 1408) : k0_pay5 (F := Ideal) i a b xs (ix2 q l)
      = if h : (q : ℕ) < 8 then edge i xs l ⟨q, h⟩ else blockProd a b l ⟨q - 8, by omega⟩ := by
  have hw := first_word (i 1)
  unfold edge
  by_cases h1 : (i 1).val = 0
  · rw [if_pos h1] at hw
    simp only [k0_pay5, hw, if_pos h1, select_one]
    pointwise [pay2_at]
  · rw [if_neg h1] at hw
    simp only [k0_pay5, hw, if_neg h1, select_zero]
    pointwise [pay2_at]

theorem pay14_at (i : grid0.Coords) (a : Vec Ideal S512x2048 .bf16) (b : Vec Ideal S1x2048x1408 .bf16) (xs : Vec Ideal S1x8x1408 .f32)
    (q : Fin 520) (l : Fin 1408) : k0_pay14 (F := Ideal) (Scalar.cmpi .eq (BitVec.ofNat 32 (i 1).val) 0#32) a b xs (ix2 q l)
      = if h : (q : ℕ) < 8 then edge i xs l ⟨q, h⟩ else blockProd a b l ⟨q - 8, by omega⟩ := by
  have hw := first_word (i 1)
  unfold edge
  by_cases h1 : (i 1).val = 0
  · rw [if_pos h1] at hw
    simp only [k0_pay14, hw, if_pos h1, select_one]
    pointwise [pay11_at]
  · rw [if_neg h1] at hw
    simp only [k0_pay14, hw, if_neg h1, select_zero]
    pointwise [pay11_at]

theorem pay6_at (i : grid0.Coords) (a : Vec Ideal S512x2048 .bf16) (b : Vec Ideal S1x2048x1408 .bf16) (xs : Vec Ideal S1x8x1408 .f32)
    (r : Fin 512) (l : Fin 1408) : k0_pay6 (F := Ideal) i a b xs (ix2 r l) = lag 1 (edge i xs l) (blockProd a b l) r := by
  pointwise [k0_pay6, pay5_at]
  exact turned 1 (by omega) _ _ r
theorem pay15_at (i : grid0.Coords) (a : Vec Ideal S512x2048 .bf16) (b : Vec Ideal S1x2048x1408 .bf16) (xs : Vec Ideal S1x8x1408 .f32)
    (r : Fin 512) (l : Fin 1408) : k0_pay15 (F := Ideal) (Scalar.cmpi .eq (BitVec.ofNat 32 (i 1).val) 0#32) a b xs (ix2 r l)
      = lag 1 (edge i xs l) (blockProd a b l) r := by
  pointwise [k0_pay15, pay14_at]
  exact turned 1 (by omega) _ _ r
theorem pay8_at (i : grid0.Coords) (a : Vec Ideal S512x2048 .bf16) (b : Vec Ideal S1x2048x1408 .bf16) (xs : Vec Ideal S1x8x1408 .f32)
    (w : Vec Ideal S1x3x1408 .f32) (v : Vec Ideal S1x1x1408 .f32) (r : Fin 512) (l : Fin 1408) :
    k0_pay8 (F := Ideal) i a b xs w v (ix2 r l) = v (ix3 0 0 l) + w (ix3 0 0 l) * lag 2 (edge i xs l) (blockProd a b l) r := by
  pointwise [k0_pay8, k0_pay7, pay5_at]
  rw [turned 2 (by omega) (edge i xs l) (blockProd a b l) r]
theorem pay18_at (i : grid0.Coords) (a : Vec Ideal S512x2048 .bf16) (b : Vec Ideal S1x2048x1408 .bf16) (xs : Vec Ideal S1x8x1408 .f32)
    (w : Vec Ideal S1x3x1408 .f32) (r : Fin 512) (l : Fin 1408) :
    k0_pay18 (F := Ideal) (Scalar.cmpi .eq (BitVec.ofNat 32 (i 1).val) 0#32) a b xs w (ix2 r l)
      = w (ix3 0 0 l) * lag 2 (edge i xs l) (blockProd a b l) r := by
  pointwise [k0_pay18, k0_pay16, pay14_at]
  rw [turned 2 (by omega) (edge i xs l) (blockProd a b l) r]

section Point

variable (c : Dev nD) (i : grid0.Coords)
  (arg2 : Memref sig .tc .vmem S512x2048 .bf16) (harg2 : arg2.IsWhole)
  (arg3 : Memref sig .tc .vmem S1x2048x1408 .bf16) (harg3 : arg3.IsWhole)
  (arg4 : Memref sig .tc .vmem S1x2048x1408 .bf16) (harg4 : arg4.IsWhole)
  (arg5 : Memref sig .tc .vmem S2x3x1408 .f32) (harg5 : arg5.IsWhole)
  (arg6 : Memref sig .tc .vmem S2x1x1408 .f32) (harg6 : arg6.IsWhole)
  (arg7 : Memref sig .tc .vmem S2x512x1408 .f32) (harg7 : arg7.IsWhole)
  (arg8 : Memref sig .tc .vmem S512x1408 .bf16) (harg8 : arg8.IsWhole)
  (arg9 : Memref sig .tc .vmem S2x8x1408 .f32) (harg9 : arg9.IsWhole)
  (x0 : Vec Ideal S512x2048 .bf16) (x1 : Vec Ideal S1x2048x1408 .bf16) (x2 : Vec Ideal S1x2048x1408 .bf16) (x3 : Vec Ideal S2x3x1408 .f32) (x4 : Vec Ideal S2x1x1408 .f32)
  (xs : Vec Ideal S2x8x1408 .f32)

/-- The scratch's rows of half `h`, its taps and its bias. -/
def rows (h : Fin 2) (q : Fin 8) (l : Fin 1408) : EReal := if (i 1).val = 0 then 0 else xs (ix3 h q l)

theorem edge_zero : edge i (View.ld xs (Rect.unit ![0, 0, 0] ![1, 8, 1408] inb_S2x8x1408_S1x8x1408_0_0_0)) = fun l q => rows i xs 0 q l := by
  funext l q
  unfold edge rows
  pointwise
theorem edge_one : edge i (View.ld xs (Rect.unit ![1, 0, 0] ![1, 8, 1408] inb_S2x8x1408_S1x8x1408_1_0_0)) = fun l q => rows i xs 1 q l := by
  funext l q
  unfold edge rows
  pointwise

theorem act_at (r : Fin 512) (l : Fin 1408) :
    actLeft c i arg2 harg2 arg3 harg3 arg4 harg4 arg5 harg5 arg6 harg6 arg7 harg7 arg8 harg8 arg9 harg9 x0 x1 x2 x3 x4 xs (ix2 r l)
      = blockConv (fun q => rows i xs 0 q l) (blockProd x0 x1 l) (fun k => x3 (ix3 0 k l)) (x4 (ix3 0 0 l)) r
        * Ideal.logistic (blockConv (fun q => rows i xs 0 q l) (blockProd x0 x1 l) (fun k => x3 (ix3 0 k l)) (x4 (ix3 0 0 l)) r)
        * blockConv (fun q => rows i xs 1 q l) (blockProd x0 x2 l) (fun k => x3 (ix3 1 k l)) (x4 (ix3 1 0 l)) r := by
  unfold actLeft pointRun
  dsimp only
  unfold pointRun.sl.r_5 pointRun.sl.r_7 pointRun.sl.r_10 pointRun.sl.r_8 pointRun.sl.r_9 pointRun.sl.r_6 pointRun.sl.r_1
    pointRun.sl.r_2 pointRun.sl.r_4 pointRun.sl.r_3 pointRun.sl.v0 pointRun.sl.v45 pointRun.sl.r
  simp (disch := decide) only [View.read_writes_junk_eq_canon, View.canon_cons_unit_lit',
        View.ld_unit_lit', View.readCov_unit_lit', View.readCov_cons_unit_lit', View.readAt_eq_ld,
        Memref.IsWhole.read_unread]
  pointwise [k0_pay1, k0_pay10, k0_pay9, k0_pay7, k0_pay16, k0_pay17, pay2_at, pay6_at, pay8_at, pay11_at, pay15_at, pay18_at]
  rw [edge_zero, edge_one]
  rfl

theorem up_at (h : Fin 2) (r : Fin 512) (l : Fin 1408) :
    upLeft c i arg2 harg2 arg3 harg3 arg4 harg4 arg5 harg5 arg6 harg6 arg7 harg7 arg8 harg8 arg9 harg9 x0 x1 x2 x3 x4 xs (ix3 h r l) = blockProd x0 (if h = 0 then x1 else x2) l r := by
  unfold upLeft pointRun
  dsimp only
  simp (disch := decide) only [View.read_writes_junk_eq_canon, View.canon_cons_unit_lit',
        View.ld_unit_lit', View.readCov_unit_lit', View.readCov_cons_unit_lit', View.readAt_eq_ld,
        Memref.IsWhole.read_unread]
  canon_tiles x y
  case piece0 =>
    obtain rfl : h = 1 := Fin.ext (by change (h : ℕ) = 1 + _ at y0; show (h : ℕ) = 1; omega)
    obtain rfl : x = ix3 0 r l := by
      blk_ext [y1, y2]
      exacts [y1.symm, y2.symm]
    pointwise [k0_pay12, pay11_at, if_neg (show ¬ (1 : Fin 2) = 0 by decide)]
  case piece1 =>
    obtain rfl : h = 0 := Fin.ext (by change (h : ℕ) = _ at y0; show (h : ℕ) = 0; omega)
    obtain rfl : x = ix3 0 r l := by
      blk_ext [y1, y2]
      exacts [y1.symm, y2.symm]
    pointwise [k0_pay3, pay2_at, if_pos]

theorem carry_at (h : Fin 2) (q : Fin 8) (l : Fin 1408) :
    carryLeft c i arg2 harg2 arg3 harg3 arg4 harg4 arg5 harg5 arg6 harg6 arg7 harg7 arg8 harg8 arg9 harg9 x0 x1 x2 x3 x4 xs (ix3 h q l) = blockProd x0 (if h = 0 then x1 else x2) l ⟨504 + q, by omega⟩ := by
  unfold carryLeft pointRun
  dsimp only
  simp (disch := decide) only [View.read_writes_junk_eq_canon, View.canon_cons_unit_lit',
        View.ld_unit_lit', View.readCov_unit_lit', View.readCov_cons_unit_lit', View.readAt_eq_ld,
        Memref.IsWhole.read_unread]
  canon_tiles x y
  case piece0 =>
    obtain rfl : h = 1 := Fin.ext (by change (h : ℕ) = 1 + _ at y0; show (h : ℕ) = 1; omega)
    obtain rfl : x = ix3 0 q l := by
      blk_ext [y1, y2]
      exacts [y1.symm, y2.symm]
    pointwise [k0_pay13, pay11_at, if_neg (show ¬ (1 : Fin 2) = 0 by decide)]
  case piece1 =>
    obtain rfl : h = 0 := Fin.ext (by change (h : ℕ) = _ at y0; show (h : ℕ) = 0; omega)
    obtain rfl : x = ix3 0 q l := by
      blk_ext [y1, y2]
      exacts [y1.symm, y2.symm]
    pointwise [k0_pay4, pay2_at, if_pos]

end Point

/-! ## All blocks -/

theorem idx : ∀ t : Fin cfg0.N, win0_0.index t = ![t.val % 4, 0] ∧ win0_1.index t = ![t.val / 4, 0, 0]
    ∧ win0_2.index t = ![t.val / 4 + 4, 0, 0] ∧ win0_3.index t = ![0, 0, t.val / 4] ∧ win0_4.index t = ![0, 0, t.val / 4]
    ∧ win0_5.index t = ![0, t.val % 4, t.val / 4] ∧ win0_6.index t = ![t.val % 4, t.val / 4] ∧ t.val < 16 :=
  (by decide +kernel : ∀ t : Fin grid0.N, _)

variable (m : (ℓ : Loc nD τ sig) → Buf (Elt Ideal) ℓ) (c : Dev nD)

/-- The row and the column of the result that row `r` and column `l` of block `t` are. -/
def row (t : Fin cfg0.N) (r : Fin 512) : Fin 2048 := ⟨t % 4 * 512 + r, by omega⟩
def column (t : Fin cfg0.N) (l : Fin 1408) : Fin 5632 := ⟨t / 4 * 1408 + l, by have := (idx t).2.2.2.2.2.2.2; omega⟩

/-- The arguments. -/
def aH : FVec Ideal S2048x2048 .bf16 := m ((c : Thread nD τ).loc main_arg0)
def aU : FVec Ideal S2048x11264 .bf16 := m ((c : Thread nD τ).loc main_arg1)
def aW : FVec Ideal S3x11264 .f32 := m ((c : Thread nD τ).loc main_arg2)
def aB : FVec Ideal S11264 .f32 := m ((c : Thread nD τ).loc main_arg3)

theorem blkH (t : Fin cfg0.N) (r : Fin 512) (k : Fin 2048) : iblk m c 0 t (ix2 r k) = aH m c (ix2 (row t r) k) := by
  blk_point [iblk, idx t, row, aH]
theorem blkU0 (t : Fin cfg0.N) (k : Fin 2048) (l : Fin 1408) : iblk m c 1 t (ix3 0 k l) = aU m c (ix2 k (col 0 (column t l))) := by
  blk_point [iblk, idx t, column, col, aU]
theorem blkU1 (t : Fin cfg0.N) (k : Fin 2048) (l : Fin 1408) : iblk m c 2 t (ix3 0 k l) = aU m c (ix2 k (col 1 (column t l))) := by
  blk_point [iblk, idx t, column, col, aU]
theorem blkW (t : Fin cfg0.N) (h : Fin 2) (k : Fin 3) (l : Fin 1408) :
    iblk m c 3 t (ix3 h k l) = aW m c (ix2 k (col h (column t l))) := by
  blk_point [iblk, idx t, column, col, aW]
theorem blkB (t : Fin cfg0.N) (h : Fin 2) (l : Fin 1408) :
    iblk m c 4 t (ix3 h 0 l) = aB m c (ix1 (col h (column t l))) := by
  blk_point [iblk, idx t, column, col, aB]

theorem block_prod0 (t : Fin cfg0.N) (l : Fin 1408) (r : Fin 512) :
    blockProd (iblk m c 0 t) (iblk m c 1 t) l r = prod (aH m c) (aU m c) 0 (column t l) (row t r) := by
  unfold blockProd prod
  exact Finset.sum_congr rfl fun k _ => by rw [blkH, blkU0]
theorem block_prod1 (t : Fin cfg0.N) (l : Fin 1408) (r : Fin 512) :
    blockProd (iblk m c 0 t) (iblk m c 2 t) l r = prod (aH m c) (aU m c) 1 (column t l) (row t r) := by
  unfold blockProd prod
  exact Finset.sum_congr rfl fun k _ => by rw [blkH, blkU1]
theorem block_prod (t : Fin cfg0.N) (h : Fin 2) (l : Fin 1408) (r : Fin 512) :
    blockProd (iblk m c 0 t) (if h = 0 then iblk m c 1 t else iblk m c 2 t) l r
      = prod (aH m c) (aU m c) h (column t l) (row t r) := by
  obtain rfl | rfl : h = 0 ∨ h = 1 := by omega
  · rw [if_pos rfl, block_prod0]
  · rw [if_neg (by decide), block_prod1]

theorem first_coord (t : Fin cfg0.N) : ((grid0.coords t) 1).val = t.val % 4 := by
  have h1 : ((grid0.coords t) 1).val = t.val / 1 % 4 := Pipeline.Grid.coords_val t 1 (by decide) rfl
  omega

/-- What a later point finds in the scratch: the product's eight rows before the point's block. -/
theorem rows_eq (t : Fin cfg0.N) (h : Fin 2) (q : Fin 8) (l : Fin 1408) :
    rows (grid0.coords t) (carryBefore m c t.val t.isLt) h q l
      = if t.val % 4 = 0 then 0 else prod (aH m c) (aU m c) h (column t l) ⟨t.val % 4 * 512 - 8 + q, by omega⟩ := by
  unfold rows
  rw [first_coord]
  by_cases h0 : t.val % 4 = 0
  · rw [if_pos h0, if_pos h0]
  · rw [if_neg h0, if_neg h0, carryBefore_pos m c t.val t.isLt (by omega)]
    unfold carryAfter carryAt
    refine (carry_at ..).trans ((block_prod ..).trans ?_)
    have e1 : column ⟨t.val - 1, Nat.lt_of_le_of_lt (Nat.sub_le _ _) t.isLt⟩ l = column t l :=
      Fin.ext (by show (t.val - 1) / 4 * 1408 + (l : ℕ) = t.val / 4 * 1408 + l; congr 2; omega)
    have e2 : row ⟨t.val - 1, Nat.lt_of_le_of_lt (Nat.sub_le _ _) t.isLt⟩ ⟨504 + q, by omega⟩
        = ⟨t.val % 4 * 512 - 8 + q, by omega⟩ :=
      Fin.ext (by show (t.val - 1) % 4 * 512 + (504 + (q : ℕ)) = t.val % 4 * 512 - 8 + q; omega)
    rw [e1, e2]

/-- So a block moved down over the scratch's rows is the whole column moved down. -/
theorem lag_eq (d : ℕ) (hd : d ≤ 2) (X : Fin 2048 → EReal) (t : Fin cfg0.N) (r : Fin 512) :
    lag d (fun q => if t.val % 4 = 0 then 0 else X ⟨t.val % 4 * 512 - 8 + q, by omega⟩) (fun r => X (row t r)) r
      = down d X (row t r) := by
  have hr := r.isLt
  have hv : (row t r : ℕ) = t.val % 4 * 512 + r := rfl
  unfold lag down
  by_cases h1 : d ≤ (r : ℕ)
  · rw [if_pos h1, if_pos (by omega)]
    exact congrArg X (Fin.ext (by show t.val % 4 * 512 + ((r : ℕ) - d) = (row t r : ℕ) - d; omega))
  · rw [if_neg h1]
    dsimp only
    by_cases h0 : t.val % 4 = 0
    · rw [if_pos h0, if_neg (by omega)]
    · rw [if_neg h0, if_pos (by omega)]
      exact congrArg X (Fin.ext (by show t.val % 4 * 512 - 8 + (8 + (r : ℕ) - d) % 8 = (row t r : ℕ) - d; omega))

theorem block_mixed0 (t : Fin cfg0.N) (l : Fin 1408) (r : Fin 512) :
    blockConv (fun q => rows (grid0.coords t) (carryBefore m c t.val t.isLt) 0 q l) (blockProd (iblk m c 0 t) (iblk m c 1 t) l)
      (fun k => iblk m c 3 t (ix3 0 k l)) (iblk m c 4 t (ix3 0 0 l)) r
      = mixed (aH m c) (aU m c) (aW m c) (aB m c) 0 (column t l) (row t r) := by
  unfold blockConv mixed conv
  rw [funext fun r => block_prod0 m c t l r, funext fun q => rows_eq m c t 0 q l, lag_eq 2 (by omega), lag_eq 1 (by omega)]
  simp only [blkW, blkB]
theorem block_mixed1 (t : Fin cfg0.N) (l : Fin 1408) (r : Fin 512) :
    blockConv (fun q => rows (grid0.coords t) (carryBefore m c t.val t.isLt) 1 q l) (blockProd (iblk m c 0 t) (iblk m c 2 t) l)
      (fun k => iblk m c 3 t (ix3 1 k l)) (iblk m c 4 t (ix3 1 0 l)) r
      = mixed (aH m c) (aU m c) (aW m c) (aB m c) 1 (column t l) (row t r) := by
  unfold blockConv mixed conv
  rw [funext fun r => block_prod1 m c t l r, funext fun q => rows_eq m c t 1 q l, lag_eq 2 (by omega), lag_eq 1 (by omega)]
  simp only [blkW, blkB]

theorem final_up : (dats m 0 c).arrAt 5 cfg0.N = resUp (aH m c) (aU m c) := by
  refine (dats m 0 c).arrAt_eq_of_covers 5 _ (by decide +kernel) fun t _ y => ?_
  blk_simp
  rw [after5]
  obtain ⟨h, r, l, rfl⟩ : ∃ (h : Fin 2) (r : Fin 512) (l : Fin 1408), y = ix3 h r l :=
    ⟨y 0, y 1, y 2, by funext a; fin_cases a <;> rfl⟩
  unfold upAt
  refine (up_at ..).trans ((block_prod ..).trans ?_)
  have e : (win0_5.blk t).view.emb (ix3 h r l) = ix3 h (row t r) (column t l) := by blk_ext [idx t, row, column]
  rw [e]
  rfl

theorem final_act : (dats m 0 c).arrAt 6 cfg0.N = resAct (aH m c) (aU m c) (aW m c) (aB m c) := by
  refine (dats m 0 c).arrAt_eq_of_covers 6 _ (by decide +kernel) fun t _ y => ?_
  blk_simp
  rw [after6]
  obtain ⟨r, l, rfl⟩ : ∃ (r : Fin 512) (l : Fin 1408), y = ix2 r l := ⟨y 0, y 1, by funext a; fin_cases a <;> rfl⟩
  unfold actAt
  refine (act_at ..).trans ?_
  rw [block_mixed0, block_mixed1]
  have e : (win0_6.blk t).view.emb (ix2 r l) = ix2 (row t r) (column t l) := by blk_ext [idx t, row, column]
  rw [e]
  rfl

/-! ## The reference -/

section Reference

open Cert.Reference12Ideal.Read

variable (x0 : FVec Ideal S2048x2048 .bf16) (x1 : FVec Ideal S2048x11264 .bf16) (x2 : FVec Ideal S3x11264 .f32)
  (x3 : FVec Ideal S11264 .f32)

/-- Column `n` of the product. -/
def whole (n : Fin 11264) (s : Fin 2048) : EReal := ∑ k : Fin 2048, x0 (ix2 s k) * x1 (ix2 k n)

theorem v2_at (s : Fin 2048) (n : Fin 11264) : val_main_v2 (F := Ideal) x0 x1 (ix2 s n) = whole x0 x1 n s := by
  pointwise [val_main_v2, val_main_v1, val_main_v0, whole]
theorem v4_at (r : Fin 2050) (n : Fin 11264) :
    val_main_v4 (F := Ideal) x0 x1 (ix2 r n) = if h : 2 ≤ (r : ℕ) then whole x0 x1 n ⟨r - 2, by omega⟩ else 0 := by
  pointwise [val_main_v4, val_main_v3, val_main_cst, v2_at]
  have hr := r.isLt
  by_cases h : 2 ≤ (r : ℕ)
  · rw [dif_pos h, dif_neg (by omega)]
  · rw [dif_neg h, dif_pos (by omega)]
theorem v5_at (s : Fin 2048) (n : Fin 11264) : val_main_v5 (F := Ideal) x0 x1 (ix2 s n) = down 2 (whole x0 x1 n) s := by
  pointwise [val_main_v5, v4_at]
  rfl
theorem v14_at (s : Fin 2048) (n : Fin 11264) : val_main_v14 (F := Ideal) x0 x1 (ix2 s n) = down 1 (whole x0 x1 n) s := by
  pointwise [val_main_v14, v4_at]
  unfold down
  split_ifs with h h' h'
  · congr 1; exact Fin.ext (by show 1 + (s : ℕ) - 2 = s - 1; omega)
  · omega
  · omega
  · rfl
theorem v21_at (s : Fin 2048) (n : Fin 11264) : val_main_v21 (F := Ideal) x0 x1 (ix2 s n) = whole x0 x1 n s := by
  pointwise [val_main_v21, v4_at]
theorem v27_at (s : Fin 2048) (n : Fin 11264) :
    val_main_v27 (F := Ideal) x0 x1 x2 x3 (ix2 s n) = conv (whole x0 x1 n) (fun k => x2 (ix2 k n)) (x3 (ix1 n)) s := by
  pointwise [val_main_v27, val_main_v26, val_main_v25, val_main_v24, val_main_v23, val_main_v22, val_main_v20, val_main_v19,
    val_main_v18, val_main_v17, val_main_v16, val_main_v15, val_main_v13, val_main_v12, val_main_v11, val_main_v10,
    val_main_v9, val_main_v8, val_main_v7, val_main_v6, v5_at, v14_at, v21_at, conv]
  rw [mul_comm (x2 (ix2 0 n)), mul_comm (x2 (ix2 1 n)), mul_comm (x2 (ix2 2 n))]
theorem col0 (j : Fin 5632) : (⟨(j : ℕ), by omega⟩ : Fin 11264) = col 0 j := Fin.ext (by show (j : ℕ) = 0 * 5632 + j; omega)
theorem col1 (j : Fin 5632) : (⟨5632 + (j : ℕ), by omega⟩ : Fin 11264) = col 1 j :=
  Fin.ext (by show 5632 + (j : ℕ) = 1 * 5632 + j; omega)
theorem v28_at (s : Fin 2048) (j : Fin 5632) : val_main_v28 (F := Ideal) x0 x1 x2 x3 (ix2 s j) = mixed x0 x1 x2 x3 0 j s := by
  pointwise [val_main_v28, v27_at]
  simp only [col0]; rfl
theorem v29_at (s : Fin 2048) (j : Fin 5632) : val_main_v29 (F := Ideal) x0 x1 x2 x3 (ix2 s j) = mixed x0 x1 x2 x3 1 j s := by
  pointwise [val_main_v29, v27_at]
  simp only [col1]; rfl

theorem ref_act : val_main_v34 (F := Ideal) x0 x1 x2 x3 = resAct x0 x1 x2 x3 := by
  funext i
  obtain ⟨s, j, rfl⟩ : ∃ (s : Fin 2048) (j : Fin 5632), i = ix2 s j := ⟨i 0, i 1, by funext a; fin_cases a <;> rfl⟩
  pointwise [val_main_v34, val_main_v33, val_main_v32, val_main_call0_v5, val_main_call0_v4, val_main_call0_v3, val_main_call0_v2,
    val_main_call0_v1, val_main_call0_v0, val_main_call0_cst, val_main_call0_cst_0, v28_at, v29_at]
  rfl

theorem ref_up : val_main_v31 (F := Ideal) x0 x1 = resUp x0 x1 := by
  funext i
  obtain ⟨h, s, j, rfl⟩ : ∃ (h : Fin 2) (s : Fin 2048) (j : Fin 5632), i = ix3 h s j :=
    ⟨i 0, i 1, i 2, by funext a; fin_cases a <;> rfl⟩
  pointwise [val_main_v31, val_main_v30, v2_at]
  rfl

end Reference

end Cert.UpFwd

end
-- ==== Proof.DownFwd.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pointwise

@[expose] public section

/-! The product after the gate and the residual: one sum over the columns, and the residual. -/

set_option maxRecDepth 16384

noncomputable section

namespace Cert.DownFwd
open Idealize.ShloMosaic Idealize.ShloMosaic.Pointwise Idealize.ShloMosaic.Pipeline Cert.Kernel13Ideal Cert.Kernel13Ideal.Gen
open Idealize.ShloMosaic.TcCoe Idealize.SL.Sem

/-- The result: row `i 0` of the activations against column `i 1` of the weight, and the residual. -/
def res (A : FVec Ideal S2048x5632 .bf16) (W : FVec Ideal S5632x2048 .bf16) (X : FVec Ideal S2048x2048 .f32) :
    FVec Ideal S2048x2048 .f32 := fun i => ∑ k : Fin 5632, A (ix2 (i 0) k) * W (ix2 k (i 1)) + X i

theorem out_at (x : Vec Ideal S512x5632 .bf16) (y : Vec Ideal S5632x1024 .bf16) (z : Vec Ideal S512x1024 .f32) (r : Fin 512)
    (n : Fin 1024) : out0_3 (F := Ideal) x y z (ix2 r n) = ∑ k : Fin 5632, x (ix2 r k) * y (ix2 k n) + z (ix2 r n) := by
  unfold out0_3
  canon_tiles q h
  obtain rfl : q = ix2 r n := by blk_ext [h0, h1]
  pointwise [k0_pay1]

theorem idx : ∀ t : Fin cfg0.N, win0_0.index t = ![t.val % 4, 0] ∧ win0_1.index t = ![0, t.val / 4]
    ∧ win0_2.index t = ![t.val % 4, t.val / 4] ∧ win0_3.index t = ![t.val % 4, t.val / 4]
    ∧ t.val < 8 := (by decide +kernel : ∀ t : Fin grid0.N, _)

variable (m : (ℓ : Loc nD τ sig) → Buf (Elt Ideal) ℓ) (c : Dev nD)

/-- The row and the column of the result that row `r` and column `n` of block `t` are. -/
def row (t : Fin cfg0.N) (r : Fin 512) : Fin 2048 := ⟨t % 4 * 512 + r, by omega⟩
def column (t : Fin cfg0.N) (n : Fin 1024) : Fin 2048 := ⟨t / 4 * 1024 + n, by have := (idx t).2.2.2.2; omega⟩

theorem blkA (t : Fin cfg0.N) (r : Fin 512) (k : Fin 5632) :
    iblk m c 0 t (ix2 r k) = m ((c : Thread nD τ).loc main_arg0) (ix2 (row t r) k) := by
  blk_point [iblk, idx t, row]
theorem blkW (t : Fin cfg0.N) (n : Fin 1024) (k : Fin 5632) :
    iblk m c 1 t (ix2 k n) = m ((c : Thread nD τ).loc main_arg1) (ix2 k (column t n)) := by
  blk_point [iblk, idx t, column]
theorem blkX (t : Fin cfg0.N) (r : Fin 512) (n : Fin 1024) :
    iblk m c 2 t (ix2 r n) = m ((c : Thread nD τ).loc main_arg2) (ix2 (row t r) (column t n)) := by
  blk_point [iblk, idx t, row, column]

theorem final : (dats m 0 c).arrAt 3 cfg0.N = res (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨r, n, rfl⟩ : ∃ (r : Fin 512) (n : Fin 1024), y = ix2 r n := ⟨y 0, y 1, by funext a; fin_cases a <;> rfl⟩
  refine (out_at _ _ _ r n).trans ?_
  simp only [blkA, blkW, blkX]
  have e : (win0_3.blk t).view.emb (ix2 r n) = ix2 (row t r) (column t n) := by blk_ext [idx t, row, column]
  rw [e]
  rfl

theorem ref (x0 : FVec Ideal S2048x5632 .bf16) (x1 : FVec Ideal S5632x2048 .bf16) (x2 : FVec Ideal S2048x2048 .f32) :
    Cert.Reference13Ideal.Read.val_main_v3 (F := Ideal) x0 x1 x2 = res x0 x1 x2 := by
  funext i
  obtain ⟨r, n, rfl⟩ : ∃ (r : Fin 2048) (n : Fin 2048), i = ix2 r n := ⟨i 0, i 1, by funext a; fin_cases a <;> rfl⟩
  pointwise [Cert.Reference13Ideal.Read.val_main_v3, Cert.Reference13Ideal.Read.val_main_v2, Cert.Reference13Ideal.Read.val_main_v1, Cert.Reference13Ideal.Read.val_main_v0, res]
  exact add_comm _ _

end Cert.DownFwd

end
-- ==== Proof.SguFwd.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise
public import Idealize.ShloMosaic.Lib.WholeRead

@[expose] public section

/-! The spatial gating unit's forward pass. -/

set_option maxRecDepth 16384

noncomputable section

namespace Cert.SguFwd
open Idealize.ShloMosaic Idealize.ShloMosaic.Pointwise Idealize.ShloMosaic.Pipeline Cert.Kernel15Ideal Cert.Kernel15Ideal.Gen
open Idealize.ShloMosaic.TcCoe Idealize.SL.Sem

/-- The gate's nonlinearity. -/
def gelu (x : EReal) : EReal :=
  Ideal.ofBits .f32 0x3F000000#32 * x * (1 + FloatOps.erf (F := Ideal) (φ := .f32) (x * Ideal.ofBits .f32 0x3F3504F3#32))

/-- The reciprocal of the root of a group's mean square. -/
def scale (f : Fin 128 → EReal) : EReal :=
  Ideal.rsqrt (Ideal.div (∑ k, f k * f k) (Ideal.ofBits .f32 0x43000000#32) + Ideal.ofBits .f32 0x358637BD#32)

/-- Row `s` of the block of rows that row `r` lies in. -/
def peer (r : Fin 2048) (s : Fin 128) : Fin 2048 := ⟨128 * (r.val / 128) + s, by omega⟩
/-- The place of row `r` in its block of rows. -/
def inner (r : Fin 2048) : Fin 128 := ⟨r.val % 128, by omega⟩

theorem peer_val {r : Fin 2048} {q : ℕ} {a : Fin 128} (h : r.val = 128 * q + a.val) (s : Fin 128) : (peer r s).val = 128 * q + s.val := by
  show 128 * (r.val / 128) + s.val = _; omega
theorem peer_self {r : Fin 2048} {q : ℕ} {a : Fin 128} (h : r.val = 128 * q + a.val) : peer r a = r :=
  Fin.ext ((peer_val h a).trans h.symm)
theorem inner_of {r : Fin 2048} {q : ℕ} {a : Fin 128} (h : r.val = 128 * q + a.val) : inner r = a :=
  Fin.ext (by show r.val % 128 = _; omega)

/-- A group's gated rows before the last normalisation, from the mixed rows. -/
def gated (u v : Fin 2048 → Fin 128 → EReal) (w : Fin 128 → Fin 128 → EReal) (b : Fin 128 → EReal) (r : Fin 2048) (n : Fin 128) : EReal :=
  gelu (u r n) * ((∑ s, v (peer r s) n * w (inner r) s) + b (inner r))
/-- A group's result. -/
def outv (u v : Fin 2048 → Fin 128 → EReal) (w : Fin 128 → Fin 128 → EReal) (b g : Fin 128 → EReal) (r : Fin 2048) (n : Fin 128) : EReal :=
  gated u v w b r n * scale (gated u v w b r) * g n

/-- One trip's stores hold the result's rows. -/
theorem trip_at (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S8x128 .f32) (harg7 : arg7.IsWhole) (arg8 : Memref sig .tc .vmem S2048x128 .bf16) (harg8 : arg8.IsWhole) (arg9 : Memref sig .tc .vmem S2048x128 .bf16) (harg9 : arg9.IsWhole) (v34 : FVec Ideal S128x128 .bf16) (v36 : FVec Ideal S128x1 .f32) (v37 : Vec Ideal S1x1x128 .f32) (X_arg1 : BufTy.Contents (Elt Ideal) arg1.view.ty) (X_arg9 : BufTy.Contents (Elt Ideal) arg9.view.ty) (X0 V0 : Fin 2048 → Fin 128 → EReal)
    (hU : ∀ (B : LoadRect S2048x128) (x : B.shape.Idx), View.readAt (Elt Ideal) arg1.view B X_arg1 x = X0 (B.idx x 0) (B.idx x 1))
    (hV : ∀ (B : LoadRect S2048x128) (x : B.shape.Idx), View.readAt (Elt Ideal) arg9.view B X_arg9 x = V0 (B.idx x 0) (B.idx x 1))
    (k : Fin k0_t1_loop.trips) (y : S2048x128.Idx) :
    View.AllAt (tripL_k0_t1 (F := Ideal) 𝒱 c bd i arg1 harg1 arg2 harg2 arg3 harg3 arg4 harg4 arg5 harg5 arg6 harg6 arg7 harg7 arg8 harg8 arg9 harg9 v34 v36 v37 X_arg1 X_arg9 k) y
      (outv X0 V0 (fun a s => v34 (ix2 a s)) (fun a => v36 (ix2 a 0)) (fun n => v37 (ix3 0 0 n)) (y 0) (y 1)) := by
  unfold tripL_k0_t1 trip_k0_t1
  dsimp only
  refine View.allAt_cons_unit _ _ _ _ _ ?_ (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x hx
    obtain ⟨a, n, rfl⟩ : ∃ (a n : Fin 128), x = ix2 a n := ⟨x 0, x 1, by funext a; fin_cases a <;> rfl⟩
    rw [show k0_off1 k 7#32 = ![1024 * k.val + 128 * 7, 0] from k0_off1_eq k 7] at hx
    have h0 : (y 0).val = 128 * (8 * k.val + 7) + a.val := (hx 0).trans (by show 1024 * k.val + 128 * 7 + a.val = _; omega)
    have h1 : y 1 = n := Fin.ext ((hx 1).trans (Nat.zero_add _))
    have e0 : ∀ (inb) (p q : Fin 128), (Rect.unit (s := S2048x128) (k0_off1 k 7#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 7) 0))).trans ?_
      show 1024 * k.val + 128 * 7 + p.val = _
      omega
    have e1 : ∀ (inb) (p q : Fin 128), (Rect.unit (s := S2048x128) (k0_off1 k 7#32) ![128, 128] inb).toLoadRect.idx (ix2 p q) 1 = q := fun inb p q =>
      Fin.ext (((Rect.idx_unit_val _ _ inb (ix2 p q) 1).trans (congrArg (· + q.val) (congrFun (k0_off1_eq k 7) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 6#32 = ![1024 * k.val + 128 * 6, 0] from k0_off1_eq k 6] at hx
    have h0 : (y 0).val = 128 * (8 * k.val + 6) + a.val := (hx 0).trans (by show 1024 * k.val + 128 * 6 + a.val = _; omega)
    have h1 : y 1 = n := Fin.ext ((hx 1).trans (Nat.zero_add _))
    have e0 : ∀ (inb) (p q : Fin 128), (Rect.unit (s := S2048x128) (k0_off1 k 6#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 6) 0))).trans ?_
      show 1024 * k.val + 128 * 6 + p.val = _
      omega
    have e1 : ∀ (inb) (p q : Fin 128), (Rect.unit (s := S2048x128) (k0_off1 k 6#32) ![128, 128] inb).toLoadRect.idx (ix2 p q) 1 = q := fun inb p q =>
      Fin.ext (((Rect.idx_unit_val _ _ inb (ix2 p q) 1).trans (congrArg (· + q.val) (congrFun (k0_off1_eq k 6) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 5#32 = ![1024 * k.val + 128 * 5, 0] from k0_off1_eq k 5] at hx
    have h0 : (y 0).val = 128 * (8 * k.val + 5) + a.val := (hx 0).trans (by show 1024 * k.val + 128 * 5 + a.val = _; omega)
    have h1 : y 1 = n := Fin.ext ((hx 1).trans (Nat.zero_add _))
    have e0 : ∀ (inb) (p q : Fin 128), (Rect.unit (s := S2048x128) (k0_off1 k 5#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 5) 0))).trans ?_
      show 1024 * k.val + 128 * 5 + p.val = _
      omega
    have e1 : ∀ (inb) (p q : Fin 128), (Rect.unit (s := S2048x128) (k0_off1 k 5#32) ![128, 128] inb).toLoadRect.idx (ix2 p q) 1 = q := fun inb p q =>
      Fin.ext (((Rect.idx_unit_val _ _ inb (ix2 p q) 1).trans (congrArg (· + q.val) (congrFun (k0_off1_eq k 5) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 4#32 = ![1024 * k.val + 128 * 4, 0] from k0_off1_eq k 4] at hx
    have h0 : (y 0).val = 128 * (8 * k.val + 4) + a.val := (hx 0).trans (by show 1024 * k.val + 128 * 4 + a.val = _; omega)
    have h1 : y 1 = n := Fin.ext ((hx 1).trans (Nat.zero_add _))
    have e0 : ∀ (inb) (p q : Fin 128), (Rect.unit (s := S2048x128) (k0_off1 k 4#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 4) 0))).trans ?_
      show 1024 * k.val + 128 * 4 + p.val = _
      omega
    have e1 : ∀ (inb) (p q : Fin 128), (Rect.unit (s := S2048x128) (k0_off1 k 4#32) ![128, 128] inb).toLoadRect.idx (ix2 p q) 1 = q := fun inb p q =>
      Fin.ext (((Rect.idx_unit_val _ _ inb (ix2 p q) 1).trans (congrArg (· + q.val) (congrFun (k0_off1_eq k 4) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 3#32 = ![1024 * k.val + 128 * 3, 0] from k0_off1_eq k 3] at hx
    have h0 : (y 0).val = 128 * (8 * k.val + 3) + a.val := (hx 0).trans (by show 1024 * k.val + 128 * 3 + a.val = _; omega)
    have h1 : y 1 = n := Fin.ext ((hx 1).trans (Nat.zero_add _))
    have e0 : ∀ (inb) (p q : Fin 128), (Rect.unit (s := S2048x128) (k0_off1 k 3#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 3) 0))).trans ?_
      show 1024 * k.val + 128 * 3 + p.val = _
      omega
    have e1 : ∀ (inb) (p q : Fin 128), (Rect.unit (s := S2048x128) (k0_off1 k 3#32) ![128, 128] inb).toLoadRect.idx (ix2 p q) 1 = q := fun inb p q =>
      Fin.ext (((Rect.idx_unit_val _ _ inb (ix2 p q) 1).trans (congrArg (· + q.val) (congrFun (k0_off1_eq k 3) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 2#32 = ![1024 * k.val + 128 * 2, 0] from k0_off1_eq k 2] at hx
    have h0 : (y 0).val = 128 * (8 * k.val + 2) + a.val := (hx 0).trans (by show 1024 * k.val + 128 * 2 + a.val = _; omega)
    have h1 : y 1 = n := Fin.ext ((hx 1).trans (Nat.zero_add _))
    have e0 : ∀ (inb) (p q : Fin 128), (Rect.unit (s := S2048x128) (k0_off1 k 2#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 2) 0))).trans ?_
      show 1024 * k.val + 128 * 2 + p.val = _
      omega
    have e1 : ∀ (inb) (p q : Fin 128), (Rect.unit (s := S2048x128) (k0_off1 k 2#32) ![128, 128] inb).toLoadRect.idx (ix2 p q) 1 = q := fun inb p q =>
      Fin.ext (((Rect.idx_unit_val _ _ inb (ix2 p q) 1).trans (congrArg (· + q.val) (congrFun (k0_off1_eq k 2) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 1#32 = ![1024 * k.val + 128 * 1, 0] from k0_off1_eq k 1] at hx
    have h0 : (y 0).val = 128 * (8 * k.val + 1) + a.val := (hx 0).trans (by show 1024 * k.val + 128 * 1 + a.val = _; omega)
    have h1 : y 1 = n := Fin.ext ((hx 1).trans (Nat.zero_add _))
    have e0 : ∀ (inb) (p q : Fin 128), (Rect.unit (s := S2048x128) (k0_off1 k 1#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 1) 0))).trans ?_
      show 1024 * k.val + 128 * 1 + p.val = _
      omega
    have e1 : ∀ (inb) (p q : Fin 128), (Rect.unit (s := S2048x128) (k0_off1 k 1#32) ![128, 128] inb).toLoadRect.idx (ix2 p q) 1 = q := fun inb p q =>
      Fin.ext (((Rect.idx_unit_val _ _ inb (ix2 p q) 1).trans (congrArg (· + q.val) (congrFun (k0_off1_eq k 1) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]
  · intro x hx
    obtain ⟨a, n, rfl⟩ : ∃ (a n : Fin 128), x = ix2 a n := ⟨x 0, x 1, by funext a; fin_cases a <;> rfl⟩
    rw [show k0_off1 k 0#32 = ![1024 * k.val + 128 * 0, 0] from k0_off1_eq k 0] at hx
    have h0 : (y 0).val = 128 * (8 * k.val + 0) + a.val := (hx 0).trans (by show 1024 * k.val + 128 * 0 + a.val = _; omega)
    have h1 : y 1 = n := Fin.ext ((hx 1).trans (Nat.zero_add _))
    have e0 : ∀ (inb) (p q : Fin 128), (Rect.unit (s := S2048x128) (k0_off1 k 0#32) ![128, 128] inb).toLoadRect.idx (ix2 p q) 0 = peer (y 0) p := fun inb p q => by
      refine Fin.ext ?_
      rw [peer_val h0]
      refine ((Rect.idx_unit_val _ _ inb (ix2 p q) 0).trans (congrArg (· + p.val) (congrFun (k0_off1_eq k 0) 0))).trans ?_
      show 1024 * k.val + 128 * 0 + p.val = _
      omega
    have e1 : ∀ (inb) (p q : Fin 128), (Rect.unit (s := S2048x128) (k0_off1 k 0#32) ![128, 128] inb).toLoadRect.idx (ix2 p q) 1 = q := fun inb p q =>
      Fin.ext (((Rect.idx_unit_val _ _ inb (ix2 p q) 1).trans (congrArg (· + q.val) (congrFun (k0_off1_eq k 0) 1))).trans (Nat.zero_add _))
    pointwise [k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r, trip_k0_t1.sl.cst_57]
    simp only [hU, hV, e0, e1, peer_self h0, h1]
    simp only [mul_comm (v34 _), outv, gated, inner_of h0, gelu, scale]

theorem trips : k0_t1_loop.trips = 2 := by decide +kernel

variable (m : (ℓ : Loc nD τ sig) → Buf (Elt Ideal) ℓ) (c : Dev nD)

/-- A group's normalised second half. -/
def normed (v : Fin 2048 → Fin 128 → EReal) (g : Fin 128 → EReal) (r : Fin 2048) (n : Fin 128) : EReal :=
  gelu (v r n) * scale (fun k => gelu (v r k)) * g n
/-- A group's mixing weights: those of the rows up to the result's. -/
def tri (w : Fin 128 → Fin 128 → EReal) (a s : Fin 128) : EReal := if s ≤ a then w a s else 0

theorem sle : ∀ a s : Fin 128, IntOp.cmpi .sle (BitVec.ofNat 32 s.val) (BitVec.ofNat 32 a.val) = if s ≤ a then 1#1 else 0#1 := by decide +kernel
theorem eta (i : S2048x128.Idx) : i = ix2 (i 0) (i 1) := by funext a; fin_cases a <;> rfl

/-- A load of a whole buffer reads it at its own indices. -/
theorem whole3 {p q n : ℕ} (inb) (i : (⟨3, ![p, q, n]⟩ : Shape).Idx) :
    (Rect.unit (s := ⟨3, ![p, q, n]⟩) ![0, 0, 0] ![p, q, n] inb).toLoadRect.idx i = i :=
  funext fun a => Fin.ext ((Rect.idx_unit_val _ _ inb i a).trans (by fin_cases a <;> exact Nat.zero_add _))
theorem whole2 {p q : ℕ} (inb) (i : (⟨2, ![p, q]⟩ : Shape).Idx) :
    (Rect.unit (s := ⟨2, ![p, q]⟩) ![0, 0] ![p, q] inb).toLoadRect.idx i = i :=
  funext fun a => Fin.ext ((Rect.idx_unit_val _ _ inb i a).trans (by fin_cases a <;> exact Nat.zero_add _))

/-- What the scratch holds: the group's normalised second half. -/
theorem scratch_at (a1 : Memref sig .tc .vmem S2048x128 .f32) (h1 : a1.IsWhole) (a2 : Memref sig .tc .vmem S1x1x128 .f32) (h2 : a2.IsWhole)
    (x1 : Vec Ideal S2048x128 .f32) (x2 : Vec Ideal S1x1x128 .f32) (r : Fin 2048) (n : Fin 128) :
    View.canon (kernelRun0_A.sl.HS0_1 c a1 h1 a2 h2 x1 x2) (ix2 r n) = normed (fun r n => x1 (ix2 r n)) (fun n => x2 (ix3 0 0 n)) r n := by
  unfold kernelRun0_A.sl.HS0_1
  canon_tiles q h
  obtain rfl : q = ix2 r n := by blk_ext [h0, h1]
  pointwise [k0_pay31]
  simp only [Memref.IsWhole.readAt_unread]
  simp only [whole2, whole3, normed, gelu, scale]

theorem out_at (t : Fin cfg0.N) (r : Fin 2048) (n : Fin 128) : outsAt0 m c t (ix2 r n)
    = outv (fun r n => iblk m c 0 t (ix2 r n)) (normed (fun r n => iblk m c 1 t (ix2 r n)) fun n => iblk m c 2 t (ix3 0 0 n))
        (tri fun a s => iblk m c 3 t (ix3 0 a s)) (fun a => iblk m c 4 t (ix3 0 a 0)) (fun n => iblk m c 5 t (ix3 0 0 n)) r n := by
  unfold outsAt0 out0_A_7
  rw [View.read_writes_junk_eq_canon]
  refine View.canon_eq_of_allAt _ _ _ (cover0_A_7 (F := Ideal) ..) ?_
  unfold kernelRun0_A
  dsimp only
  rw [show Scf.trips (0#32) (Scalar.addi 0#32 2#32) 1#32 = 2 by decide +kernel]
  simp only [pb_k0_t1, pb_k0_t1Step, trips, dite_true, Nat.lt_add_one, Nat.zero_lt_succ, dif_pos, Nat.zero_lt_two]
  have key : ∀ k, View.AllAt (tripL_k0_t1 Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) (kernelRun0_A.sl.r c (ms0_3 t) (hs0_3 t) (iblk m c 3 t))
        (kernelRun0_A.sl.r_1 c (ms0_4 t) (hs0_4 t) (iblk m c 4 t))
        (View.readAt (Elt Ideal) (ms0_5 t).view (Rect.unit (s := S1x1x128) ![0, 0, 0] ![1, 1, 128] inb_S1x1x128_S1x1x128_0_0_0).toLoadRect ((hs0_5 t).unread (iblk m c 5 t)))
        ((hs0_0 t).unread (iblk m c 0 t))
        ((View.whole cc0_scratch0).writes (Elt Ideal) (View.whole cc0_scratch0).junk (kernelRun0_A.sl.HS0_1 c (ms0_1 t) (hs0_1 t) (ms0_2 t) (hs0_2 t) (iblk m c 1 t) (iblk m c 2 t))) k) (ix2 r n)
      (outv (fun r n => iblk m c 0 t (ix2 r n)) (normed (fun r n => iblk m c 1 t (ix2 r n)) fun n => iblk m c 2 t (ix3 0 0 n))
        (tri fun a s => iblk m c 3 t (ix3 0 a s)) (fun a => iblk m c 4 t (ix3 0 a 0)) (fun n => iblk m c 5 t (ix3 0 0 n)) r n) := by
    intro k
    have h := trip_at Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) scM0_0 (Memref.isWhole_whole _) (kernelRun0_A.sl.r c (ms0_3 t) (hs0_3 t) (iblk m c 3 t))
        (kernelRun0_A.sl.r_1 c (ms0_4 t) (hs0_4 t) (iblk m c 4 t))
        (View.readAt (Elt Ideal) (ms0_5 t).view (Rect.unit (s := S1x1x128) ![0, 0, 0] ![1, 1, 128] inb_S1x1x128_S1x1x128_0_0_0).toLoadRect ((hs0_5 t).unread (iblk m c 5 t)))
        ((hs0_0 t).unread (iblk m c 0 t))
        ((View.whole cc0_scratch0).writes (Elt Ideal) (View.whole cc0_scratch0).junk (kernelRun0_A.sl.HS0_1 c (ms0_1 t) (hs0_1 t) (ms0_2 t) (hs0_2 t) (iblk m c 1 t) (iblk m c 2 t)))
        (fun r n => iblk m c 0 t (ix2 r n)) (normed (fun r n => iblk m c 1 t (ix2 r n)) fun n => iblk m c 2 t (ix3 0 0 n))
        (fun B x => by
          refine (Memref.IsWhole.readAt_unread (hs0_0 t) _ B x).trans (congrArg (iblk m c 0 t) ?_)
          exact eta (B.idx x))
        (fun B x => by
          rw [View.readAt_writes_junk_eq_canon]
          refine (congrArg (View.canon _) (eta (B.idx x))).trans ?_
          exact scratch_at ..) k (ix2 r n)
    have e1 : ∀ a s, kernelRun0_A.sl.r c (ms0_3 t) (hs0_3 t) (iblk m c 3 t) (ix2 a s) = tri (fun a s => iblk m c 3 t (ix3 0 a s)) a s := fun a s => by
      pointwise [kernelRun0_A.sl.r, k0_pay32]
      rw [Memref.IsWhole.readAt_unread, sle, tri]
      split
      · exact congrArg (iblk m c 3 t) (whole3 _ _)
      · rfl
    have e2 : ∀ a, kernelRun0_A.sl.r_1 c (ms0_4 t) (hs0_4 t) (iblk m c 4 t) (ix2 a 0) = iblk m c 4 t (ix3 0 a 0) := fun a => by
      pointwise [kernelRun0_A.sl.r_1, k0_pay33]
      rw [Memref.IsWhole.readAt_unread]
      exact congrArg (iblk m c 4 t) (whole3 _ _)
    have e3 : ∀ n, View.readAt (Elt Ideal) (ms0_5 t).view (Rect.unit (s := S1x1x128) ![0, 0, 0] ![1, 1, 128] inb_S1x1x128_S1x1x128_0_0_0).toLoadRect ((hs0_5 t).unread (iblk m c 5 t)) (ix3 0 0 n)
        = iblk m c 5 t (ix3 0 0 n) := fun n => by
      refine (Memref.IsWhole.readAt_unread (hs0_5 t) _ _ _).trans (congrArg (iblk m c 5 t) (whole3 _ _))
    simp only [e1, e2, e3] at h
    exact h
  intro p hp
  rw [List.append_nil] at hp
  rcases List.mem_append.mp hp with hp | hp
  · exact key _ p hp
  · exact key _ p hp

theorem idx : ∀ t : Fin cfg0.N, win0_0.index t = ![0, 24 + t.val] ∧ win0_1.index t = ![0, 32 + t.val] ∧ win0_2.index t = ![t.val, 0, 0]
    ∧ win0_3.index t = ![t.val, 0, 0] ∧ win0_4.index t = ![t.val, 0, 0] ∧ win0_5.index t = ![t.val, 0, 0]
    ∧ win0_7.index t = ![0, t.val] ∧ t.val < 8 := (by decide +kernel : ∀ t : Fin grid0.N, _)

/-- The group of block `t`. -/
def grp (t : Fin cfg0.N) : Fin 8 := ⟨t, (idx t).2.2.2.2.2.2.2⟩
/-- Column `n` of group `g` in the result. -/
def colO (g : Fin 8) (n : Fin 128) : Fin 1024 := ⟨g * 128 + n, by omega⟩
/-- The columns of group `g` in the two halves of the product before the unit. -/
def colU (g : Fin 8) (n : Fin 128) : Fin 5120 := ⟨(24 + g) * 128 + n, by omega⟩
def colV (g : Fin 8) (n : Fin 128) : Fin 5120 := ⟨(32 + g) * 128 + n, by omega⟩

theorem blkU (t : Fin cfg0.N) (r : Fin 2048) (n : Fin 128) :
    iblk m c 0 t (ix2 r n) = m ((c : Thread nD τ).loc main_arg0) (ix2 r (colU (grp t) n)) := by
  blk_point [iblk, idx t, grp, colU]
theorem blkV (t : Fin cfg0.N) (r : Fin 2048) (n : Fin 128) :
    iblk m c 1 t (ix2 r n) = m ((c : Thread nD τ).loc main_arg0) (ix2 r (colV (grp t) n)) := by
  blk_point [iblk, idx t, grp, colV]
theorem blkG (t : Fin cfg0.N) (n : Fin 128) :
    iblk m c 2 t (ix3 0 0 n) = m ((c : Thread nD τ).loc main_arg1) (ix2 (grp t) n) := by
  blk_point [iblk, idx t, grp]
theorem blkW (t : Fin cfg0.N) (a s : Fin 128) :
    iblk m c 3 t (ix3 0 a s) = m ((c : Thread nD τ).loc main_arg2) (ix3 (grp t) a s) := by
  blk_point [iblk, idx t, grp]
theorem blkB (t : Fin cfg0.N) (a : Fin 128) :
    iblk m c 4 t (ix3 0 a 0) = m ((c : Thread nD τ).loc main_arg3) (ix2 (grp t) a) := by
  blk_point [iblk, idx t, grp]
theorem blkO (t : Fin cfg0.N) (n : Fin 128) :
    iblk m c 5 t (ix3 0 0 n) = m ((c : Thread nD τ).loc main_arg4) (ix2 (grp t) n) := by
  blk_point [iblk, idx t, grp]

/-- Group `g`'s part of the result. -/
def part (P : FVec Ideal S2048x5120 .f32) (G : FVec Ideal S8x128 .f32) (W : FVec Ideal S8x128x128 .f32) (B O : FVec Ideal S8x128 .f32)
    (g : Fin 8) (r : Fin 2048) (n : Fin 128) : EReal :=
  outv (fun r n => P (ix2 r (colU g n))) (normed (fun r n => P (ix2 r (colV g n))) fun n => G (ix2 g n))
    (tri fun a s => W (ix3 g a s)) (fun a => B (ix2 g a)) (fun n => O (ix2 g n)) r n

/-- The result: each column in its group. -/
def res (P : FVec Ideal S2048x5120 .f32) (G : FVec Ideal S8x128 .f32) (W : FVec Ideal S8x128x128 .f32) (B O : FVec Ideal S8x128 .f32) :
    FVec Ideal S2048x1024 .bf16 :=
  fun i => part P G W B O ⟨(i 1).val / 128, by have : (i 1).val < 1024 := (i 1).isLt; omega⟩ (i 0) ⟨(i 1).val % 128, by omega⟩

theorem res_at (P : FVec Ideal S2048x5120 .f32) (G : FVec Ideal S8x128 .f32) (W : FVec Ideal S8x128x128 .f32) (B O : FVec Ideal S8x128 .f32)
    (r : Fin 2048) (g : Fin 8) (n : Fin 128) : res P G W B O (ix2 r (colO g n)) = part P G W B O g r n := by
  have e1 : (⟨(colO g n).val / 128, by have := (colO g n).isLt; omega⟩ : Fin 8) = g := Fin.ext (by show (g.val * 128 + n.val) / 128 = _; omega)
  have e2 : (⟨(colO g n).val % 128, by omega⟩ : Fin 128) = n := Fin.ext (by show (g.val * 128 + n.val) % 128 = _; omega)
  show part P G W B O ⟨(colO g n).val / 128, _⟩ r ⟨(colO g n).val % 128, _⟩ = _
  rw [e1, e2]

theorem final : (dats m 0 c).arrAt 7 cfg0.N = res (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  obtain ⟨r, n, rfl⟩ : ∃ (r : Fin 2048) (n : Fin 128), y = ix2 r n := ⟨y 0, y 1, by funext a; fin_cases a <;> rfl⟩
  refine (out_at m c t r n).trans ?_
  have e : (win0_7.blk t).view.emb (ix2 r n) = ix2 r (colO (grp t) n) := by blk_ext [idx t, grp, colO]
  rw [e, res_at]
  simp only [blkU, blkV, blkG, blkW, blkB, blkO]
  rfl

/-- The nonlinearity through the complement of the error function. -/
theorem gelu_erfc (x : EReal) :
    Ideal.ofBits .f32 0x3F000000#32 * x * Ideal.erfc (-x * Ideal.ofBits .f32 0x3F3504F3#32) = gelu x := by
  rw [gelu, neg_mul, Ideal.erfc_neg]; rfl

theorem sge : ∀ a s : Fin 128, IntOp.cmpi .sge (IntOp.addi (BitVec.ofNat 32 a.val) 0#32) (BitVec.ofNat 32 s.val) = if s ≤ a then 1#1 else 0#1 := by
  decide +kernel
theorem mask (a s : Fin 128) (x y : EReal) :
    Scalar.select (Scalar.select (IntOp.cmpi .sge (IntOp.addi (BitVec.ofNat 32 a.val) 0#32) (BitVec.ofNat 32 s.val)) 1#1 0#1) x y
      = if s ≤ a then x else y := by
  rw [sge]; split <;> rfl

theorem ref (x0 : FVec Ideal S2048x5120 .f32) (x1 : FVec Ideal S8x128 .f32) (x2 : FVec Ideal S8x128x128 .f32) (x3 x4 : FVec Ideal S8x128 .f32) :
    Cert.Reference15Ideal.Read.val_main_v58 (F := Ideal) x0 x1 x2 x3 x4 = res x0 x1 x2 x3 x4 := by
  funext i
  obtain ⟨r, q, rfl⟩ : ∃ (r : Fin 2048) (q : Fin 1024), i = ix2 r q := ⟨i 0, i 1, by funext a; fin_cases a <;> rfl⟩
  have hu : ∀ (x : Fin 128) (h), (⟨3072 + (q.val / 128 * 128 + x.val), h⟩ : Fin 5120) = colU ⟨q.val / 128, by omega⟩ x :=
    fun x h => Fin.ext (by show 3072 + (q.val / 128 * 128 + x.val) = (24 + q.val / 128) * 128 + x.val; omega)
  have hv : ∀ (x : Fin 128) (h), (⟨4096 + (q.val / 128 * 128 + x.val), h⟩ : Fin 5120) = colV ⟨q.val / 128, by omega⟩ x :=
    fun x h => Fin.ext (by show 4096 + (q.val / 128 * 128 + x.val) = (32 + q.val / 128) * 128 + x.val; omega)
  have hu' : ∀ h, (⟨3072 + q.val, h⟩ : Fin 5120) = colU ⟨q.val / 128, by omega⟩ ⟨q.val % 128, by omega⟩ :=
    fun h => Fin.ext (by show 3072 + q.val = (24 + q.val / 128) * 128 + q.val % 128; omega)
  have hv' : ∀ h, (⟨4096 + q.val, h⟩ : Fin 5120) = colV ⟨q.val / 128, by omega⟩ ⟨q.val % 128, by omega⟩ :=
    fun h => Fin.ext (by show 4096 + q.val = (32 + q.val / 128) * 128 + q.val % 128; omega)
  have hp : ∀ (x : Fin 128) (h), (⟨r.val / 128 * 128 + x.val, h⟩ : Fin 2048) = peer r x :=
    fun x h => Fin.ext (by show r.val / 128 * 128 + x.val = 128 * (r.val / 128) + x.val; omega)
  have hm : ∀ h, (⟨r.val % 128, h⟩ : Fin 128) = inner r := fun _ => rfl
  have hz : (id (constant (F := Ideal) Cert.Reference15Ideal.S_ .f32 0#32) ix0 : EReal) = 0 := Ideal.ofBits_zero .f32
  pointwise [Cert.Reference15Ideal.Read.val_main_v0, Cert.Reference15Ideal.Read.val_main_v1, Cert.Reference15Ideal.Read.val_main_cst, Cert.Reference15Ideal.Read.val_main_v2, Cert.Reference15Ideal.Read.val_main_v3, Cert.Reference15Ideal.Read.val_main_v4, Cert.Reference15Ideal.Read.val_main_cst_0, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_cst_1, Cert.Reference15Ideal.Read.val_main_v10, Cert.Reference15Ideal.Read.val_main_v11, Cert.Reference15Ideal.Read.val_main_v12, Cert.Reference15Ideal.Read.val_main_cst_2, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_cst_3, Cert.Reference15Ideal.Read.val_main_v19, Cert.Reference15Ideal.Read.val_main_v20, Cert.Reference15Ideal.Read.val_main_cst_4, Cert.Reference15Ideal.Read.val_main_v21, Cert.Reference15Ideal.Read.val_main_v22, Cert.Reference15Ideal.Read.val_main_cst_5, Cert.Reference15Ideal.Read.val_main_v23, Cert.Reference15Ideal.Read.val_main_v24, Cert.Reference15Ideal.Read.val_main_v25, Cert.Reference15Ideal.Read.val_main_v26, Cert.Reference15Ideal.Read.val_main_v27, Cert.Reference15Ideal.Read.val_main_v28, Cert.Reference15Ideal.Read.val_main_v29, Cert.Reference15Ideal.Read.val_main_v30, Cert.Reference15Ideal.Read.val_main_c, Cert.Reference15Ideal.Read.val_main_v31, Cert.Reference15Ideal.Read.val_main_call0_v0, Cert.Reference15Ideal.Read.val_main_call0_c, Cert.Reference15Ideal.Read.val_main_call0_v1, Cert.Reference15Ideal.Read.val_main_call0_v2, Cert.Reference15Ideal.Read.val_main_call0_v3, Cert.Reference15Ideal.Read.val_main_call0_v4, Cert.Reference15Ideal.Read.val_main_call0_c_0, Cert.Reference15Ideal.Read.val_main_call0_v5, Cert.Reference15Ideal.Read.val_main_v32, Cert.Reference15Ideal.Read.val_main_v33, Cert.Reference15Ideal.Read.val_main_cst_6, Cert.Reference15Ideal.Read.val_main_call1_v0, Cert.Reference15Ideal.Read.val_main_call1_v1, Cert.Reference15Ideal.Read.val_main_call1_v2, Cert.Reference15Ideal.Read.val_main_v34, Cert.Reference15Ideal.Read.val_main_v35, Cert.Reference15Ideal.Read.val_main_v36, Cert.Reference15Ideal.Read.val_main_v37, Cert.Reference15Ideal.Read.val_main_v38, Cert.Reference15Ideal.Read.val_main_v39, Cert.Reference15Ideal.Read.val_main_v40, Cert.Reference15Ideal.Read.val_main_v41, Cert.Reference15Ideal.Read.val_main_v42, Cert.Reference15Ideal.Read.val_main_v43, Cert.Reference15Ideal.Read.val_main_v44, Cert.Reference15Ideal.Read.val_main_cst_7, Cert.Reference15Ideal.Read.val_main_v45, Cert.Reference15Ideal.Read.val_main_v46, Cert.Reference15Ideal.Read.val_main_cst_8, Cert.Reference15Ideal.Read.val_main_v47, Cert.Reference15Ideal.Read.val_main_v48, Cert.Reference15Ideal.Read.val_main_cst_9, Cert.Reference15Ideal.Read.val_main_v49, Cert.Reference15Ideal.Read.val_main_v50, Cert.Reference15Ideal.Read.val_main_v51, Cert.Reference15Ideal.Read.val_main_v52, Cert.Reference15Ideal.Read.val_main_v53, Cert.Reference15Ideal.Read.val_main_v54, Cert.Reference15Ideal.Read.val_main_v55, Cert.Reference15Ideal.Read.val_main_v56, Cert.Reference15Ideal.Read.val_main_v57, Cert.Reference15Ideal.Read.val_main_v58]
  simp only [show r.val % 128 = (inner r).val from rfl, mask, gelu_erfc, hm, hp, hz, hu, hu', hv, hv']
  simp only [res, part, outv, gated, normed, tri, scale]
  rfl

end Cert.SguFwd

end
-- ==== Proof.SguRun.lean ====
module

public import proofs.«01_k».proof.Proof.Gen.Kernel16Ideal.Frame
public import proofs.«01_k».proof.Proof.Gen.Kernel16Ideal.Skeleton
public import proofs.«01_k».proof.Proof.Gen.Kernel16Ideal.Loops
public import Idealize.ShloMosaic.Lib.Claim
public import Idealize.ShloMosaic.Lib.HeldBySlice
public import Idealize.ShloMosaic.Lib.Pipeline.Value

/-! The gradient of the gating unit, run point by point.

The kernel gathers the gradient at the normalised gate in a scratch, one slab of rows after another, and reads all of
it after its loop over the slabs. So the run of one point is stated over any contents of that scratch, and what a
point leaves in its outputs does not depend on them: the slabs cover the scratch before it is read. -/

@[expose] public section

set_option maxRecDepth 16384

noncomputable section

namespace Cert.Kernel16Ideal.Body

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the assertions of this module speak of. -/
abbrev Res (F : FTy → Type) [FloatOps F] := MT nD τ sig Unit (Elt F) ℕ (UR sig nD τ) ℕ

variable (m : (ℓ : Loc nD τ sig) → Buf (Elt F) ℓ) (ρ : Dev nD → PrngReg)

/-- One buffer of each output, through which its contents are stated, and the two scratches. -/
abbrev duView : View sig .tc .vmem S2048x128 .bf16 := (Memref.whole cc0_stg7_0 : Memref sig .tc .vmem S2048x128 .bf16).view
abbrev dvView : View sig .tc .vmem S2048x128 .bf16 := (Memref.whole cc0_stg8_0 : Memref sig .tc .vmem S2048x128 .bf16).view
abbrev dgsView : View sig .tc .vmem S1x1x128 .f32 := (Memref.whole cc0_stg9_0 : Memref sig .tc .vmem S1x1x128 .f32).view
abbrev dwView : View sig .tc .vmem S1x128x128 .f32 := (Memref.whole cc0_stg10_0 : Memref sig .tc .vmem S1x128x128 .f32).view
abbrev dbView : View sig .tc .vmem S1x128x1 .f32 := (Memref.whole cc0_stg11_0 : Memref sig .tc .vmem S1x128x1 .f32).view
abbrev dgbView : View sig .tc .vmem S1x1x128 .f32 := (Memref.whole cc0_stg12_0 : Memref sig .tc .vmem S1x1x128 .f32).view
abbrev rowsScr : Memref sig .tc .vmem S2048x128 .bf16 := Memref.whole cc0_scratch0
abbrev gradScr : Memref sig .tc .vmem S2048x128 .f32 := Memref.whole cc0_scratch1

abbrev stg0 (t : Fin cfg0.N) : Memref sig .tc .vmem S2048x128 .f32 := win0_0.stage (cfg0.slots t 0)
theorem hst0 (t : Fin cfg0.N) : (stg0 t).IsWhole := hstage0_0 ((cfg0.slots t 0).cast nbuf0_0)
abbrev stg1 (t : Fin cfg0.N) : Memref sig .tc .vmem S2048x128 .f32 := win0_1.stage (cfg0.slots t 1)
theorem hst1 (t : Fin cfg0.N) : (stg1 t).IsWhole := hstage0_1 ((cfg0.slots t 1).cast nbuf0_1)
abbrev stg2 (t : Fin cfg0.N) : Memref sig .tc .vmem S1x1x128 .f32 := win0_2.stage (cfg0.slots t 2)
theorem hst2 (t : Fin cfg0.N) : (stg2 t).IsWhole := hstage0_2 ((cfg0.slots t 2).cast nbuf0_2)
abbrev stg3 (t : Fin cfg0.N) : Memref sig .tc .vmem S1x128x128 .f32 := win0_3.stage (cfg0.slots t 3)
theorem hst3 (t : Fin cfg0.N) : (stg3 t).IsWhole := hstage0_3 ((cfg0.slots t 3).cast nbuf0_3)
abbrev stg4 (t : Fin cfg0.N) : Memref sig .tc .vmem S1x128x1 .f32 := win0_4.stage (cfg0.slots t 4)
theorem hst4 (t : Fin cfg0.N) : (stg4 t).IsWhole := hstage0_4 ((cfg0.slots t 4).cast nbuf0_4)
abbrev stg5 (t : Fin cfg0.N) : Memref sig .tc .vmem S1x1x128 .f32 := win0_5.stage (cfg0.slots t 5)
theorem hst5 (t : Fin cfg0.N) : (stg5 t).IsWhole := hstage0_5 ((cfg0.slots t 5).cast nbuf0_5)
abbrev stg6 (t : Fin cfg0.N) : Memref sig .tc .vmem S2048x128 .f32 := win0_6.stage (cfg0.slots t 6)
theorem hst6 (t : Fin cfg0.N) : (stg6 t).IsWhole := hstage0_6 ((cfg0.slots t 6).cast nbuf0_6)
abbrev stg7 (t : Fin cfg0.N) : Memref sig .tc .vmem S2048x128 .bf16 := win0_7.stage (cfg0.slots t 7)
theorem hst7 (t : Fin cfg0.N) : (stg7 t).IsWhole := hstage0_7 ((cfg0.slots t 7).cast nbuf0_7)
abbrev stg8 (t : Fin cfg0.N) : Memref sig .tc .vmem S2048x128 .bf16 := win0_8.stage (cfg0.slots t 8)
theorem hst8 (t : Fin cfg0.N) : (stg8 t).IsWhole := hstage0_8 ((cfg0.slots t 8).cast nbuf0_8)
abbrev stg9 (t : Fin cfg0.N) : Memref sig .tc .vmem S1x1x128 .f32 := win0_9.stage (cfg0.slots t 9)
theorem hst9 (t : Fin cfg0.N) : (stg9 t).IsWhole := hstage0_9 ((cfg0.slots t 9).cast nbuf0_9)
abbrev stg10 (t : Fin cfg0.N) : Memref sig .tc .vmem S1x128x128 .f32 := win0_10.stage (cfg0.slots t 10)
theorem hst10 (t : Fin cfg0.N) : (stg10 t).IsWhole := hstage0_10 ((cfg0.slots t 10).cast nbuf0_10)
abbrev stg11 (t : Fin cfg0.N) : Memref sig .tc .vmem S1x128x1 .f32 := win0_11.stage (cfg0.slots t 11)
theorem hst11 (t : Fin cfg0.N) : (stg11 t).IsWhole := hstage0_11 ((cfg0.slots t 11).cast nbuf0_11)
abbrev stg12 (t : Fin cfg0.N) : Memref sig .tc .vmem S1x1x128 .f32 := win0_12.stage (cfg0.slots t 12)
theorem hst12 (t : Fin cfg0.N) : (stg12 t).IsWhole := hstage0_12 ((cfg0.slots t 12).cast nbuf0_12)

/-- Between points: the two scratches at some contents, and the generator's register. -/
theorem between_eq (c : Dev nD) :
    (Pipeline.ΦA spec0 c : sProp (Res F))
      = iprop(iprop((∃ d, owns (c : Thread nD τ) rowsScr fullShare d) ∗ (∃ d, owns (c : Thread nD τ) gradScr fullShare d)) ∗ (∃ r, prngReg c r)) := by
  unfold Pipeline.ΦA; rw [scopedRest0_eq]; simp only [rowsScr, gradScr, owns_whole]; try rfl

/-! ## One point -/

section Point

variable (c : Dev nD) (i : grid0.Coords)
  (arg1 : Memref sig .tc .vmem S2048x128 .f32) (harg1 : arg1.IsWhole)
  (arg2 : Memref sig .tc .vmem S2048x128 .f32) (harg2 : arg2.IsWhole)
  (arg3 : Memref sig .tc .vmem S1x1x128 .f32) (harg3 : arg3.IsWhole)
  (arg4 : Memref sig .tc .vmem S1x128x128 .f32) (harg4 : arg4.IsWhole)
  (arg5 : Memref sig .tc .vmem S1x128x1 .f32) (harg5 : arg5.IsWhole)
  (arg6 : Memref sig .tc .vmem S1x1x128 .f32) (harg6 : arg6.IsWhole)
  (arg7 : Memref sig .tc .vmem S2048x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S1x1x128 .f32) (harg10 : arg10.IsWhole)
  (arg11 : Memref sig .tc .vmem S1x128x128 .f32) (harg11 : arg11.IsWhole)
  (arg12 : Memref sig .tc .vmem S1x128x1 .f32) (harg12 : arg12.IsWhole)
  (arg13 : Memref sig .tc .vmem S1x1x128 .f32) (harg13 : arg13.IsWhole)
  (arg14 : Memref sig .tc .vmem S2048x128 .bf16) (harg14 : arg14.IsWhole)
  (arg15 : Memref sig .tc .vmem S2048x128 .f32) (harg15 : arg15.IsWhole)
  (x0 : Vec F S2048x128 .f32) (x1 : Vec F S2048x128 .f32) (x2 : Vec F S1x1x128 .f32) (x3 : Vec F S1x128x128 .f32) (x4 : Vec F S1x128x1 .f32) (x5 : Vec F S1x1x128 .f32) (x6 : Vec F S2048x128 .f32)
  (xs : Vec F S2048x128 .f32)

set_option maxHeartbeats 4000000 in
/-- One run of the body over any contents `xs` of the second scratch: the stores it makes into the six outputs, with
the proof that it makes them and leaves its inputs alone. -/
def pointRun :
    Σ' (L7 : List (View.Piece (Elt F) S2048x128 .bf16)), Σ' (L8 : List (View.Piece (Elt F) S2048x128 .bf16)), Σ' (L9 : List (View.Piece (Elt F) S1x1x128 .f32)), Σ' (L10 : List (View.Piece (Elt F) S1x128x128 .f32)), Σ' (L11 : List (View.Piece (Elt F) S1x128x1 .f32)), { L12 : List (View.Piece (Elt F) S1x1x128 .f32) //
      ∀ (E : Set ℕ) (K : PUnit → sProp (Res F)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d)) -∗ K ⟨⟩))
          ⊢ wp frame (wpE (defs₀ (F := F)) Variants.none c none) E (cc0_sgu_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_sgu_bwd_eq_skeleton]; unfold cc0_sgu_bwd_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    obtain rfl := harg15.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    iexists _, _; isplitr; swap; · iexact HS1
    ipureintro; rfl

/-- The stores into each output cover it. -/
theorem du_cover (y : S2048x128.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).1 S128x128.size (by sl_kernel_rfl) y

theorem dv_cover (y : S2048x128.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.1 S2048x128.size (by sl_kernel_rfl) y

theorem dgs_cover (y : S1x1x128.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.1 S1x1x128.size (by sl_kernel_rfl) y

theorem dw_cover (y : S1x128x128.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.1 S1x128x128.size (by sl_kernel_rfl) y

theorem db_cover (y : S1x128x1.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.1 S1x128x1.size (by sl_kernel_rfl) y

theorem dgb_cover (y : S1x1x128.Idx) :
    ∃ pc ∈ (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.2.1, y ∈ pc.1.set :=
  View.cover_of_tiledL (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.2.1 S1x1x128.size (by sl_kernel_rfl) y

/-- What the stores leave in each output. -/
def duLeft : Vec F S2048x128 .bf16 :=
  duView.read (Elt F) (duView.writes (Elt F) duView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).1)

def dvLeft : Vec F S2048x128 .bf16 :=
  dvView.read (Elt F) (dvView.writes (Elt F) dvView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.1)

def dgsLeft : Vec F S1x1x128 .f32 :=
  dgsView.read (Elt F) (dgsView.writes (Elt F) dgsView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.1)

def dwLeft : Vec F S1x128x128 .f32 :=
  dwView.read (Elt F) (dwView.writes (Elt F) dwView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.1)

def dbLeft : Vec F S1x128x1 .f32 :=
  dbView.read (Elt F) (dbView.writes (Elt F) dbView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.1)

def dgbLeft : Vec F S1x1x128 .f32 :=
  dgbView.read (Elt F) (dgbView.writes (Elt F) dgbView.junk (pointRun c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs).2.2.2.2.2.1)

/-- The loop's slabs cover the second scratch, so what is read of it after the loop is the same whatever it held. -/
theorem read_const (xs' : Vec F S2048x128 .f32) :
    pointRun.sl.v74 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = pointRun.sl.v74 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold pointRun.sl.v74
  refine View.readAt_writes_eq_of_cover _ _ _ _ _ (fun j => ?_)
  refine View.cover_of_tiledL (s := S2048x128) _ S128x128.size ?_ _
  sl_kernel_rfl

/-- Nor does any output depend on what the second scratch held. -/
theorem duLeft_const (xs' : Vec F S2048x128 .f32) :
    duLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = duLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold duLeft pointRun
  dsimp only

theorem dvLeft_const (xs' : Vec F S2048x128 .f32) :
    dvLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = dvLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold dvLeft pointRun
  dsimp only
  unfold pointRun.sl.r_6
  rw [read_const (xs := xs) (xs' := xs')]

theorem dgsLeft_const (xs' : Vec F S2048x128 .f32) :
    dgsLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = dgsLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold dgsLeft pointRun
  dsimp only
  rw [read_const (xs := xs) (xs' := xs')]

theorem dwLeft_const (xs' : Vec F S2048x128 .f32) :
    dwLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = dwLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold dwLeft pointRun
  dsimp only

theorem dbLeft_const (xs' : Vec F S2048x128 .f32) :
    dbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = dbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold dbLeft pointRun
  dsimp only

theorem dgbLeft_const (xs' : Vec F S2048x128 .f32) :
    dgbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs = dgbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs' := by
  unfold dgbLeft pointRun
  dsimp only

end Point

end Cert.Kernel16Ideal.Body

end
-- ==== Proof.SguForm.lean ====
module

public import proofs.«01_k».proof.Proof.SguFwd
import Mathlib.Data.EReal.Inv

@[expose] public section

/-! The formulas of the gating unit's gradient, group by group, on extended reals. -/

set_option maxRecDepth 16384

noncomputable section

namespace Cert.SguBwd
open Idealize.ShloMosaic
open Cert.SguFwd (peer inner scale tri)

/-- The two constants of the nonlinearity and its slope, as the programs spell them. -/
def isq : EReal := Ideal.ofBits .f32 0x3F3504F3#32
def isp : EReal := Ideal.ofBits .f32 0x3ECC422A#32

/-- The nonlinearity and its slope, as the kernel writes them. -/
def gelu (x : EReal) : EReal :=
  Ideal.ofBits .f32 0x3F000000#32 * x * (1 + Ideal.erf (x * isq))
def geluD (x : EReal) : EReal :=
  Ideal.ofBits .f32 0x3F000000#32 * (1 + Ideal.erf (x * isq))
    + x * (isp * Ideal.exp (Ideal.ofBits .f32 0xBF000000#32 * x * x))

/-- The gradient through a row's normalisation: `x` the row, `a` the gradient that reaches it. -/
def nb (x a : Fin 128 → EReal) (n : Fin 128) : EReal :=
  scale x * (a n - x n * scale x * Ideal.div (∑ k, a k * (x k * scale x)) (Ideal.ofBits .f32 0x43000000#32))

/-- A group's normalised second half. -/
def normed (v : Fin 2048 → Fin 128 → EReal) (g : Fin 128 → EReal) (r : Fin 2048) (n : Fin 128) : EReal :=
  gelu (v r n) * scale (fun k => gelu (v r k)) * g n

section Group
variable (u vs d : Fin 2048 → Fin 128 → EReal) (w : Fin 128 → Fin 128 → EReal) (b o : Fin 128 → EReal)

/-- The mixed rows, and the gated ones. -/
def mixed (r : Fin 2048) (n : Fin 128) : EReal := (∑ s, w (inner r) s * vs (peer r s) n) + b (inner r)
def gated (r : Fin 2048) (n : Fin 128) : EReal := gelu (u r n) * mixed vs w b r n
/-- The gradient at the gated rows, at the first half, at the mixed rows. -/
def dsg (r : Fin 2048) (n : Fin 128) : EReal := nb (gated u vs w b r) (fun k => d r k * o k) n
def duv (r : Fin 2048) (n : Fin 128) : EReal := dsg u vs d w b o r n * mixed vs w b r n * geluD (u r n)
def dmx (r : Fin 2048) (n : Fin 128) : EReal := dsg u vs d w b o r n * gelu (u r n)
/-- The gradient at the normalised second half, at the weights and biases of the mixing, at the last gain. -/
def dvs (r : Fin 2048) (n : Fin 128) : EReal := ∑ t, w t (inner r) * dmx u vs d w b o (peer r t) n
/-- Row `p` of block `q` of rows. -/
def rowOf (q : Fin 16) (p : Fin 128) : Fin 2048 := ⟨128 * q.val + p.val, by omega⟩
def dwv (t s : Fin 128) : EReal := ∑ q, ∑ n, dmx u vs d w b o (rowOf q t) n * vs (rowOf q s) n
def dbv (t : Fin 128) : EReal := ∑ q, ∑ n, dmx u vs d w b o (rowOf q t) n
def dgbv (n : Fin 128) : EReal := ∑ q, ∑ p, d (rowOf q p) n * (gated u vs w b (rowOf q p) n * scale (gated u vs w b (rowOf q p)))
end Group

/-- The gradient at the first gain and at the second half, from the one at its normalised rows. -/
def dgsv (v e : Fin 2048 → Fin 128 → EReal) (n : Fin 128) : EReal :=
  ∑ r, e r n * (gelu (v r n) * scale fun k => gelu (v r k))
def dvv (v e : Fin 2048 → Fin 128 → EReal) (g : Fin 128 → EReal) (r : Fin 2048) (n : Fin 128) : EReal :=
  nb (fun k => gelu (v r k)) (fun k => e r k * g k) n * geluD (v r n)

end Cert.SguBwd

end
-- ==== Proof.SguTrip.lean ====
module

public import proofs.«01_k».proof.Proof.SguRun
public import proofs.«01_k».proof.Proof.SguForm

@[expose] public section

/-! One trip of the loop of the gating unit's gradient: eight blocks of rows. -/

set_option maxRecDepth 16384

noncomputable section

namespace Cert.SguBwd
open Idealize.ShloMosaic Idealize.ShloMosaic.Pointwise Idealize.ShloMosaic.Pipeline Cert.Kernel16Ideal Cert.Kernel16Ideal.Gen
open Idealize.ShloMosaic.TcCoe Idealize.SL.Sem
open Cert.SguFwd (peer inner scale tri peer_val peer_self inner_of)

theorem erf_def (x : EReal) : FloatOps.erf (F := Ideal) (φ := .f32) x = Ideal.erf x := rfl
theorem exp_def (x : EReal) : FloatOps.exp (F := Ideal) (φ := .f32) x = Ideal.exp x := rfl

theorem trips : k0_t1_loop.trips = 2 := by decide +kernel

/-- Row `p` of block `j` of the eight that trip `k` takes. -/
def slab (k : Fin k0_t1_loop.trips) (j : Fin 8) (p : Fin 128) : Fin 2048 :=
  ⟨1024 * k.val + 128 * j.val + p.val, by have := lt_of_lt_of_eq k.isLt trips; omega⟩
theorem slab_val (k : Fin k0_t1_loop.trips) (j : Fin 8) (p : Fin 128) : (slab k j p).val = 128 * (8 * k.val + j.val) + p.val := by
  show 1024 * k.val + 128 * j.val + p.val = _; omega
theorem peer_slab (k : Fin k0_t1_loop.trips) (j : Fin 8) (a p : Fin 128) : peer (slab k j a) p = slab k j p :=
  Fin.ext ((peer_val (slab_val k j a) p).trans (slab_val k j p).symm)
theorem inner_slab (k : Fin k0_t1_loop.trips) (j : Fin 8) (a : Fin 128) : inner (slab k j a) = a := inner_of (slab_val k j a)

theorem row_0 (k : Fin k0_t1_loop.trips) (inb) (p q : Fin 128) :
    (Rect.unit (s := S2048x128) (k0_off1 k 0#32) ![128, 128] inb).toLoadRect.idx (ix2 p q) 0 = slab k 0 p :=
  Fin.ext (((Rect.idx_unit_val _ _ inb (ix2 p q) 0).trans (congrArg (· + p.val) (congrFun (k0_off1_eq k 0) 0))))
theorem col_0 (k : Fin k0_t1_loop.trips) (inb) (p q : Fin 128) :
    (Rect.unit (s := S2048x128) (k0_off1 k 0#32) ![128, 128] inb).toLoadRect.idx (ix2 p q) 1 = q :=
  Fin.ext (((Rect.idx_unit_val _ _ inb (ix2 p q) 1).trans (congrArg (· + q.val) (congrFun (k0_off1_eq k 0) 1))).trans (Nat.zero_add _))
theorem row_1 (k : Fin k0_t1_loop.trips) (inb) (p q : Fin 128) :
    (Rect.unit (s := S2048x128) (k0_off1 k 1#32) ![128, 128] inb).toLoadRect.idx (ix2 p q) 0 = slab k 1 p :=
  Fin.ext (((Rect.idx_unit_val _ _ inb (ix2 p q) 0).trans (congrArg (· + p.val) (congrFun (k0_off1_eq k 1) 0))))
theorem col_1 (k : Fin k0_t1_loop.trips) (inb) (p q : Fin 128) :
    (Rect.unit (s := S2048x128) (k0_off1 k 1#32) ![128, 128] inb).toLoadRect.idx (ix2 p q) 1 = q :=
  Fin.ext (((Rect.idx_unit_val _ _ inb (ix2 p q) 1).trans (congrArg (· + q.val) (congrFun (k0_off1_eq k 1) 1))).trans (Nat.zero_add _))
theorem row_2 (k : Fin k0_t1_loop.trips) (inb) (p q : Fin 128) :
    (Rect.unit (s := S2048x128) (k0_off1 k 2#32) ![128, 128] inb).toLoadRect.idx (ix2 p q) 0 = slab k 2 p :=
  Fin.ext (((Rect.idx_unit_val _ _ inb (ix2 p q) 0).trans (congrArg (· + p.val) (congrFun (k0_off1_eq k 2) 0))))
theorem col_2 (k : Fin k0_t1_loop.trips) (inb) (p q : Fin 128) :
    (Rect.unit (s := S2048x128) (k0_off1 k 2#32) ![128, 128] inb).toLoadRect.idx (ix2 p q) 1 = q :=
  Fin.ext (((Rect.idx_unit_val _ _ inb (ix2 p q) 1).trans (congrArg (· + q.val) (congrFun (k0_off1_eq k 2) 1))).trans (Nat.zero_add _))
theorem row_3 (k : Fin k0_t1_loop.trips) (inb) (p q : Fin 128) :
    (Rect.unit (s := S2048x128) (k0_off1 k 3#32) ![128, 128] inb).toLoadRect.idx (ix2 p q) 0 = slab k 3 p :=
  Fin.ext (((Rect.idx_unit_val _ _ inb (ix2 p q) 0).trans (congrArg (· + p.val) (congrFun (k0_off1_eq k 3) 0))))
theorem col_3 (k : Fin k0_t1_loop.trips) (inb) (p q : Fin 128) :
    (Rect.unit (s := S2048x128) (k0_off1 k 3#32) ![128, 128] inb).toLoadRect.idx (ix2 p q) 1 = q :=
  Fin.ext (((Rect.idx_unit_val _ _ inb (ix2 p q) 1).trans (congrArg (· + q.val) (congrFun (k0_off1_eq k 3) 1))).trans (Nat.zero_add _))
theorem row_4 (k : Fin k0_t1_loop.trips) (inb) (p q : Fin 128) :
    (Rect.unit (s := S2048x128) (k0_off1 k 4#32) ![128, 128] inb).toLoadRect.idx (ix2 p q) 0 = slab k 4 p :=
  Fin.ext (((Rect.idx_unit_val _ _ inb (ix2 p q) 0).trans (congrArg (· + p.val) (congrFun (k0_off1_eq k 4) 0))))
theorem col_4 (k : Fin k0_t1_loop.trips) (inb) (p q : Fin 128) :
    (Rect.unit (s := S2048x128) (k0_off1 k 4#32) ![128, 128] inb).toLoadRect.idx (ix2 p q) 1 = q :=
  Fin.ext (((Rect.idx_unit_val _ _ inb (ix2 p q) 1).trans (congrArg (· + q.val) (congrFun (k0_off1_eq k 4) 1))).trans (Nat.zero_add _))
theorem row_5 (k : Fin k0_t1_loop.trips) (inb) (p q : Fin 128) :
    (Rect.unit (s := S2048x128) (k0_off1 k 5#32) ![128, 128] inb).toLoadRect.idx (ix2 p q) 0 = slab k 5 p :=
  Fin.ext (((Rect.idx_unit_val _ _ inb (ix2 p q) 0).trans (congrArg (· + p.val) (congrFun (k0_off1_eq k 5) 0))))
theorem col_5 (k : Fin k0_t1_loop.trips) (inb) (p q : Fin 128) :
    (Rect.unit (s := S2048x128) (k0_off1 k 5#32) ![128, 128] inb).toLoadRect.idx (ix2 p q) 1 = q :=
  Fin.ext (((Rect.idx_unit_val _ _ inb (ix2 p q) 1).trans (congrArg (· + q.val) (congrFun (k0_off1_eq k 5) 1))).trans (Nat.zero_add _))
theorem row_6 (k : Fin k0_t1_loop.trips) (inb) (p q : Fin 128) :
    (Rect.unit (s := S2048x128) (k0_off1 k 6#32) ![128, 128] inb).toLoadRect.idx (ix2 p q) 0 = slab k 6 p :=
  Fin.ext (((Rect.idx_unit_val _ _ inb (ix2 p q) 0).trans (congrArg (· + p.val) (congrFun (k0_off1_eq k 6) 0))))
theorem col_6 (k : Fin k0_t1_loop.trips) (inb) (p q : Fin 128) :
    (Rect.unit (s := S2048x128) (k0_off1 k 6#32) ![128, 128] inb).toLoadRect.idx (ix2 p q) 1 = q :=
  Fin.ext (((Rect.idx_unit_val _ _ inb (ix2 p q) 1).trans (congrArg (· + q.val) (congrFun (k0_off1_eq k 6) 1))).trans (Nat.zero_add _))
theorem row_7 (k : Fin k0_t1_loop.trips) (inb) (p q : Fin 128) :
    (Rect.unit (s := S2048x128) (k0_off1 k 7#32) ![128, 128] inb).toLoadRect.idx (ix2 p q) 0 = slab k 7 p :=
  Fin.ext (((Rect.idx_unit_val _ _ inb (ix2 p q) 0).trans (congrArg (· + p.val) (congrFun (k0_off1_eq k 7) 0))))
theorem col_7 (k : Fin k0_t1_loop.trips) (inb) (p q : Fin 128) :
    (Rect.unit (s := S2048x128) (k0_off1 k 7#32) ![128, 128] inb).toLoadRect.idx (ix2 p q) 1 = q :=
  Fin.ext (((Rect.idx_unit_val _ _ inb (ix2 p q) 1).trans (congrArg (· + q.val) (congrFun (k0_off1_eq k 7) 1))).trans (Nat.zero_add _))

section Trip
variable (arg1 arg7 : Memref sig .tc .vmem S2048x128 .f32) (arg14 : Memref sig .tc .vmem S2048x128 .bf16)
  (v3 : FVec Ideal S1x128 .f32) (v36 : FVec Ideal S128x128 .bf16) (v37 : Vec Ideal S1x128x1 .f32)
  (X1 : BufTy.Contents (Elt Ideal) arg1.view.ty) (X7 : BufTy.Contents (Elt Ideal) arg7.view.ty) (X14 : BufTy.Contents (Elt Ideal) arg14.view.ty)
  (u d vs : Fin 2048 → Fin 128 → EReal)
  (hU : ∀ (B : LoadRect S2048x128) (x : B.shape.Idx), View.readAt (Elt Ideal) arg1.view B X1 x = u (B.idx x 0) (B.idx x 1))
  (hD : ∀ (B : LoadRect S2048x128) (x : B.shape.Idx), View.readAt (Elt Ideal) arg7.view B X7 x = d (B.idx x 0) (B.idx x 1))
  (hV : ∀ (B : LoadRect S2048x128) (x : B.shape.Idx), View.readAt (Elt Ideal) arg14.view B X14 x = vs (B.idx x 0) (B.idx x 1))
  (k : Fin k0_t1_loop.trips) (acc : FVec Ideal S128x128 .f32 × FVec Ideal S128x1 .f32 × FVec Ideal S1x128 .f32)
include hU hD hV

theorem dm_0 (a n : Fin 128) : trip_k0_t1.sl.r_25 arg1 arg7 arg14 v3 v36 v37 X1 X7 X14 k (ix2 a n)
    = dmx u vs d (fun a s => v36 (ix2 a s)) (fun a => v37 (ix3 0 a 0)) (fun n => v3 (ix2 0 n)) (slab k 0 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_0, col_0, erf_def, exp_def]
  simp only [dmx, dsg, nb, gated, mixed, scale, gelu, geluD, duv, peer_slab, inner_slab, isq, isp]
theorem db_0 (a : Fin 128) : trip_k0_t1.sl.r_24 arg1 arg7 arg14 v3 v36 v37 X1 X7 X14 k acc (ix2 a 0)
    = acc.2.1 (ix2 a 0) + ∑ n, dmx u vs d (fun a s => v36 (ix2 a s)) (fun a => v37 (ix3 0 a 0)) (fun n => v3 (ix2 0 n)) (slab k 0 a) n := by
  pointwise [trip_k0_t1.sl.r_24, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_0, col_0, erf_def, exp_def]
  simp only [dmx, dsg, nb, gated, mixed, scale, gelu, geluD, duv, peer_slab, inner_slab, isq, isp]
theorem gb_0 (n : Fin 128) : trip_k0_t1.sl.r_20 arg1 arg7 arg14 v36 v37 X1 X7 X14 k acc (ix2 0 n)
    = acc.2.2 (ix2 0 n) + ∑ p, d (slab k 0 p) n * (gated u vs (fun a s => v36 (ix2 a s)) (fun a => v37 (ix3 0 a 0)) (slab k 0 p) n * scale (gated u vs (fun a s => v36 (ix2 a s)) (fun a => v37 (ix3 0 a 0)) (slab k 0 p))) := by
  pointwise [trip_k0_t1.sl.r_20, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_0, col_0, erf_def, exp_def]
  simp only [dmx, dsg, nb, gated, mixed, scale, gelu, geluD, duv, peer_slab, inner_slab, isq, isp]
theorem dm_1 (a n : Fin 128) : trip_k0_t1.sl.r_34 arg1 arg7 arg14 v3 v36 v37 X1 X7 X14 k (ix2 a n)
    = dmx u vs d (fun a s => v36 (ix2 a s)) (fun a => v37 (ix3 0 a 0)) (fun n => v3 (ix2 0 n)) (slab k 1 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_1, col_1, erf_def, exp_def]
  simp only [dmx, dsg, nb, gated, mixed, scale, gelu, geluD, duv, peer_slab, inner_slab, isq, isp]
theorem db_1 (a : Fin 128) : trip_k0_t1.sl.r_33 arg1 arg7 arg14 v3 v36 v37 X1 X7 X14 k acc (ix2 a 0)
    = trip_k0_t1.sl.r_24 arg1 arg7 arg14 v3 v36 v37 X1 X7 X14 k acc (ix2 a 0) + ∑ n, dmx u vs d (fun a s => v36 (ix2 a s)) (fun a => v37 (ix3 0 a 0)) (fun n => v3 (ix2 0 n)) (slab k 1 a) n := by
  pointwise [trip_k0_t1.sl.r_33, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_1, col_1, erf_def, exp_def]
  simp only [dmx, dsg, nb, gated, mixed, scale, gelu, geluD, duv, peer_slab, inner_slab, isq, isp]
theorem gb_1 (n : Fin 128) : trip_k0_t1.sl.r_32 arg1 arg7 arg14 v36 v37 X1 X7 X14 k acc (ix2 0 n)
    = trip_k0_t1.sl.r_20 arg1 arg7 arg14 v36 v37 X1 X7 X14 k acc (ix2 0 n) + ∑ p, d (slab k 1 p) n * (gated u vs (fun a s => v36 (ix2 a s)) (fun a => v37 (ix3 0 a 0)) (slab k 1 p) n * scale (gated u vs (fun a s => v36 (ix2 a s)) (fun a => v37 (ix3 0 a 0)) (slab k 1 p))) := by
  pointwise [trip_k0_t1.sl.r_32, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_1, col_1, erf_def, exp_def]
  simp only [dmx, dsg, nb, gated, mixed, scale, gelu, geluD, duv, peer_slab, inner_slab, isq, isp]
theorem dm_2 (a n : Fin 128) : trip_k0_t1.sl.r_43 arg1 arg7 arg14 v3 v36 v37 X1 X7 X14 k (ix2 a n)
    = dmx u vs d (fun a s => v36 (ix2 a s)) (fun a => v37 (ix3 0 a 0)) (fun n => v3 (ix2 0 n)) (slab k 2 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_2, col_2, erf_def, exp_def]
  simp only [dmx, dsg, nb, gated, mixed, scale, gelu, geluD, duv, peer_slab, inner_slab, isq, isp]
theorem db_2 (a : Fin 128) : trip_k0_t1.sl.r_42 arg1 arg7 arg14 v3 v36 v37 X1 X7 X14 k acc (ix2 a 0)
    = trip_k0_t1.sl.r_33 arg1 arg7 arg14 v3 v36 v37 X1 X7 X14 k acc (ix2 a 0) + ∑ n, dmx u vs d (fun a s => v36 (ix2 a s)) (fun a => v37 (ix3 0 a 0)) (fun n => v3 (ix2 0 n)) (slab k 2 a) n := by
  pointwise [trip_k0_t1.sl.r_42, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_2, col_2, erf_def, exp_def]
  simp only [dmx, dsg, nb, gated, mixed, scale, gelu, geluD, duv, peer_slab, inner_slab, isq, isp]
theorem gb_2 (n : Fin 128) : trip_k0_t1.sl.r_39 arg1 arg7 arg14 v36 v37 X1 X7 X14 k acc (ix2 0 n)
    = trip_k0_t1.sl.r_32 arg1 arg7 arg14 v36 v37 X1 X7 X14 k acc (ix2 0 n) + ∑ p, d (slab k 2 p) n * (gated u vs (fun a s => v36 (ix2 a s)) (fun a => v37 (ix3 0 a 0)) (slab k 2 p) n * scale (gated u vs (fun a s => v36 (ix2 a s)) (fun a => v37 (ix3 0 a 0)) (slab k 2 p))) := by
  pointwise [trip_k0_t1.sl.r_39, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_2, col_2, erf_def, exp_def]
  simp only [dmx, dsg, nb, gated, mixed, scale, gelu, geluD, duv, peer_slab, inner_slab, isq, isp]
theorem dm_3 (a n : Fin 128) : trip_k0_t1.sl.r_51 arg1 arg7 arg14 v3 v36 v37 X1 X7 X14 k (ix2 a n)
    = dmx u vs d (fun a s => v36 (ix2 a s)) (fun a => v37 (ix3 0 a 0)) (fun n => v3 (ix2 0 n)) (slab k 3 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_3, col_3, erf_def, exp_def]
  simp only [dmx, dsg, nb, gated, mixed, scale, gelu, geluD, duv, peer_slab, inner_slab, isq, isp]
theorem db_3 (a : Fin 128) : trip_k0_t1.sl.r_50 arg1 arg7 arg14 v3 v36 v37 X1 X7 X14 k acc (ix2 a 0)
    = trip_k0_t1.sl.r_42 arg1 arg7 arg14 v3 v36 v37 X1 X7 X14 k acc (ix2 a 0) + ∑ n, dmx u vs d (fun a s => v36 (ix2 a s)) (fun a => v37 (ix3 0 a 0)) (fun n => v3 (ix2 0 n)) (slab k 3 a) n := by
  pointwise [trip_k0_t1.sl.r_50, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_3, col_3, erf_def, exp_def]
  simp only [dmx, dsg, nb, gated, mixed, scale, gelu, geluD, duv, peer_slab, inner_slab, isq, isp]
theorem gb_3 (n : Fin 128) : trip_k0_t1.sl.r_47 arg1 arg7 arg14 v36 v37 X1 X7 X14 k acc (ix2 0 n)
    = trip_k0_t1.sl.r_39 arg1 arg7 arg14 v36 v37 X1 X7 X14 k acc (ix2 0 n) + ∑ p, d (slab k 3 p) n * (gated u vs (fun a s => v36 (ix2 a s)) (fun a => v37 (ix3 0 a 0)) (slab k 3 p) n * scale (gated u vs (fun a s => v36 (ix2 a s)) (fun a => v37 (ix3 0 a 0)) (slab k 3 p))) := by
  pointwise [trip_k0_t1.sl.r_47, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_3, col_3, erf_def, exp_def]
  simp only [dmx, dsg, nb, gated, mixed, scale, gelu, geluD, duv, peer_slab, inner_slab, isq, isp]
theorem dm_4 (a n : Fin 128) : trip_k0_t1.sl.r_61 arg1 arg7 arg14 v3 v36 v37 X1 X7 X14 k (ix2 a n)
    = dmx u vs d (fun a s => v36 (ix2 a s)) (fun a => v37 (ix3 0 a 0)) (fun n => v3 (ix2 0 n)) (slab k 4 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_4, col_4, erf_def, exp_def]
  simp only [dmx, dsg, nb, gated, mixed, scale, gelu, geluD, duv, peer_slab, inner_slab, isq, isp]
theorem db_4 (a : Fin 128) : trip_k0_t1.sl.r_60 arg1 arg7 arg14 v3 v36 v37 X1 X7 X14 k acc (ix2 a 0)
    = trip_k0_t1.sl.r_50 arg1 arg7 arg14 v3 v36 v37 X1 X7 X14 k acc (ix2 a 0) + ∑ n, dmx u vs d (fun a s => v36 (ix2 a s)) (fun a => v37 (ix3 0 a 0)) (fun n => v3 (ix2 0 n)) (slab k 4 a) n := by
  pointwise [trip_k0_t1.sl.r_60, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_4, col_4, erf_def, exp_def]
  simp only [dmx, dsg, nb, gated, mixed, scale, gelu, geluD, duv, peer_slab, inner_slab, isq, isp]
theorem gb_4 (n : Fin 128) : trip_k0_t1.sl.r_59 arg1 arg7 arg14 v36 v37 X1 X7 X14 k acc (ix2 0 n)
    = trip_k0_t1.sl.r_47 arg1 arg7 arg14 v36 v37 X1 X7 X14 k acc (ix2 0 n) + ∑ p, d (slab k 4 p) n * (gated u vs (fun a s => v36 (ix2 a s)) (fun a => v37 (ix3 0 a 0)) (slab k 4 p) n * scale (gated u vs (fun a s => v36 (ix2 a s)) (fun a => v37 (ix3 0 a 0)) (slab k 4 p))) := by
  pointwise [trip_k0_t1.sl.r_59, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_4, col_4, erf_def, exp_def]
  simp only [dmx, dsg, nb, gated, mixed, scale, gelu, geluD, duv, peer_slab, inner_slab, isq, isp]
theorem dm_5 (a n : Fin 128) : trip_k0_t1.sl.r_70 arg1 arg7 arg14 v3 v36 v37 X1 X7 X14 k (ix2 a n)
    = dmx u vs d (fun a s => v36 (ix2 a s)) (fun a => v37 (ix3 0 a 0)) (fun n => v3 (ix2 0 n)) (slab k 5 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_5, col_5, erf_def, exp_def]
  simp only [dmx, dsg, nb, gated, mixed, scale, gelu, geluD, duv, peer_slab, inner_slab, isq, isp]
theorem db_5 (a : Fin 128) : trip_k0_t1.sl.r_69 arg1 arg7 arg14 v3 v36 v37 X1 X7 X14 k acc (ix2 a 0)
    = trip_k0_t1.sl.r_60 arg1 arg7 arg14 v3 v36 v37 X1 X7 X14 k acc (ix2 a 0) + ∑ n, dmx u vs d (fun a s => v36 (ix2 a s)) (fun a => v37 (ix3 0 a 0)) (fun n => v3 (ix2 0 n)) (slab k 5 a) n := by
  pointwise [trip_k0_t1.sl.r_69, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_5, col_5, erf_def, exp_def]
  simp only [dmx, dsg, nb, gated, mixed, scale, gelu, geluD, duv, peer_slab, inner_slab, isq, isp]
theorem gb_5 (n : Fin 128) : trip_k0_t1.sl.r_67 arg1 arg7 arg14 v36 v37 X1 X7 X14 k acc (ix2 0 n)
    = trip_k0_t1.sl.r_59 arg1 arg7 arg14 v36 v37 X1 X7 X14 k acc (ix2 0 n) + ∑ p, d (slab k 5 p) n * (gated u vs (fun a s => v36 (ix2 a s)) (fun a => v37 (ix3 0 a 0)) (slab k 5 p) n * scale (gated u vs (fun a s => v36 (ix2 a s)) (fun a => v37 (ix3 0 a 0)) (slab k 5 p))) := by
  pointwise [trip_k0_t1.sl.r_67, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_5, col_5, erf_def, exp_def]
  simp only [dmx, dsg, nb, gated, mixed, scale, gelu, geluD, duv, peer_slab, inner_slab, isq, isp]
theorem dm_6 (a n : Fin 128) : trip_k0_t1.sl.r_77 arg1 arg7 arg14 v3 v36 v37 X1 X7 X14 k (ix2 a n)
    = dmx u vs d (fun a s => v36 (ix2 a s)) (fun a => v37 (ix3 0 a 0)) (fun n => v3 (ix2 0 n)) (slab k 6 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_6, col_6, erf_def, exp_def]
  simp only [dmx, dsg, nb, gated, mixed, scale, gelu, geluD, duv, peer_slab, inner_slab, isq, isp]
theorem db_6 (a : Fin 128) : trip_k0_t1.sl.r_76 arg1 arg7 arg14 v3 v36 v37 X1 X7 X14 k acc (ix2 a 0)
    = trip_k0_t1.sl.r_69 arg1 arg7 arg14 v3 v36 v37 X1 X7 X14 k acc (ix2 a 0) + ∑ n, dmx u vs d (fun a s => v36 (ix2 a s)) (fun a => v37 (ix3 0 a 0)) (fun n => v3 (ix2 0 n)) (slab k 6 a) n := by
  pointwise [trip_k0_t1.sl.r_76, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_6, col_6, erf_def, exp_def]
  simp only [dmx, dsg, nb, gated, mixed, scale, gelu, geluD, duv, peer_slab, inner_slab, isq, isp]
theorem gb_6 (n : Fin 128) : trip_k0_t1.sl.r_75 arg1 arg7 arg14 v36 v37 X1 X7 X14 k acc (ix2 0 n)
    = trip_k0_t1.sl.r_67 arg1 arg7 arg14 v36 v37 X1 X7 X14 k acc (ix2 0 n) + ∑ p, d (slab k 6 p) n * (gated u vs (fun a s => v36 (ix2 a s)) (fun a => v37 (ix3 0 a 0)) (slab k 6 p) n * scale (gated u vs (fun a s => v36 (ix2 a s)) (fun a => v37 (ix3 0 a 0)) (slab k 6 p))) := by
  pointwise [trip_k0_t1.sl.r_75, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_6, col_6, erf_def, exp_def]
  simp only [dmx, dsg, nb, gated, mixed, scale, gelu, geluD, duv, peer_slab, inner_slab, isq, isp]
theorem dm_7 (a n : Fin 128) : trip_k0_t1.sl.r_84 arg1 arg7 arg14 v3 v36 v37 X1 X7 X14 k (ix2 a n)
    = dmx u vs d (fun a s => v36 (ix2 a s)) (fun a => v37 (ix3 0 a 0)) (fun n => v3 (ix2 0 n)) (slab k 7 a) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_7, col_7, erf_def, exp_def]
  simp only [dmx, dsg, nb, gated, mixed, scale, gelu, geluD, duv, peer_slab, inner_slab, isq, isp]
theorem db_7 (a : Fin 128) : trip_k0_t1.sl.r_83 arg1 arg7 arg14 v3 v36 v37 X1 X7 X14 k acc (ix2 a 0)
    = trip_k0_t1.sl.r_76 arg1 arg7 arg14 v3 v36 v37 X1 X7 X14 k acc (ix2 a 0) + ∑ n, dmx u vs d (fun a s => v36 (ix2 a s)) (fun a => v37 (ix3 0 a 0)) (fun n => v3 (ix2 0 n)) (slab k 7 a) n := by
  pointwise [trip_k0_t1.sl.r_83, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_7, col_7, erf_def, exp_def]
  simp only [dmx, dsg, nb, gated, mixed, scale, gelu, geluD, duv, peer_slab, inner_slab, isq, isp]
theorem gb_7 (n : Fin 128) : trip_k0_t1.sl.r_82 arg1 arg7 arg14 v36 v37 X1 X7 X14 k acc (ix2 0 n)
    = trip_k0_t1.sl.r_75 arg1 arg7 arg14 v36 v37 X1 X7 X14 k acc (ix2 0 n) + ∑ p, d (slab k 7 p) n * (gated u vs (fun a s => v36 (ix2 a s)) (fun a => v37 (ix3 0 a 0)) (slab k 7 p) n * scale (gated u vs (fun a s => v36 (ix2 a s)) (fun a => v37 (ix3 0 a 0)) (slab k 7 p))) := by
  pointwise [trip_k0_t1.sl.r_82, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
  simp only [hU, hV, hD, row_7, col_7, erf_def, exp_def]
  simp only [dmx, dsg, nb, gated, mixed, scale, gelu, geluD, duv, peer_slab, inner_slab, isq, isp]

theorem dw_all (t s : Fin 128) : trip_k0_t1.sl.r_86 arg1 arg7 arg14 v3 v36 v37 X1 X7 X14 k acc (ix2 t s)
    = acc.1 (ix2 t s) + ∑ j : Fin 8, ∑ n, dmx u vs d (fun a s => v36 (ix2 a s)) (fun a => v37 (ix3 0 a 0)) (fun n => v3 (ix2 0 n)) (slab k j t) n * vs (slab k j s) n := by
  pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_85, trip_k0_t1.sl.r_86, k0_pay107, k0_pay108]
  simp only [dm_0 arg1 arg7 arg14 v3 v36 v37 X1 X7 X14 u d vs hU hD hV k, dm_1 arg1 arg7 arg14 v3 v36 v37 X1 X7 X14 u d vs hU hD hV k, dm_2 arg1 arg7 arg14 v3 v36 v37 X1 X7 X14 u d vs hU hD hV k, dm_3 arg1 arg7 arg14 v3 v36 v37 X1 X7 X14 u d vs hU hD hV k, dm_4 arg1 arg7 arg14 v3 v36 v37 X1 X7 X14 u d vs hU hD hV k, dm_5 arg1 arg7 arg14 v3 v36 v37 X1 X7 X14 u d vs hU hD hV k, dm_6 arg1 arg7 arg14 v3 v36 v37 X1 X7 X14 u d vs hU hD hV k, dm_7 arg1 arg7 arg14 v3 v36 v37 X1 X7 X14 u d vs hU hD hV k]
  simp only [hV, row_0, col_0, row_1, col_1, row_2, col_2, row_3, col_3, row_4, col_4, row_5, col_5, row_6, col_6, row_7, col_7]
  rw [Fin.sum_univ_eight]
  simp only [add_assoc]
theorem db_all (a : Fin 128) : trip_k0_t1.sl.r_83 arg1 arg7 arg14 v3 v36 v37 X1 X7 X14 k acc (ix2 a 0)
    = acc.2.1 (ix2 a 0) + ∑ j : Fin 8, ∑ n, dmx u vs d (fun a s => v36 (ix2 a s)) (fun a => v37 (ix3 0 a 0)) (fun n => v3 (ix2 0 n)) (slab k j a) n := by
  rw [db_7 arg1 arg7 arg14 v3 v36 v37 X1 X7 X14 u d vs hU hD hV k acc, db_6 arg1 arg7 arg14 v3 v36 v37 X1 X7 X14 u d vs hU hD hV k acc, db_5 arg1 arg7 arg14 v3 v36 v37 X1 X7 X14 u d vs hU hD hV k acc, db_4 arg1 arg7 arg14 v3 v36 v37 X1 X7 X14 u d vs hU hD hV k acc, db_3 arg1 arg7 arg14 v3 v36 v37 X1 X7 X14 u d vs hU hD hV k acc, db_2 arg1 arg7 arg14 v3 v36 v37 X1 X7 X14 u d vs hU hD hV k acc, db_1 arg1 arg7 arg14 v3 v36 v37 X1 X7 X14 u d vs hU hD hV k acc, db_0 arg1 arg7 arg14 v3 v36 v37 X1 X7 X14 u d vs hU hD hV k acc, Fin.sum_univ_eight]
  simp only [add_assoc]
theorem gb_all (n : Fin 128) : trip_k0_t1.sl.r_82 arg1 arg7 arg14 v36 v37 X1 X7 X14 k acc (ix2 0 n)
    = acc.2.2 (ix2 0 n) + ∑ j : Fin 8, ∑ p, d (slab k j p) n * (gated u vs (fun a s => v36 (ix2 a s)) (fun a => v37 (ix3 0 a 0)) (slab k j p) n * scale (gated u vs (fun a s => v36 (ix2 a s)) (fun a => v37 (ix3 0 a 0)) (slab k j p))) := by
  rw [gb_7 arg1 arg7 arg14 v36 v37 X1 X7 X14 u d vs hU hD hV k acc, gb_6 arg1 arg7 arg14 v36 v37 X1 X7 X14 u d vs hU hD hV k acc, gb_5 arg1 arg7 arg14 v36 v37 X1 X7 X14 u d vs hU hD hV k acc, gb_4 arg1 arg7 arg14 v36 v37 X1 X7 X14 u d vs hU hD hV k acc, gb_3 arg1 arg7 arg14 v36 v37 X1 X7 X14 u d vs hU hD hV k acc, gb_2 arg1 arg7 arg14 v36 v37 X1 X7 X14 u d vs hU hD hV k acc, gb_1 arg1 arg7 arg14 v36 v37 X1 X7 X14 u d vs hU hD hV k acc, gb_0 arg1 arg7 arg14 v36 v37 X1 X7 X14 u d vs hU hD hV k acc, Fin.sum_univ_eight]
  simp only [add_assoc]

/-- What a trip carries on. -/
theorem trip_carry (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) :
    (∀ t s, (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 k acc).1 (ix2 t s)
      = acc.1 (ix2 t s) + ∑ j : Fin 8, ∑ n, dmx u vs d (fun a s => v36 (ix2 a s)) (fun a => v37 (ix3 0 a 0)) (fun n => v3 (ix2 0 n)) (slab k j t) n * vs (slab k j s) n)
    ∧ (∀ a, (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 k acc).2.1 (ix2 a 0)
      = acc.2.1 (ix2 a 0) + ∑ j : Fin 8, ∑ n, dmx u vs d (fun a s => v36 (ix2 a s)) (fun a => v37 (ix3 0 a 0)) (fun n => v3 (ix2 0 n)) (slab k j a) n)
    ∧ (∀ n, (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 k acc).2.2 (ix2 0 n)
      = acc.2.2 (ix2 0 n) + ∑ j : Fin 8, ∑ p, d (slab k j p) n * (gated u vs (fun a s => v36 (ix2 a s)) (fun a => v37 (ix3 0 a 0)) (slab k j p) n * scale (gated u vs (fun a s => v36 (ix2 a s)) (fun a => v37 (ix3 0 a 0)) (slab k j p)))) := by
  unfold tripR_k0_t1 trip_k0_t1
  dsimp only
  exact ⟨dw_all arg1 arg7 arg14 v3 v36 v37 X1 X7 X14 u d vs hU hD hV k acc, db_all arg1 arg7 arg14 v3 v36 v37 X1 X7 X14 u d vs hU hD hV k acc, gb_all arg1 arg7 arg14 v36 v37 X1 X7 X14 u d vs hU hD hV k acc⟩

/-- The rows a trip stores of the gradient at the first half. -/
theorem trip_du (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (y : S2048x128.Idx) :
    View.AllAt (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 k acc).1 y (duv u vs d (fun a s => v36 (ix2 a s)) (fun a => v37 (ix3 0 a 0)) (fun n => v3 (ix2 0 n)) (y 0) (y 1)) := by
  unfold tripL_k0_t1 trip_k0_t1
  dsimp only
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x hx
    obtain ⟨a, n, rfl⟩ : ∃ (a n : Fin 128), x = ix2 a n := ⟨x 0, x 1, by funext a; fin_cases a <;> rfl⟩
    rw [show k0_off1 k 7#32 = ![1024 * k.val + 128 * 7, 0] from k0_off1_eq k 7] at hx
    have h0 : y 0 = slab k 7 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_7, col_7, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 6#32 = ![1024 * k.val + 128 * 6, 0] from k0_off1_eq k 6] at hx
    have h0 : y 0 = slab k 6 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_6, col_6, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 5#32 = ![1024 * k.val + 128 * 5, 0] from k0_off1_eq k 5] at hx
    have h0 : y 0 = slab k 5 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_5, col_5, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 4#32 = ![1024 * k.val + 128 * 4, 0] from k0_off1_eq k 4] at hx
    have h0 : y 0 = slab k 4 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_4, col_4, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 3#32 = ![1024 * k.val + 128 * 3, 0] from k0_off1_eq k 3] at hx
    have h0 : y 0 = slab k 3 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_3, col_3, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 2#32 = ![1024 * k.val + 128 * 2, 0] from k0_off1_eq k 2] at hx
    have h0 : y 0 = slab k 2 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_2, col_2, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 1#32 = ![1024 * k.val + 128 * 1, 0] from k0_off1_eq k 1] at hx
    have h0 : y 0 = slab k 1 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_1, col_1, erf_def, exp_def]
    simp only [dmx, dsg, nb, gated, mixed, scale, gelu, geluD, duv, peer_slab, inner_slab, isq, isp]
  · intro x hx
    obtain ⟨a, n, rfl⟩ : ∃ (a n : Fin 128), x = ix2 a n := ⟨x 0, x 1, by funext a; fin_cases a <;> rfl⟩
    rw [show k0_off1 k 0#32 = ![1024 * k.val + 128 * 0, 0] from k0_off1_eq k 0] at hx
    have h0 : y 0 = slab k 0 a := Fin.ext (hx 0)
    have h1 : y 1 = n := Fin.ext ((hx 1).trans (Nat.zero_add _))
    rw [h0, h1]
    pointwise [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_21, trip_k0_t1.sl.r_22, trip_k0_t1.sl.r_23, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_34, trip_k0_t1.sl.r_35, trip_k0_t1.sl.r_36, trip_k0_t1.sl.r_37, trip_k0_t1.sl.r_38, trip_k0_t1.sl.r_40, trip_k0_t1.sl.r_41, trip_k0_t1.sl.r_43, trip_k0_t1.sl.r_44, trip_k0_t1.sl.r_45, trip_k0_t1.sl.r_46, trip_k0_t1.sl.r_48, trip_k0_t1.sl.r_49, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_61, trip_k0_t1.sl.r_62, trip_k0_t1.sl.r_63, trip_k0_t1.sl.r_64, trip_k0_t1.sl.r_65, trip_k0_t1.sl.r_66, trip_k0_t1.sl.r_68, trip_k0_t1.sl.r_70, trip_k0_t1.sl.r_71, trip_k0_t1.sl.r_72, trip_k0_t1.sl.r_73, trip_k0_t1.sl.r_74, trip_k0_t1.sl.r_77, trip_k0_t1.sl.r_78, trip_k0_t1.sl.r_79, trip_k0_t1.sl.r_80, trip_k0_t1.sl.r_81, trip_k0_t1.sl.r_84, trip_k0_t1.sl.cst_93, trip_k0_t1.sl.cst_106, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135]
    simp only [hU, hV, hD, row_0, col_0, erf_def, exp_def]
    simp only [dmx, dsg, nb, gated, mixed, scale, gelu, geluD, duv, peer_slab, inner_slab, isq, isp]

/-- The rows a trip stores of the gradient at the normalised second half. -/
theorem trip_dvs (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (y : S2048x128.Idx) :
    View.AllAt (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 k acc).2 y (dvs u vs d (fun a s => v36 (ix2 a s)) (fun a => v37 (ix3 0 a 0)) (fun n => v3 (ix2 0 n)) (y 0) (y 1)) := by
  unfold tripL_k0_t1 trip_k0_t1
  dsimp only
  refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))
  · intro x hx
    obtain ⟨a, n, rfl⟩ : ∃ (a n : Fin 128), x = ix2 a n := ⟨x 0, x 1, by funext a; fin_cases a <;> rfl⟩
    rw [show k0_off1 k 7#32 = ![1024 * k.val + 128 * 7, 0] from k0_off1_eq k 7] at hx
    have h0 : y 0 = slab k 7 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_7 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 6#32 = ![1024 * k.val + 128 * 6, 0] from k0_off1_eq k 6] at hx
    have h0 : y 0 = slab k 6 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_6 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 5#32 = ![1024 * k.val + 128 * 5, 0] from k0_off1_eq k 5] at hx
    have h0 : y 0 = slab k 5 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_5 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 4#32 = ![1024 * k.val + 128 * 4, 0] from k0_off1_eq k 4] at hx
    have h0 : y 0 = slab k 4 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_4 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 3#32 = ![1024 * k.val + 128 * 3, 0] from k0_off1_eq k 3] at hx
    have h0 : y 0 = slab k 3 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_3 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 2#32 = ![1024 * k.val + 128 * 2, 0] from k0_off1_eq k 2] at hx
    have h0 : y 0 = slab k 2 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_2 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 1#32 = ![1024 * k.val + 128 * 1, 0] from k0_off1_eq k 1] at hx
    have h0 : y 0 = slab k 1 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_1 arg1 arg7 arg14 v3 v36 v37 X1 X7 X14 u d vs hU hD hV k]
    simp only [dvs, peer_slab, inner_slab]
  · intro x hx
    obtain ⟨a, n, rfl⟩ : ∃ (a n : Fin 128), x = ix2 a n := ⟨x 0, x 1, by funext a; fin_cases a <;> rfl⟩
    rw [show k0_off1 k 0#32 = ![1024 * k.val + 128 * 0, 0] from k0_off1_eq k 0] at hx
    have h0 : y 0 = slab k 0 a := Fin.ext (hx 0)
    have h1 : y 1 = n := Fin.ext ((hx 1).trans (Nat.zero_add _))
    rw [h0, h1]
    pointwise [trip_k0_t1.sl.r_87, k0_pay109, k0_pay110, k0_pay111, k0_pay112, k0_pay113, k0_pay123, k0_pay124, k0_pay125]
    simp only [dm_0 arg1 arg7 arg14 v3 v36 v37 X1 X7 X14 u d vs hU hD hV k]
    simp only [dvs, peer_slab, inner_slab]

end Trip

end Cert.SguBwd

end
-- ==== Proof.SguPoint.lean ====
module

public import proofs.«01_k».proof.Proof.SguTrip

@[expose] public section

/-! The loop of the gating unit's gradient, both trips, and what one point leaves in each output. -/

set_option maxRecDepth 16384

noncomputable section

namespace Cert.SguBwd
open Idealize.ShloMosaic Idealize.ShloMosaic.Pointwise Idealize.ShloMosaic.Pipeline Cert.Kernel16Ideal Cert.Kernel16Ideal.Gen Cert.Kernel16Ideal.Body
open Idealize.ShloMosaic.TcCoe Idealize.SL.Sem
open Cert.SguFwd (peer inner scale tri sle eta whole2 whole3)

/-- The eight blocks of each of the two trips are the sixteen blocks of rows. -/
theorem sum_slabs (f : (Fin 128 → Fin 2048) → EReal) (h0 : 0 < k0_t1_loop.trips) (h1 : 1 < k0_t1_loop.trips) :
    ∑ j : Fin 8, f (slab ⟨0, h0⟩ j) + ∑ j : Fin 8, f (slab ⟨1, h1⟩ j) = ∑ q : Fin 16, f (rowOf q) := by
  refine Eq.trans ?_ (Fin.sum_univ_add (a := 8) (b := 8) (fun q : Fin (8 + 8) => f (rowOf q))).symm
  refine congrArg₂ _ (Finset.sum_congr rfl fun j _ => congrArg f ?_) (Finset.sum_congr rfl fun j _ => congrArg f ?_)
  · funext p
    refine Fin.ext ?_
    show 1024 * 0 + 128 * j.val + p.val = 128 * j.val + p.val
    omega
  · funext p
    refine Fin.ext ?_
    show 1024 * 1 + 128 * j.val + p.val = 128 * (8 + j.val) + p.val
    omega

section Trip
variable (arg1 arg7 : Memref sig .tc .vmem S2048x128 .f32) (arg14 : Memref sig .tc .vmem S2048x128 .bf16)
  (v3 : FVec Ideal S1x128 .f32) (v36 : FVec Ideal S128x128 .bf16) (v37 : Vec Ideal S1x128x1 .f32)
  (X1 : BufTy.Contents (Elt Ideal) arg1.view.ty) (X7 : BufTy.Contents (Elt Ideal) arg7.view.ty) (X14 : BufTy.Contents (Elt Ideal) arg14.view.ty)
  (u d vs : Fin 2048 → Fin 128 → EReal)
  (hU : ∀ (B : LoadRect S2048x128) (x : B.shape.Idx), View.readAt (Elt Ideal) arg1.view B X1 x = u (B.idx x 0) (B.idx x 1))
  (hD : ∀ (B : LoadRect S2048x128) (x : B.shape.Idx), View.readAt (Elt Ideal) arg7.view B X7 x = d (B.idx x 0) (B.idx x 1))
  (hV : ∀ (B : LoadRect S2048x128) (x : B.shape.Idx), View.readAt (Elt Ideal) arg14.view B X14 x = vs (B.idx x 0) (B.idx x 1))
  (init : FVec Ideal S128x128 .f32 × FVec Ideal S128x1 .f32 × FVec Ideal S1x128 .f32)
include hU hD hV

theorem loop_du (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (y : S2048x128.Idx) :
    View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 init (Scf.trips (0#32) (Scalar.addi 0#32 2#32) 1#32)).2.1 y (duv u vs d (fun a s => v36 (ix2 a s)) (fun a => v37 (ix3 0 a 0)) (fun n => v3 (ix2 0 n)) (y 0) (y 1)) := by
  rw [show Scf.trips (0#32) (Scalar.addi 0#32 2#32) 1#32 = 2 by decide +kernel]
  simp only [st_k0_t1, st_k0_t1Step, trips, dite_true, Nat.lt_add_one, Nat.zero_lt_succ, dif_pos, Nat.zero_lt_two]
  intro p hp
  simp only [List.append_nil] at hp
  rcases List.mem_append.mp hp with hp | hp
  · exact trip_du arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31 y p hp
  · exact trip_du arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31 y p hp

theorem loop_dvs (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (y : S2048x128.Idx) :
    View.AllAt (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 init (Scf.trips (0#32) (Scalar.addi 0#32 2#32) 1#32)).2.2 y (dvs u vs d (fun a s => v36 (ix2 a s)) (fun a => v37 (ix3 0 a 0)) (fun n => v3 (ix2 0 n)) (y 0) (y 1)) := by
  rw [show Scf.trips (0#32) (Scalar.addi 0#32 2#32) 1#32 = 2 by decide +kernel]
  simp only [st_k0_t1, st_k0_t1Step, trips, dite_true, Nat.lt_add_one, Nat.zero_lt_succ, dif_pos, Nat.zero_lt_two]
  intro p hp
  simp only [List.append_nil] at hp
  rcases List.mem_append.mp hp with hp | hp
  · exact trip_dvs arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31 y p hp
  · exact trip_dvs arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31 y p hp

theorem loop_dw (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (t s : Fin 128) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 init (Scf.trips (0#32) (Scalar.addi 0#32 2#32) 1#32)).1.1 (ix2 t s) = init.1 (ix2 t s) + dwv u vs d (fun a s => v36 (ix2 a s)) (fun a => v37 (ix3 0 a 0)) (fun n => v3 (ix2 0 n)) t s := by
  rw [show Scf.trips (0#32) (Scalar.addi 0#32 2#32) 1#32 = 2 by decide +kernel]
  simp only [st_k0_t1, st_k0_t1Step, trips, dite_true, Nat.lt_add_one, Nat.zero_lt_succ, dif_pos, Nat.zero_lt_two]
  refine (((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).1 t s).trans (congrArg (· + _) ((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).1 t s))).trans ?_
  rw [add_assoc]
  exact congrArg (_ + ·) (sum_slabs (fun R => ∑ n, dmx u vs d (fun a s => v36 (ix2 a s)) (fun a => v37 (ix3 0 a 0)) (fun n => v3 (ix2 0 n)) (R t) n * vs (R s) n) _ _)

theorem loop_db (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (t : Fin 128) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 init (Scf.trips (0#32) (Scalar.addi 0#32 2#32) 1#32)).1.2.1 (ix2 t 0) = init.2.1 (ix2 t 0) + dbv u vs d (fun a s => v36 (ix2 a s)) (fun a => v37 (ix3 0 a 0)) (fun n => v3 (ix2 0 n)) t := by
  rw [show Scf.trips (0#32) (Scalar.addi 0#32 2#32) 1#32 = 2 by decide +kernel]
  simp only [st_k0_t1, st_k0_t1Step, trips, dite_true, Nat.lt_add_one, Nat.zero_lt_succ, dif_pos, Nat.zero_lt_two]
  refine (((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).2.1 t).trans (congrArg (· + _) ((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).2.1 t))).trans ?_
  rw [add_assoc]
  exact congrArg (_ + ·) (sum_slabs (fun R => ∑ n, dmx u vs d (fun a s => v36 (ix2 a s)) (fun a => v37 (ix3 0 a 0)) (fun n => v3 (ix2 0 n)) (R t) n) _ _)

theorem loop_dgb (𝒱 : Variants) (c : Dev nD) (bd : Option 𝒱.V) (i : grid0.Coords) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (harg14 : arg14.IsWhole) (arg15 : Memref sig .tc .vmem S2048x128 .f32) (harg15 : arg15.IsWhole) (v31 : IVec S128x128 1) (n : Fin 128) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v31 v36 v37 X1 X7 X14 init (Scf.trips (0#32) (Scalar.addi 0#32 2#32) 1#32)).1.2.2 (ix2 0 n) = init.2.2 (ix2 0 n) + dgbv u vs d (fun a s => v36 (ix2 a s)) (fun a => v37 (ix3 0 a 0)) n := by
  rw [show Scf.trips (0#32) (Scalar.addi 0#32 2#32) 1#32 = 2 by decide +kernel]
  simp only [st_k0_t1, st_k0_t1Step, trips, dite_true, Nat.lt_add_one, Nat.zero_lt_succ, dif_pos, Nat.zero_lt_two]
  refine (((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).2.2 n).trans (congrArg (· + _) ((trip_carry arg1 arg7 arg14 v3 v36 v37 X1 X7 X14 u d vs hU hD hV _ _ 𝒱 c bd i harg1 arg2 harg2 arg3 harg3 arg4 harg4 arg5 harg5 arg6 harg6 harg7 arg8 harg8 arg9 harg9 arg10 harg10 arg11 harg11 arg12 harg12 arg13 harg13 harg14 arg15 harg15 v31).2.2 n))).trans ?_
  rw [add_assoc]
  exact congrArg (_ + ·) (sum_slabs (fun R => ∑ p, d (R p) n * (gated u vs (fun a s => v36 (ix2 a s)) (fun a => v37 (ix3 0 a 0)) (R p) n * scale (gated u vs (fun a s => v36 (ix2 a s)) (fun a => v37 (ix3 0 a 0)) (R p)))) _ _)

end Trip

end Cert.SguBwd

end
-- ==== Proof.SguOut.lean ====
module

public import proofs.«01_k».proof.Proof.SguPoint

@[expose] public section

/-! What one point of the gating unit's gradient leaves in each output. -/

set_option maxRecDepth 16384

noncomputable section

namespace Cert.SguBwd
open Idealize.ShloMosaic Idealize.ShloMosaic.Pointwise Idealize.ShloMosaic.Pipeline Cert.Kernel16Ideal Cert.Kernel16Ideal.Gen Cert.Kernel16Ideal.Body
open Idealize.ShloMosaic.TcCoe Idealize.SL.Sem
open Cert.SguFwd (peer inner scale tri sle whole2 whole3)

theorem eta (i : S2048x128.Idx) : i = ix2 (i 0) (i 1) := by funext a; fin_cases a <;> rfl

section Point
variable (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S1x1x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x1x128 .f32) (harg10 : arg10.IsWhole) (arg11 : Memref sig .tc .vmem S1x128x128 .f32) (harg11 : arg11.IsWhole) (arg12 : Memref sig .tc .vmem S1x128x1 .f32) (harg12 : arg12.IsWhole) (arg13 : Memref sig .tc .vmem S1x1x128 .f32) (harg13 : arg13.IsWhole) (arg14 : Memref sig .tc .vmem S2048x128 .bf16) (harg14 : arg14.IsWhole) (arg15 : Memref sig .tc .vmem S2048x128 .f32) (harg15 : arg15.IsWhole)
  (x0 : Vec Ideal S2048x128 .f32) (x1 : Vec Ideal S2048x128 .f32) (x2 : Vec Ideal S1x1x128 .f32) (x3 : Vec Ideal S1x128x128 .f32) (x4 : Vec Ideal S1x128x1 .f32) (x5 : Vec Ideal S1x1x128 .f32) (x6 : Vec Ideal S2048x128 .f32) (xs : Vec Ideal S2048x128 .f32)

theorem rd_u (B : LoadRect S2048x128) (x : B.shape.Idx) : View.readAt (Elt Ideal) arg1.view B (harg1.unread x0) x = (fun r n => x0 (ix2 r n)) (B.idx x 0) (B.idx x 1) :=
  (Memref.IsWhole.readAt_unread harg1 _ B x).trans (congrArg x0 (eta (B.idx x)))
/-- What the first scratch holds: the group's normalised second half. -/
theorem scratch_at (r : Fin 2048) (n : Fin 128) :
    View.canon (pointRun.sl.HS0_1 c arg2 harg2 arg3 harg3 x1 x2) (ix2 r n) = (normed (fun r n => x1 (ix2 r n)) fun n => x2 (ix3 0 0 n)) r n := by
  unfold pointRun.sl.HS0_1
  canon_tiles q h
  obtain rfl : q = ix2 r n := by blk_ext [h0, h1]
  pointwise [k0_pay116, k0_pay114]
  simp only [Memref.IsWhole.readAt_unread, erf_def]
  simp only [whole2, whole3, normed, gelu, scale, isq]
theorem rd_v (B : LoadRect S2048x128) (x : B.shape.Idx) :
    View.readAt (Elt Ideal) arg14.view B (arg14.view.writes (Elt Ideal) arg14.view.junk (pointRun.sl.HS0_1 c arg2 harg2 arg3 harg3 x1 x2)) x = (normed (fun r n => x1 (ix2 r n)) fun n => x2 (ix3 0 0 n)) (B.idx x 0) (B.idx x 1) := by
  rw [View.readAt_writes_junk_eq_canon]
  refine (congrArg (View.canon _) (eta (B.idx x))).trans ?_
  exact scratch_at ..
theorem val_w : (fun a s => (pointRun.sl.r_2 c arg4 harg4 x3) (ix2 a s)) = (tri fun a s => x3 (ix3 0 a s)) := by
  funext a s
  pointwise [pointRun.sl.r_2, k0_pay118, k0_pay117]
  rw [Memref.IsWhole.readAt_unread, sle, tri]
  split
  · exact congrArg x3 (whole3 _ _)
  · rfl
theorem val_b : (fun a => (View.readAt (Elt Ideal) arg5.view (Rect.unit (s := S1x128x1) ![0, 0, 0] ![1, 128, 1] inb_S1x128x1_S1x128x1_0_0_0).toLoadRect (harg5.unread x4)) (ix3 0 a 0)) = (fun a => x4 (ix3 0 a 0)) :=
  funext fun a => (Memref.IsWhole.readAt_unread harg5 _ _ _).trans (congrArg x4 (whole3 _ _))
theorem val_o : (fun n => (pointRun.sl.r_1 c arg6 harg6 x5) (ix2 0 n)) = (fun n => x5 (ix3 0 0 n)) := by
  funext n
  pointwise [pointRun.sl.r_1, k0_pay115]
  rw [Memref.IsWhole.readAt_unread]
  exact congrArg x5 (whole3 _ _)

theorem out_dw (A : FVec Ideal S128x128 .f32) (t s : Fin 128) :
    k0_pay126 (F := Ideal) k0_pay117 A (ix3 0 t s) = if s ≤ t then A (ix2 t s) else 0 := by
  pointwise [k0_pay126, k0_pay117]
  rw [sle]
  split <;> rfl
theorem out_db (A : FVec Ideal S128x1 .f32) (t : Fin 128) : k0_pay127 (F := Ideal) A (ix3 0 t 0) = A (ix2 t 0) := by
  pointwise [k0_pay127]
theorem out_dgb (A : FVec Ideal S1x128 .f32) (n : Fin 128) : k0_pay128 (F := Ideal) A (ix3 0 0 n) = A (ix2 0 n) := by
  pointwise [k0_pay128]
theorem init_dw (t s : Fin 128) : k0_pay120 (F := Ideal) (ix2 t s) = 0 := by
  pointwise [k0_pay120]
theorem init_db (t : Fin 128) : k0_pay121 (F := Ideal) (ix2 t 0) = 0 := by
  pointwise [k0_pay121]
theorem init_dgb (n : Fin 128) : k0_pay122 (F := Ideal) (ix2 0 n) = 0 := by
  pointwise [k0_pay122]

/-- The gradient at the first half. -/
theorem point_du (r : Fin 2048) (n : Fin 128) : duLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix2 r n) = duv (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n)) r n := by
  have h := loop_du arg1 arg7 arg14 (pointRun.sl.r_1 c arg6 harg6 x5) (pointRun.sl.r_2 c arg4 harg4 x3) (View.readAt (Elt Ideal) arg5.view (Rect.unit (s := S1x128x1) ![0, 0, 0] ![1, 128, 1] inb_S1x128x1_S1x128x1_0_0_0).toLoadRect (harg5.unread x4)) (harg1.unread x0) (harg7.unread x6) (arg14.view.writes (Elt Ideal) arg14.view.junk (pointRun.sl.HS0_1 c arg2 harg2 arg3 harg3 x1 x2)) (fun r n => x0 (ix2 r n)) (fun r n => x6 (ix2 r n)) (normed (fun r n => x1 (ix2 r n)) fun n => x2 (ix3 0 0 n)) (rd_u arg1 harg1 x0) (rd_u arg7 harg7 x6) (rd_v c arg2 harg2 arg3 harg3 arg14 x1 x2) (k0_pay120, k0_pay121, k0_pay122) Variants.none c none i harg1 arg2 harg2 arg3 harg3 arg4 harg4 arg5 harg5 arg6 harg6 harg7 arg8 harg8 arg9 harg9 arg10 harg10 arg11 harg11 arg12 harg12 arg13 harg13 harg14 arg15 harg15 k0_pay117 (ix2 r n)
  rw [val_w c arg4 harg4 x3, val_b arg5 harg5 x4, val_o c arg6 harg6 x5] at h
  unfold duLeft
  rw [View.read_writes_junk_eq_canon]
  refine View.canon_eq_of_allAt _ _ _ (du_cover (F := Ideal) ..) ?_
  unfold pointRun
  dsimp only
  exact h

/-- What the loop leaves in the second scratch. -/
theorem point_dvs (r : Fin 2048) (n : Fin 128) : pointRun.sl.v74 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix2 r n) = dvs (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n)) r n := by
  have h := loop_dvs arg1 arg7 arg14 (pointRun.sl.r_1 c arg6 harg6 x5) (pointRun.sl.r_2 c arg4 harg4 x3) (View.readAt (Elt Ideal) arg5.view (Rect.unit (s := S1x128x1) ![0, 0, 0] ![1, 128, 1] inb_S1x128x1_S1x128x1_0_0_0).toLoadRect (harg5.unread x4)) (harg1.unread x0) (harg7.unread x6) (arg14.view.writes (Elt Ideal) arg14.view.junk (pointRun.sl.HS0_1 c arg2 harg2 arg3 harg3 x1 x2)) (fun r n => x0 (ix2 r n)) (fun r n => x6 (ix2 r n)) (normed (fun r n => x1 (ix2 r n)) fun n => x2 (ix3 0 0 n)) (rd_u arg1 harg1 x0) (rd_u arg7 harg7 x6) (rd_v c arg2 harg2 arg3 harg3 arg14 x1 x2) (k0_pay120, k0_pay121, k0_pay122) Variants.none c none i harg1 arg2 harg2 arg3 harg3 arg4 harg4 arg5 harg5 arg6 harg6 harg7 arg8 harg8 arg9 harg9 arg10 harg10 arg11 harg11 arg12 harg12 arg13 harg13 harg14 arg15 harg15 k0_pay117 (ix2 r n)
  rw [val_w c arg4 harg4 x3, val_b arg5 harg5 x4, val_o c arg6 harg6 x5] at h
  unfold pointRun.sl.v74
  rw [View.readAt_writes_eq_of_cover _ _ arg15.view.junk _ _ (fun j => by
    refine View.cover_of_tiledL (s := S2048x128) _ S128x128.size ?_ _
    sl_kernel_rfl), View.readAt_writes_junk_eq_canon]
  refine (congrArg (View.canon _) (whole2 _ (ix2 r n))).trans ?_
  refine View.canon_eq_of_allAt _ _ _ (View.cover_of_tiledL (s := S2048x128) _ S128x128.size (by sl_kernel_rfl) _) ?_
  exact h

theorem point_dw (t s : Fin 128) : dwLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix3 0 t s) = if s ≤ t then dwv (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n)) t s else 0 := by
  have h' := loop_dw arg1 arg7 arg14 (pointRun.sl.r_1 c arg6 harg6 x5) (pointRun.sl.r_2 c arg4 harg4 x3) (View.readAt (Elt Ideal) arg5.view (Rect.unit (s := S1x128x1) ![0, 0, 0] ![1, 128, 1] inb_S1x128x1_S1x128x1_0_0_0).toLoadRect (harg5.unread x4)) (harg1.unread x0) (harg7.unread x6) (arg14.view.writes (Elt Ideal) arg14.view.junk (pointRun.sl.HS0_1 c arg2 harg2 arg3 harg3 x1 x2)) (fun r n => x0 (ix2 r n)) (fun r n => x6 (ix2 r n)) (normed (fun r n => x1 (ix2 r n)) fun n => x2 (ix3 0 0 n)) (rd_u arg1 harg1 x0) (rd_u arg7 harg7 x6) (rd_v c arg2 harg2 arg3 harg3 arg14 x1 x2) (k0_pay120, k0_pay121, k0_pay122) Variants.none c none i harg1 arg2 harg2 arg3 harg3 arg4 harg4 arg5 harg5 arg6 harg6 harg7 arg8 harg8 arg9 harg9 arg10 harg10 arg11 harg11 arg12 harg12 arg13 harg13 harg14 arg15 harg15 k0_pay117 t s
  rw [val_w c arg4 harg4 x3, val_b arg5 harg5 x4, val_o c arg6 harg6 x5] at h'
  unfold dwLeft
  rw [View.read_writes_junk_eq_canon]
  unfold pointRun
  dsimp only
  canon_tiles q h
  obtain rfl : q = ix3 0 t s := by blk_ext [h0, h1, h2]
  refine (out_dw _ t s).trans ?_
  dsimp only at h'
  rw [init_dw, zero_add] at h'
  rw [h']
theorem point_db (t : Fin 128) : dbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix3 0 t 0) = dbv (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n)) t := by
  have h' := loop_db arg1 arg7 arg14 (pointRun.sl.r_1 c arg6 harg6 x5) (pointRun.sl.r_2 c arg4 harg4 x3) (View.readAt (Elt Ideal) arg5.view (Rect.unit (s := S1x128x1) ![0, 0, 0] ![1, 128, 1] inb_S1x128x1_S1x128x1_0_0_0).toLoadRect (harg5.unread x4)) (harg1.unread x0) (harg7.unread x6) (arg14.view.writes (Elt Ideal) arg14.view.junk (pointRun.sl.HS0_1 c arg2 harg2 arg3 harg3 x1 x2)) (fun r n => x0 (ix2 r n)) (fun r n => x6 (ix2 r n)) (normed (fun r n => x1 (ix2 r n)) fun n => x2 (ix3 0 0 n)) (rd_u arg1 harg1 x0) (rd_u arg7 harg7 x6) (rd_v c arg2 harg2 arg3 harg3 arg14 x1 x2) (k0_pay120, k0_pay121, k0_pay122) Variants.none c none i harg1 arg2 harg2 arg3 harg3 arg4 harg4 arg5 harg5 arg6 harg6 harg7 arg8 harg8 arg9 harg9 arg10 harg10 arg11 harg11 arg12 harg12 arg13 harg13 harg14 arg15 harg15 k0_pay117 t
  rw [val_w c arg4 harg4 x3, val_b arg5 harg5 x4, val_o c arg6 harg6 x5] at h'
  unfold dbLeft
  rw [View.read_writes_junk_eq_canon]
  unfold pointRun
  dsimp only
  canon_tiles q h
  obtain rfl : q = ix3 0 t 0 := by blk_ext [h0, h1, h2]
  refine (out_db _ t).trans ?_
  dsimp only at h'
  rw [init_db, zero_add] at h'
  exact h'
theorem point_dgb (n : Fin 128) : dgbLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix3 0 0 n) = dgbv (fun r n => x0 (ix2 r n)) (normed (fun r n => x1 (ix2 r n)) fun n => x2 (ix3 0 0 n)) (fun r n => x6 (ix2 r n)) (tri fun a s => x3 (ix3 0 a s)) (fun a => x4 (ix3 0 a 0)) n := by
  have h' := loop_dgb arg1 arg7 arg14 (pointRun.sl.r_1 c arg6 harg6 x5) (pointRun.sl.r_2 c arg4 harg4 x3) (View.readAt (Elt Ideal) arg5.view (Rect.unit (s := S1x128x1) ![0, 0, 0] ![1, 128, 1] inb_S1x128x1_S1x128x1_0_0_0).toLoadRect (harg5.unread x4)) (harg1.unread x0) (harg7.unread x6) (arg14.view.writes (Elt Ideal) arg14.view.junk (pointRun.sl.HS0_1 c arg2 harg2 arg3 harg3 x1 x2)) (fun r n => x0 (ix2 r n)) (fun r n => x6 (ix2 r n)) (normed (fun r n => x1 (ix2 r n)) fun n => x2 (ix3 0 0 n)) (rd_u arg1 harg1 x0) (rd_u arg7 harg7 x6) (rd_v c arg2 harg2 arg3 harg3 arg14 x1 x2) (k0_pay120, k0_pay121, k0_pay122) Variants.none c none i harg1 arg2 harg2 arg3 harg3 arg4 harg4 arg5 harg5 arg6 harg6 harg7 arg8 harg8 arg9 harg9 arg10 harg10 arg11 harg11 arg12 harg12 arg13 harg13 harg14 arg15 harg15 k0_pay117 n
  rw [val_w c arg4 harg4 x3, val_b arg5 harg5 x4] at h'
  unfold dgbLeft
  rw [View.read_writes_junk_eq_canon]
  unfold pointRun
  dsimp only
  canon_tiles q h
  obtain rfl : q = ix3 0 0 n := by blk_ext [h0, h1, h2]
  refine (out_dgb _ n).trans ?_
  dsimp only at h'
  rw [init_dgb, zero_add] at h'
  exact h'
/-- The gradient at the first gain and at the second half. -/
theorem point_dgs (n : Fin 128) : dgsLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix3 0 0 n) = dgsv (fun r n => x1 (ix2 r n)) (dvs (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n))) n := by
  unfold dgsLeft
  rw [View.read_writes_junk_eq_canon]
  unfold pointRun
  dsimp only
  canon_tiles q h
  obtain rfl : q = ix3 0 0 n := by blk_ext [h0, h1, h2]
  pointwise [k0_pay134, k0_pay133, k0_pay132, k0_pay131, k0_pay130, k0_pay129, pointRun.sl.r_3, pointRun.sl.r_4, pointRun.sl.r_5]
  simp only [Memref.IsWhole.readAt_unread, whole2, erf_def, point_dvs c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs]
  simp only [dgsv, gelu, scale, isq]
theorem point_dv (r : Fin 2048) (n : Fin 128) : dvLeft c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs (ix2 r n) = dvv (fun r n => x1 (ix2 r n)) (dvs (fun r n => x0 (ix2 r n)) (normed (fun r n => x1 (ix2 r n)) fun n => x2 (ix3 0 0 n)) (fun r n => x6 (ix2 r n)) (tri fun a s => x3 (ix3 0 a s)) (fun a => x4 (ix3 0 a 0)) (fun n => x5 (ix3 0 0 n))) (fun n => x2 (ix3 0 0 n)) r n := by
  unfold dvLeft
  rw [View.read_writes_junk_eq_canon]
  unfold pointRun
  dsimp only
  canon_tiles q h
  obtain rfl : q = ix2 r n := by blk_ext [h0, h1]
  pointwise [k0_pay135, k0_pay134, k0_pay133, k0_pay132, k0_pay131, k0_pay130, k0_pay129, k0_pay114, pointRun.sl.r, pointRun.sl.r_3, pointRun.sl.r_4, pointRun.sl.r_5, pointRun.sl.r_6]
  simp only [Memref.IsWhole.readAt_unread, whole2, whole3, erf_def, exp_def, point_dvs c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 xs]
  simp only [dvv, nb, gelu, geluD, scale, isq, isp]
end Point

end Cert.SguBwd

end
-- ==== Proof.SguBody.lean ====
module

public import proofs.«01_k».proof.Proof.SguRun

/-! The gradient of the gating unit: every point, and the run of the whole call. -/

@[expose] public section

set_option maxRecDepth 16384

noncomputable section

namespace Cert.Kernel16Ideal.Body

open Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Every point -/

/-- Contents no point reads: the second scratch as a point finds it. -/
def noGrad : Vec F S2048x128 .f32 := gradScr.view.read (Elt F) gradScr.view.junk

/-- What point `t` leaves in each output. -/
def duAt (c : Dev nD) (t : Fin cfg0.N) : Vec F S2048x128 .bf16 :=
  duLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

def dvAt (c : Dev nD) (t : Fin cfg0.N) : Vec F S2048x128 .bf16 :=
  dvLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

def dgsAt (c : Dev nD) (t : Fin cfg0.N) : Vec F S1x1x128 .f32 :=
  dgsLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

def dwAt (c : Dev nD) (t : Fin cfg0.N) : Vec F S1x128x128 .f32 :=
  dwLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

def dbAt (c : Dev nD) (t : Fin cfg0.N) : Vec F S1x128x1 .f32 :=
  dbLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

def dgbAt (c : Dev nD) (t : Fin cfg0.N) : Vec F S1x1x128 .f32 :=
  dgbLeft c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad

/-! Whatever an output's buffer or the scratch held, after point `t` it reads as named above. -/

set_option maxHeartbeats 2000000 in
theorem read_du (c : Dev nD) (t : Fin cfg0.N) (V' : View sig .tc .vmem S2048x128 .bf16) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).1) = duAt m c t := by
  unfold duAt
  refine Eq.trans ?_ (duLeft_const (xs := xs) (xs' := noGrad) ..)
  unfold duLeft
  exact View.read_writes_of_cover _ _ _ _ _ (fun y => du_cover (y := y) ..)

set_option maxHeartbeats 2000000 in
theorem read_dv (c : Dev nD) (t : Fin cfg0.N) (V' : View sig .tc .vmem S2048x128 .bf16) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).2.1) = dvAt m c t := by
  unfold dvAt
  refine Eq.trans ?_ (dvLeft_const (xs := xs) (xs' := noGrad) ..)
  unfold dvLeft
  exact View.read_writes_of_cover _ _ _ _ _ (fun y => dv_cover (y := y) ..)

set_option maxHeartbeats 2000000 in
theorem read_dgs (c : Dev nD) (t : Fin cfg0.N) (V' : View sig .tc .vmem S1x1x128 .f32) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).2.2.1) = dgsAt m c t := by
  unfold dgsAt
  refine Eq.trans ?_ (dgsLeft_const (xs := xs) (xs' := noGrad) ..)
  unfold dgsLeft
  exact View.read_writes_of_cover _ _ _ _ _ (fun y => dgs_cover (y := y) ..)

set_option maxHeartbeats 2000000 in
theorem read_dw (c : Dev nD) (t : Fin cfg0.N) (V' : View sig .tc .vmem S1x128x128 .f32) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).2.2.2.1) = dwAt m c t := by
  unfold dwAt
  refine Eq.trans ?_ (dwLeft_const (xs := xs) (xs' := noGrad) ..)
  unfold dwLeft
  exact View.read_writes_of_cover _ _ _ _ _ (fun y => dw_cover (y := y) ..)

set_option maxHeartbeats 2000000 in
theorem read_db (c : Dev nD) (t : Fin cfg0.N) (V' : View sig .tc .vmem S1x128x1 .f32) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).2.2.2.2.1) = dbAt m c t := by
  unfold dbAt
  refine Eq.trans ?_ (dbLeft_const (xs := xs) (xs' := noGrad) ..)
  unfold dbLeft
  exact View.read_writes_of_cover _ _ _ _ _ (fun y => db_cover (y := y) ..)

set_option maxHeartbeats 2000000 in
theorem read_dgb (c : Dev nD) (t : Fin cfg0.N) (V' : View sig .tc .vmem S1x1x128 .f32) (e) (xs : Vec F S2048x128 .f32) :
    V'.read (Elt F) (V'.writes (Elt F) e (pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) xs).2.2.2.2.2.1) = dgbAt m c t := by
  unfold dgbAt
  refine Eq.trans ?_ (dgbLeft_const (xs := xs) (xs' := noGrad) ..)
  unfold dgbLeft
  exact View.read_writes_of_cover _ _ _ _ _ (fun y => dgb_cover (y := y) ..)

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => duAt m c t
    | ⟨8, _⟩ => dvAt m c t
    | ⟨9, _⟩ => dgsAt m c t
    | ⟨10, _⟩ => dwAt m c t
    | ⟨11, _⟩ => dbAt m c t
    | ⟨12, _⟩ => dgbAt m c t
  Φ _ := Pipeline.ΦA spec0 c
  q w := Pipeline.shareOf spec0 w
  owed _ := 0

theorem arrays_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = duAt m c t := by dsimp only [dats]
theorem after8 (c : Dev nD) (t : Fin cfg0.N) : (dats m 0 c).after 8 t = dvAt m c t := by dsimp only [dats]
theorem after9 (c : Dev nD) (t : Fin cfg0.N) : (dats m 0 c).after 9 t = dgsAt m c t := by dsimp only [dats]
theorem after10 (c : Dev nD) (t : Fin cfg0.N) : (dats m 0 c).after 10 t = dwAt m c t := by dsimp only [dats]
theorem after11 (c : Dev nD) (t : Fin cfg0.N) : (dats m 0 c).after 11 t = dbAt m c t := by dsimp only [dats]
theorem after12 (c : Dev nD) (t : Fin cfg0.N) : (dats m 0 c).after 12 t = dgbAt m c t := by dsimp only [dats]

theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d
theorem before3 (c : Dev nD) (t : Fin cfg0.N) (d) : (dats m 0 c).before 3 t d = iblk m c 3 t :=
  before0_3_of m (dats m 0 c) (arrays_eq m c 3) (after3 m c) t d
theorem before4 (c : Dev nD) (t : Fin cfg0.N) (d) : (dats m 0 c).before 4 t d = iblk m c 4 t :=
  before0_4_of m (dats m 0 c) (arrays_eq m c 4) (after4 m c) t d
theorem before5 (c : Dev nD) (t : Fin cfg0.N) (d) : (dats m 0 c).before 5 t d = iblk m c 5 t :=
  before0_5_of m (dats m 0 c) (arrays_eq m c 5) (after5 m c) t d
theorem before6 (c : Dev nD) (t : Fin cfg0.N) (d) : (dats m 0 c).before 6 t d = iblk m c 6 t :=
  before0_6_of m (dats m 0 c) (arrays_eq m c 6) (after6 m c) t d

/-! ## The body at every point -/

/-- What a point is given: the scratches, and each window's buffer. -/
def given (c : Dev nD) (t : Fin cfg0.N) : sProp (Res F) :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What a point returns. -/
def returned (c : Dev nD) (t : Fin cfg0.N) : sProp (Res F) :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t))

set_option maxHeartbeats 6400000 in
theorem point_sound (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4, before5, before6]
  rw [show (dats m 0 c).owesAt () t.succ = (dats m 0 c).owesAt () t.castSucc from rfl,
    after0, after1, after2, after3, after4, after5, after6, after7, after8, after9, after10, after11, after12,
    show (dats m 0 c).Φ t.castSucc = Pipeline.ΦA spec0 c from rfl,
    show (dats m 0 c).Φ t.succ = Pipeline.ΦA spec0 c from rfl, between_eq]
  iintro ⟨⟨⟨HS0, ⟨%d, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((pointRun c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) d).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%e11, H11⟩, ⟨%e12, H12⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    exact read_du m c t _ _ _
  isplitl [H8]
  · unfold owns; iexists _; isplitr
    swap; · iexact H8
    ipureintro
    exact read_dv m c t _ _ _
  isplitl [H9]
  · unfold owns; iexists _; isplitr
    swap; · iexact H9
    ipureintro
    exact read_dgs m c t _ _ _
  isplitl [H10]
  · unfold owns; iexists _; isplitr
    swap; · iexact H10
    ipureintro
    exact read_dw m c t _ _ _
  isplitl [H11]
  · unfold owns; iexists _; isplitr
    swap; · iexact H11
    ipureintro
    exact read_db m c t _ _ _
  unfold owns; iexists _; isplitr
  swap; · iexact H12
  ipureintro
  exact read_dgb m c t _ _ _

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (point_sound m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := Idealize.SL.BI.Entails.refl _

/-! ## The run -/

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays_eq m) (hin := enter m) (hout := leave m)

theorem run_arrays : θ_run defs (onTc (τ := τ) (main (F := F))) (s₀ m ρ) (Pipeline.FramePost cfgs (dats m) 0 (V m)) :=
  (θ_run defs _ _).mono (fun _ h => h.1) (run_quiet m ρ)

/-- The arguments end as they began, and no semaphore is left raised. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays_eq m) (run_arrays m ρ)) ((θ_run defs _ _).mono (fun _ h => h.2) (run_quiet m ρ))

/-- The run with its six results named. -/
theorem run_named : θ_run defs (onTc (τ := τ) (main (F := F))) ⟨m, fun _ => 0, ρ⟩ fun r => ∀ c : Dev nD,
      r.2.mem ((c : Thread nD τ).loc main_v3_0) = (dats m 0 c).arrAt 7 cfg0.N
      ∧ r.2.mem ((c : Thread nD τ).loc main_v3_1) = (dats m 0 c).arrAt 8 cfg0.N
      ∧ r.2.mem ((c : Thread nD τ).loc main_v3_2) = (dats m 0 c).arrAt 9 cfg0.N
      ∧ r.2.mem ((c : Thread nD τ).loc main_v3_3) = (dats m 0 c).arrAt 10 cfg0.N
      ∧ r.2.mem ((c : Thread nD τ).loc main_v3_4) = (dats m 0 c).arrAt 11 cfg0.N
      ∧ r.2.mem ((c : Thread nD τ).loc main_v3_5) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 7, (h.1 c).1 8, (h.1 c).1 9, (h.1 c).1 10, (h.1 c).1 11, (h.1 c).1 12, (h.2.1 c)⟩)
    (θ_run_and (run_arrays m ρ) (unchanged m ρ))

end Cert.Kernel16Ideal.Body

end
-- ==== Proof.SguRes.lean ====
module

public import proofs.«01_k».proof.Proof.SguForm
public import proofs.«01_k».proof.Proof.SguFwd
public import proofs.«01_k».proof.Kernel16Ideal

@[expose] public section

/-! The six results of the gating unit's gradient as functions of the argument arrays. -/

set_option maxRecDepth 16384

noncomputable section

namespace Cert.SguBwd
open Idealize.ShloMosaic Idealize.ShloMosaic.Pointwise Cert.Kernel16Ideal
open Cert.SguFwd (peer inner scale tri colU colV colO)

/-- Column `n` of group `g` in the gradient that reaches the mixer's output. -/
def colD (g : Fin 8) (n : Fin 128) : Fin 2048 := ⟨(8 + g) * 128 + n, by omega⟩

/-- An array with the columns of one group after those of another. -/
def ofCol (f : Fin 8 → Fin 2048 → Fin 128 → EReal) : FVec Ideal S2048x1024 .bf16 :=
  fun i => f ⟨(i 1).val / 128, by have : (i 1).val < 1024 := (i 1).isLt; omega⟩ (i 0) ⟨(i 1).val % 128, by omega⟩
theorem ofCol_at (f : Fin 8 → Fin 2048 → Fin 128 → EReal) (r : Fin 2048) (g : Fin 8) (n : Fin 128) : ofCol f (ix2 r (colO g n)) = f g r n := by
  have e1 : (⟨(colO g n).val / 128, by have := (colO g n).isLt; omega⟩ : Fin 8) = g := Fin.ext (by show (g.val * 128 + n.val) / 128 = _; omega)
  have e2 : (⟨(colO g n).val % 128, by omega⟩ : Fin 128) = n := Fin.ext (by show (g.val * 128 + n.val) % 128 = _; omega)
  show f ⟨(colO g n).val / 128, _⟩ r ⟨(colO g n).val % 128, _⟩ = _
  rw [e1, e2]

section Results
variable (P : FVec Ideal S2048x5120 .f32) (G : FVec Ideal S8x128 .f32) (W : FVec Ideal S8x128x128 .f32) (B O : FVec Ideal S8x128 .f32)
  (D : FVec Ideal S2048x2048 .f32) (g : Fin 8)

/-- Group `g`'s parts of the arguments. -/
def uu (r : Fin 2048) (n : Fin 128) : EReal := P (ix2 r (colU g n))
def vv (r : Fin 2048) (n : Fin 128) : EReal := P (ix2 r (colV g n))
def gg (n : Fin 128) : EReal := G (ix2 g n)
def ww : Fin 128 → Fin 128 → EReal := tri fun a s => W (ix3 g a s)
def bb (a : Fin 128) : EReal := B (ix2 g a)
def oo (n : Fin 128) : EReal := O (ix2 g n)
def dd (r : Fin 2048) (n : Fin 128) : EReal := D (ix2 r (colD g n))
def vn (r : Fin 2048) (n : Fin 128) : EReal := normed (vv P g) (gg G g) r n
def en (r : Fin 2048) (n : Fin 128) : EReal := dvs (uu P g) (vn P G g) (dd D g) (ww W g) (bb B g) (oo O g) r n

def resDu : FVec Ideal S2048x1024 .bf16 :=
  ofCol fun g r n => duv (uu P g) (vn P G g) (dd D g) (ww W g) (bb B g) (oo O g) r n
def resDv : FVec Ideal S2048x1024 .bf16 := ofCol fun g r n => dvv (vv P g) (en P G W B O D g) (gg G g) r n
def resDgs : FVec Ideal S8x1x128 .f32 := fun i => dgsv (vv P (i 0)) (en P G W B O D (i 0)) (i 2)
def resDw : FVec Ideal S8x128x128 .f32 := fun i =>
  if (i 2).val ≤ (i 1).val then dwv (uu P (i 0)) (vn P G (i 0)) (dd D (i 0)) (ww W (i 0)) (bb B (i 0)) (oo O (i 0)) (i 1) (i 2) else 0
def resDb : FVec Ideal S8x128x1 .f32 := fun i => dbv (uu P (i 0)) (vn P G (i 0)) (dd D (i 0)) (ww W (i 0)) (bb B (i 0)) (oo O (i 0)) (i 1)
def resDgb : FVec Ideal S8x1x128 .f32 := fun i => dgbv (uu P (i 0)) (vn P G (i 0)) (dd D (i 0)) (ww W (i 0)) (bb B (i 0)) (i 2)
end Results

end Cert.SguBwd

end
-- ==== Proof.SguFinal.lean ====
module

public import proofs.«01_k».proof.Proof.SguOut
public import proofs.«01_k».proof.Proof.SguBody
public import proofs.«01_k».proof.Proof.SguRes
public import Idealize.ShloMosaic.Lib.Pipeline.ValueKit
public import Idealize.ShloMosaic.Lib.Pointwise

@[expose] public section

/-! What the arrays hold after the gating unit's gradient. -/

set_option maxRecDepth 16384

noncomputable section

namespace Cert.SguBwd
open Idealize.ShloMosaic Idealize.ShloMosaic.Pointwise Idealize.ShloMosaic.Pipeline Cert.Kernel16Ideal Cert.Kernel16Ideal.Gen Cert.Kernel16Ideal.Body
open Idealize.ShloMosaic.TcCoe Idealize.SL.Sem
open Cert.SguFwd (peer inner scale tri colU colV colO)

theorem idx : ∀ t : Fin cfg0.N, win0_0.index t = ![0, 24 + t.val] ∧ win0_1.index t = ![0, 32 + t.val] ∧ win0_2.index t = ![t.val, 0, 0]
    ∧ win0_3.index t = ![t.val, 0, 0] ∧ win0_4.index t = ![t.val, 0, 0] ∧ win0_5.index t = ![t.val, 0, 0] ∧ win0_6.index t = ![0, 8 + t.val]
    ∧ win0_7.index t = ![0, t.val] ∧ win0_8.index t = ![0, t.val] ∧ win0_9.index t = ![t.val, 0, 0] ∧ win0_10.index t = ![t.val, 0, 0]
    ∧ win0_11.index t = ![t.val, 0, 0] ∧ win0_12.index t = ![t.val, 0, 0] ∧ t.val < 8 := (by decide +kernel : ∀ t : Fin grid0.N, _)

/-- The group of block `t`. -/
def grp (t : Fin cfg0.N) : Fin 8 := ⟨t, by obtain ⟨_, _, _, _, _, _, _, _, _, _, _, _, _, h⟩ := idx t; exact h⟩

variable (m : (ℓ : Loc nD τ sig) → Buf (Elt Ideal) ℓ) (c : Dev nD)

theorem blkU (t : Fin cfg0.N) (r : Fin 2048) (n : Fin 128) :
    iblk m c 0 t (ix2 r n) = m ((c : Thread nD τ).loc main_arg0) (ix2 r (colU (grp t) n)) := by
  blk_point [iblk, idx t, grp, colU]
theorem blkV (t : Fin cfg0.N) (r : Fin 2048) (n : Fin 128) :
    iblk m c 1 t (ix2 r n) = m ((c : Thread nD τ).loc main_arg0) (ix2 r (colV (grp t) n)) := by
  blk_point [iblk, idx t, grp, colV]
theorem blkG (t : Fin cfg0.N) (n : Fin 128) :
    iblk m c 2 t (ix3 0 0 n) = m ((c : Thread nD τ).loc main_arg1) (ix2 (grp t) n) := by
  blk_point [iblk, idx t, grp]
theorem blkW (t : Fin cfg0.N) (a s : Fin 128) :
    iblk m c 3 t (ix3 0 a s) = m ((c : Thread nD τ).loc main_arg2) (ix3 (grp t) a s) := by
  blk_point [iblk, idx t, grp]
theorem blkB (t : Fin cfg0.N) (a : Fin 128) :
    iblk m c 4 t (ix3 0 a 0) = m ((c : Thread nD τ).loc main_arg3) (ix2 (grp t) a) := by
  blk_point [iblk, idx t, grp]
theorem blkO (t : Fin cfg0.N) (n : Fin 128) :
    iblk m c 5 t (ix3 0 0 n) = m ((c : Thread nD τ).loc main_arg4) (ix2 (grp t) n) := by
  blk_point [iblk, idx t, grp]
theorem blkD (t : Fin cfg0.N) (r : Fin 2048) (n : Fin 128) :
    iblk m c 6 t (ix2 r n) = m ((c : Thread nD τ).loc main_arg5) (ix2 r (colD (grp t) n)) := by
  blk_point [iblk, idx t, grp, colD]

theorem final_du : (dats m 0 c).arrAt 7 cfg0.N = resDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after7]
  obtain ⟨r, n, rfl⟩ : ∃ (r : Fin 2048) (n : Fin 128), y = ix2 r n := ⟨y 0, y 1, by funext a; fin_cases a <;> rfl⟩
  refine (point_du c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad r n).trans ?_
  have e : (win0_7.blk t).view.emb (ix2 r n) = ix2 r (colO (grp t) n) := by blk_ext [idx t, grp, colO]
  rw [e, resDu, ofCol_at]
  simp only [blkU, blkV, blkG, blkW, blkB, blkO, blkD]
  rfl

theorem final_dv : (dats m 0 c).arrAt 8 cfg0.N = resDv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after8]
  obtain ⟨r, n, rfl⟩ : ∃ (r : Fin 2048) (n : Fin 128), y = ix2 r n := ⟨y 0, y 1, by funext a; fin_cases a <;> rfl⟩
  refine (point_dv c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad r n).trans ?_
  have e : (win0_8.blk t).view.emb (ix2 r n) = ix2 r (colO (grp t) n) := by blk_ext [idx t, grp, colO]
  rw [e, resDv, ofCol_at]
  simp only [blkU, blkV, blkG, blkW, blkB, blkO, blkD]
  rfl

theorem final_dgs : (dats m 0 c).arrAt 9 cfg0.N = resDgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after9]
  obtain ⟨n, rfl⟩ : ∃ n : Fin 128, y = ix3 0 0 n := ⟨y 2, by funext a; fin_cases a <;> first | rfl | exact Subsingleton.elim (α := Fin 1) _ _⟩
  refine (point_dgs c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad n).trans ?_
  have e : (win0_9.blk t).view.emb (ix3 0 0 n) = ix3 (grp t) 0 n := by blk_ext [idx t, grp]
  rw [e]
  simp only [blkU, blkV, blkG, blkW, blkB, blkO, blkD]
  rfl

theorem final_dw : (dats m 0 c).arrAt 10 cfg0.N = resDw (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after10]
  obtain ⟨p, s, rfl⟩ : ∃ p s : Fin 128, y = ix3 0 p s := ⟨y 1, y 2, by funext a; fin_cases a <;> first | rfl | exact Subsingleton.elim (α := Fin 1) _ _⟩
  refine (point_dw c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad p s).trans ?_
  have e : (win0_10.blk t).view.emb (ix3 0 p s) = ix3 (grp t) p s := by blk_ext [idx t, grp]
  rw [e]
  simp only [blkU, blkV, blkG, blkW, blkB, blkO, blkD]
  rfl

theorem final_db : (dats m 0 c).arrAt 11 cfg0.N = resDb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after11]
  obtain ⟨p, rfl⟩ : ∃ p : Fin 128, y = ix3 0 p 0 := ⟨y 1, by funext a; fin_cases a <;> first | rfl | exact Subsingleton.elim (α := Fin 1) _ _⟩
  refine (point_db c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad p).trans ?_
  have e : (win0_11.blk t).view.emb (ix3 0 p 0) = ix3 (grp t) p 0 := by blk_ext [idx t, grp]
  rw [e]
  simp only [blkU, blkV, blkG, blkW, blkB, blkO, blkD]
  rfl

theorem final_dgb : (dats m 0 c).arrAt 12 cfg0.N = resDgb (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 12 _ (by decide +kernel) fun t _ y => ?_
  blk_simp
  rw [after12]
  obtain ⟨n, rfl⟩ : ∃ n : Fin 128, y = ix3 0 0 n := ⟨y 2, by funext a; fin_cases a <;> first | rfl | exact Subsingleton.elim (α := Fin 1) _ _⟩
  refine (point_dgb c (grid0.coords t) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (stg12 t) (hst12 t) rowsScr (Memref.isWhole_whole _) gradScr (Memref.isWhole_whole _) (iblk m c 0 t) (iblk m c 1 t) (iblk m c 2 t) (iblk m c 3 t) (iblk m c 4 t) (iblk m c 5 t) (iblk m c 6 t) noGrad n).trans ?_
  have e : (win0_12.blk t).view.emb (ix3 0 0 n) = ix3 (grp t) 0 n := by blk_ext [idx t, grp]
  rw [e]
  simp only [blkU, blkV, blkG, blkW, blkB, blkO, blkD]
  rfl

end Cert.SguBwd

end
-- ==== Proof.SguStage.lean ====
module

public import proofs.«01_k».proof.Proof.SguRes
public import proofs.«01_k».proof.Proof.NormBwd
public import proofs.«01_k».proof.Proof.Gen.Reference16Ideal.Read
public import Idealize.ShloMosaic.Lib.Pointwise
import Mathlib.Data.EReal.Inv

@[expose] public section

/-! The gating unit's gradient by the reference, stage by stage. -/

set_option maxRecDepth 16384

noncomputable section

namespace Cert.SguBwd
open Idealize.ShloMosaic Idealize.ShloMosaic.Pointwise Cert.Kernel16Ideal
open Cert.SguFwd (peer inner scale tri colU colV colO mask peer_val peer_self inner_of)

theorem hz : (id (constant (F := Ideal) Cert.Reference16Ideal.S_ .f32 0#32) ix0 : EReal) = 0 := Ideal.ofBits_zero .f32

/-- The nonlinearity through the complement of the error function. -/
theorem gelu_erfc (x : EReal) :
    Ideal.ofBits .f32 0x3F000000#32 * x * Ideal.erfc (-x * Ideal.ofBits .f32 0x3F3504F3#32) = gelu x := by
  rw [gelu, isq, neg_mul, Ideal.erfc_neg]

theorem ofU (g : Fin 8) (n : Fin 128) (h) : (⟨3072 + (g.val * 128 + n.val), h⟩ : Fin 5120) = colU g n :=
  Fin.ext (by show 3072 + (g.val * 128 + n.val) = (24 + g.val) * 128 + n.val; omega)
theorem ofV (g : Fin 8) (n : Fin 128) (h) : (⟨4096 + (g.val * 128 + n.val), h⟩ : Fin 5120) = colV g n :=
  Fin.ext (by show 4096 + (g.val * 128 + n.val) = (32 + g.val) * 128 + n.val; omega)
theorem ofD (g : Fin 8) (n : Fin 128) (h) : (⟨1024 + (g.val * 128 + n.val), h⟩ : Fin 2048) = colD g n :=
  Fin.ext (by show 1024 + (g.val * 128 + n.val) = (8 + g.val) * 128 + n.val; omega)
theorem ofPeer (r : Fin 2048) (x : Fin 128) (h) : (⟨r.val / 128 * 128 + x.val, h⟩ : Fin 2048) = peer r x :=
  Fin.ext (by show r.val / 128 * 128 + x.val = 128 * (r.val / 128) + x.val; omega)
theorem ofInner (r : Fin 2048) (h) : (⟨r.val % 128, h⟩ : Fin 128) = inner r := rfl

theorem ofInner' (r : Fin 2048) (h) : (⟨(inner r).val, h⟩ : Fin 128) = inner r := rfl

/-! ## The two ways of writing the gradient through a normalisation of width 128 -/

/-- The mean square of a row, with the small constant added. -/
def square (f : Fin 128 → EReal) : EReal :=
  Ideal.div (∑ k, f k * f k) (Ideal.ofBits .f32 0x43000000#32) + Ideal.ofBits .f32 0x358637BD#32
def slope (x a : Fin 128 → EReal) : EReal :=
  Ideal.div ((∑ k, x k * a k) * (Ideal.ofBits .f32 0xBF000000#32 * Ideal.div (scale x) (square x))) (Ideal.ofBits .f32 0x43000000#32)
def nbRef (x a : Fin 128 → EReal) (n : Fin 128) : EReal :=
  a n * scale x + x n * slope x a + slope x a * x n

theorem width : Ideal.ofBits .f32 0x43000000#32 = ((128 : ℝ) : EReal) := by
  simp [Ideal.ofBits, Ideal.ieee, -EReal.coe_mul]; norm_num

theorem positive (x a : Fin 128 → EReal) (n : Fin 128) (r v : ℝ) (hr : 0 < r) (hv : 0 < v) (hrv : r * r = 1 / v)
    (hs : scale x = r) (hq : square x = v) : nb x a n = nbRef x a n := by
  unfold nb nbRef slope
  rw [hs, hq, width, NormBwd.half, Ideal.div_coe hv.ne', Ideal.div_coe (by norm_num), Ideal.div_coe (by norm_num)]
  have e1 : ∑ k, a k * (x k * (r : EReal)) = (∑ k, x k * a k) * r := by
    rw [← NormBwd.sum_scaled r hr.le]
    exact Finset.sum_congr rfl fun k _ => by rw [← mul_assoc, mul_comm (a k)]
  rw [e1]
  generalize (∑ k, x k * a k) = T
  have c1 : ((-(1 / 2) : ℝ) : EReal) * ((r : EReal) * ((1 / v : ℝ) : EReal)) = ((-(1 / 2) * (r * (1 / v)) : ℝ) : EReal) := by
    push_cast; rfl
  have c2 : x n * (T * ((-(1 / 2) * (r * (1 / v)) : ℝ) : EReal) * ((1 / 128 : ℝ) : EReal))
      = (x n * T) * ((-(1 / 2) * (r * (1 / v)) * (1 / 128) : ℝ) : EReal) := by
    rw [EReal.coe_mul _ (1 / 128 : ℝ), mul_assoc, mul_assoc]
  have c3 : x n * (r : EReal) * (T * r * ((1 / 128 : ℝ) : EReal)) = (x n * T) * ((r * r * (1 / 128) : ℝ) : EReal) := by
    rw [EReal.coe_mul, EReal.coe_mul]; ac_rfl
  rw [c1, mul_comm (T * _ * _) (x n), c2, add_assoc, NormBwd.twice _ _ (by
    have : 0 < r * (1 / v) := by positivity
    nlinarith), c3, sub_eq_add_neg, EReal.left_distrib_of_nonneg_of_ne_top (EReal.coe_nonneg.mpr hr.le) (EReal.coe_ne_top r),
    mul_comm (r : EReal) (a n)]
  refine congrArg₂ _ rfl ?_
  rw [← mul_neg, ← EReal.coe_neg, mul_comm (r : EReal), mul_assoc, ← EReal.coe_mul]
  refine congrArg₂ _ rfl (congrArg _ ?_)
  rw [← hrv]; ring

/-- The two agree. -/
theorem formulas (x a : Fin 128 → EReal) (n : Fin 128) : nb x a n = nbRef x a n := by
  obtain ⟨e, he, hε⟩ := NormBwd.eps
  have hnn : ∀ k, 0 ≤ x k * x k := fun k => by
    induction x k with
    | bot => simp
    | top => simp
    | coe r => exact_mod_cast mul_self_nonneg r
  have hS : 0 ≤ ∑ k, x k * x k := Finset.sum_nonneg fun k _ => hnn k
  have hq : square x = Ideal.div (∑ k, x k * x k) (Ideal.ofBits .f32 0x43000000#32) + Ideal.ofBits .f32 0x358637BD#32 := rfl
  have hs : scale x = Ideal.rsqrt (square x) := rfl
  rw [width, hε, Ideal.div_coe (by norm_num)] at hq
  induction hS' : ∑ k, x k * x k with
  | bot => rw [hS'] at hS; simp at hS
  | top =>
    rw [hS', EReal.top_mul_coe_of_pos (by norm_num), EReal.top_add_coe] at hq
    rw [hq, Ideal.rsqrt_top] at hs
    unfold nb nbRef slope
    rw [hs, hq]
    simp [Ideal.div, width]
  | coe S =>
    rw [hS'] at hS hq
    have hS0 : 0 ≤ S := by exact_mod_cast hS
    have hv : 0 < S * (1 / 128) + e := by positivity
    have hq' : square x = ((S * (1 / 128) + e : ℝ) : EReal) := by rw [hq]; norm_cast
    rw [hq', Ideal.rsqrt_coe, if_neg (not_lt.mpr hv.le), if_neg hv.ne'] at hs
    refine positive x a n _ _ (inv_pos.mpr (Real.sqrt_pos.mpr hv)) hv ?_ hs hq'
    rw [← mul_inv, Real.mul_self_sqrt hv.le]
    exact (one_div _).symm

/-! ## The stages -/

section Stages
variable (x0 : FVec Ideal S2048x5120 .f32) (x1 : FVec Ideal S8x128 .f32) (x2 : FVec Ideal S8x128x128 .f32) (x3 x4 : FVec Ideal S8x128 .f32)
  (x5 : FVec Ideal S2048x2048 .f32) (r : Fin 2048) (g : Fin 8) (n : Fin 128)

theorem at24 : Cert.Reference16Ideal.Read.val_main_v24 (F := Ideal) x0 (ix3 r g n)
    = gelu (uu x0 g r n) := by
  pointwise [Cert.Reference16Ideal.Read.val_main_v24, Cert.Reference16Ideal.Read.val_main_v21, Cert.Reference16Ideal.Read.val_main_v20, Cert.Reference16Ideal.Read.val_main_v19, Cert.Reference16Ideal.Read.val_main_v18, Cert.Reference16Ideal.Read.val_main_cst_5, Cert.Reference16Ideal.Read.val_main_v17, Cert.Reference16Ideal.Read.val_main_v0, Cert.Reference16Ideal.Read.val_main_v16, Cert.Reference16Ideal.Read.val_main_v15, Cert.Reference16Ideal.Read.val_main_cst_4]
  simp only [hz, gelu_erfc, ofU, ofV, ofD, ofPeer, ofInner, Finset.univ_unique, Finset.sum_singleton, zero_add]
  simp only [uu]
  try rfl
theorem at47 : Cert.Reference16Ideal.Read.val_main_v47 (F := Ideal) x0 (ix3 r g n)
    = gelu (vv x0 g r n) := by
  pointwise [Cert.Reference16Ideal.Read.val_main_v47, Cert.Reference16Ideal.Read.val_main_v44, Cert.Reference16Ideal.Read.val_main_v43, Cert.Reference16Ideal.Read.val_main_v42, Cert.Reference16Ideal.Read.val_main_v41, Cert.Reference16Ideal.Read.val_main_cst_12, Cert.Reference16Ideal.Read.val_main_v40, Cert.Reference16Ideal.Read.val_main_v1, Cert.Reference16Ideal.Read.val_main_v39, Cert.Reference16Ideal.Read.val_main_v38, Cert.Reference16Ideal.Read.val_main_cst_11]
  simp only [hz, gelu_erfc, ofU, ofV, ofD, ofPeer, ofInner, Finset.univ_unique, Finset.sum_singleton, zero_add]
  simp only [vv]
  try rfl
theorem at55 : Cert.Reference16Ideal.Read.val_main_v55 (F := Ideal) x0 (ix3 r g 0)
    = scale fun k => gelu (vv x0 g r k) := by
  pointwise [Cert.Reference16Ideal.Read.val_main_v55, Cert.Reference16Ideal.Read.val_main_v54, Cert.Reference16Ideal.Read.val_main_v53, Cert.Reference16Ideal.Read.val_main_cst_15, Cert.Reference16Ideal.Read.val_main_v52, Cert.Reference16Ideal.Read.val_main_v51, Cert.Reference16Ideal.Read.val_main_cst_14, Cert.Reference16Ideal.Read.val_main_v50, Cert.Reference16Ideal.Read.val_main_v49, Cert.Reference16Ideal.Read.val_main_cst_13, Cert.Reference16Ideal.Read.val_main_v48]
  simp only [hz, gelu_erfc, ofU, ofV, ofD, ofPeer, ofInner, Finset.univ_unique, Finset.sum_singleton, zero_add, at47]
  simp only [scale]
  try rfl
theorem at60 : Cert.Reference16Ideal.Read.val_main_v60 (F := Ideal) x0 (ix3 r g n)
    = gelu (vv x0 g r n) * scale fun k => gelu (vv x0 g r k) := by
  pointwise [Cert.Reference16Ideal.Read.val_main_v60, Cert.Reference16Ideal.Read.val_main_v59]
  simp only [hz, gelu_erfc, ofU, ofV, ofD, ofPeer, ofInner, Finset.univ_unique, Finset.sum_singleton, zero_add, at47, at55]
  try rfl
theorem at63 : Cert.Reference16Ideal.Read.val_main_v63 (F := Ideal) x0 x1 (ix3 r g n)
    = vn x0 x1 g r n := by
  pointwise [Cert.Reference16Ideal.Read.val_main_v63, Cert.Reference16Ideal.Read.val_main_v62, Cert.Reference16Ideal.Read.val_main_v61]
  simp only [hz, gelu_erfc, ofU, ofV, ofD, ofPeer, ofInner, Finset.univ_unique, Finset.sum_singleton, zero_add, at60]
  simp only [vn, normed, gg]
  try rfl
theorem at67 (a : Fin 128) : Cert.Reference16Ideal.Read.val_main_v67_0 (F := Ideal) x2 (ix3 g a n)
    = ww x2 g a n := by
  pointwise [Cert.Reference16Ideal.Read.val_main_v67_0, Cert.Reference16Ideal.Read.val_main_call1_v2, Cert.Reference16Ideal.Read.val_main_call1_v0, Cert.Reference16Ideal.Read.val_main_cst_17, Cert.Reference16Ideal.Read.val_main_v67_1, Cert.Reference16Ideal.Read.val_main_v66, Cert.Reference16Ideal.Read.val_main_v65, Cert.Reference16Ideal.Read.val_main_call0_v5, Cert.Reference16Ideal.Read.val_main_call0_c_0, Cert.Reference16Ideal.Read.val_main_v64, Cert.Reference16Ideal.Read.val_main_c, Cert.Reference16Ideal.Read.val_main_call0_v4, Cert.Reference16Ideal.Read.val_main_call0_v3, Cert.Reference16Ideal.Read.val_main_call0_v2, Cert.Reference16Ideal.Read.val_main_call0_v1, Cert.Reference16Ideal.Read.val_main_call0_c, Cert.Reference16Ideal.Read.val_main_call0_v0]
  simp only [hz, gelu_erfc, ofU, ofV, ofD, ofPeer, ofInner, Finset.univ_unique, Finset.sum_singleton, zero_add, mask]
  simp only [ww, tri]
  split
  · rfl
  · exact Ideal.ofBits_zero .f32
theorem at75 : Cert.Reference16Ideal.Read.val_main_v75 (F := Ideal) x0 x1 x2 x3 (ix3 r g n)
    = mixed (vn x0 x1 g) (ww x2 g) (bb x3 g) r n := by
  pointwise [Cert.Reference16Ideal.Read.val_main_v75, Cert.Reference16Ideal.Read.val_main_v74, Cert.Reference16Ideal.Read.val_main_v73, Cert.Reference16Ideal.Read.val_main_v72, Cert.Reference16Ideal.Read.val_main_v71, Cert.Reference16Ideal.Read.val_main_v70, Cert.Reference16Ideal.Read.val_main_v69, Cert.Reference16Ideal.Read.val_main_v68]
  simp only [hz, gelu_erfc, ofU, ofV, ofD, ofPeer, ofInner, Finset.univ_unique, Finset.sum_singleton, zero_add, at63, at67, show r.val % 128 = (inner r).val from rfl, ofInner']
  simp only [mixed, bb]
  exact congrArg₂ _ (Finset.sum_congr rfl fun _ _ => mul_comm _ _) rfl
theorem at76 : Cert.Reference16Ideal.Read.val_main_v76 (F := Ideal) x0 x1 x2 x3 (ix3 r g n)
    = gated (uu x0 g) (vn x0 x1 g) (ww x2 g) (bb x3 g) r n := by
  pointwise [Cert.Reference16Ideal.Read.val_main_v76]
  simp only [hz, gelu_erfc, ofU, ofV, ofD, ofPeer, ofInner, Finset.univ_unique, Finset.sum_singleton, zero_add, at24, at75]
  simp only [gated]
  try rfl
theorem at100 : Cert.Reference16Ideal.Read.val_main_v100 (F := Ideal) x4 x5 (ix3 r g n)
    = dd x5 g r n * oo x4 g n := by
  pointwise [Cert.Reference16Ideal.Read.val_main_v100, Cert.Reference16Ideal.Read.val_main_v99, Cert.Reference16Ideal.Read.val_main_v90, Cert.Reference16Ideal.Read.val_main_v95, Cert.Reference16Ideal.Read.val_main_v94]
  simp only [hz, gelu_erfc, ofU, ofV, ofD, ofPeer, ofInner, Finset.univ_unique, Finset.sum_singleton, zero_add]
  simp only [dd, oo]
  try rfl
theorem at115 : Cert.Reference16Ideal.Read.val_main_v115 (F := Ideal) x0 x1 x2 x3 x4 x5 (ix3 r g n)
    = dsg (uu x0 g) (vn x0 x1 g) (dd x5 g) (ww x2 g) (bb x3 g) (oo x4 g) r n := by
  unfold dsg
  rw [formulas]
  pointwise [Cert.Reference16Ideal.Read.val_main_v115, Cert.Reference16Ideal.Read.val_main_v114, Cert.Reference16Ideal.Read.val_main_v111, Cert.Reference16Ideal.Read.val_main_v110, Cert.Reference16Ideal.Read.val_main_cst_26, Cert.Reference16Ideal.Read.val_main_v109, Cert.Reference16Ideal.Read.val_main_v108, Cert.Reference16Ideal.Read.val_main_cst_25, Cert.Reference16Ideal.Read.val_main_v107, Cert.Reference16Ideal.Read.val_main_v87, Cert.Reference16Ideal.Read.val_main_v85, Cert.Reference16Ideal.Read.val_main_v83, Cert.Reference16Ideal.Read.val_main_v82, Cert.Reference16Ideal.Read.val_main_cst_20, Cert.Reference16Ideal.Read.val_main_v81, Cert.Reference16Ideal.Read.val_main_v80, Cert.Reference16Ideal.Read.val_main_cst_19, Cert.Reference16Ideal.Read.val_main_v79, Cert.Reference16Ideal.Read.val_main_v78, Cert.Reference16Ideal.Read.val_main_cst_18, Cert.Reference16Ideal.Read.val_main_v77, Cert.Reference16Ideal.Read.val_main_v84, Cert.Reference16Ideal.Read.val_main_v86, Cert.Reference16Ideal.Read.val_main_cst_21, Cert.Reference16Ideal.Read.val_main_v104, Cert.Reference16Ideal.Read.val_main_v103, Cert.Reference16Ideal.Read.val_main_cst_24, Cert.Reference16Ideal.Read.val_main_v102, Cert.Reference16Ideal.Read.val_main_v113, Cert.Reference16Ideal.Read.val_main_v112, Cert.Reference16Ideal.Read.val_main_v106, Cert.Reference16Ideal.Read.val_main_v105]
  simp only [hz, gelu_erfc, ofU, ofV, ofD, ofPeer, ofInner, Finset.univ_unique, Finset.sum_singleton, zero_add, at76, at100]
  simp only [nbRef, slope, square, scale]
  try rfl
theorem at116 : Cert.Reference16Ideal.Read.val_main_v116 (F := Ideal) x0 x1 x2 x3 x4 x5 (ix3 r g n)
    = dmx (uu x0 g) (vn x0 x1 g) (dd x5 g) (ww x2 g) (bb x3 g) (oo x4 g) r n := by
  pointwise [Cert.Reference16Ideal.Read.val_main_v116]
  simp only [hz, gelu_erfc, ofU, ofV, ofD, ofPeer, ofInner, Finset.univ_unique, Finset.sum_singleton, zero_add, at24, at115]
  simp only [dmx]
  exact mul_comm _ _
theorem at67_1 (a : Fin 128) (x y : EReal) : Scalar.select (Cert.Reference16Ideal.Read.val_main_v67_1 (F := Ideal) (ix3 g a n)) x y = if n ≤ a then x else y := by
  pointwise [Cert.Reference16Ideal.Read.val_main_v67_1, Cert.Reference16Ideal.Read.val_main_v66, Cert.Reference16Ideal.Read.val_main_v65, Cert.Reference16Ideal.Read.val_main_call0_v5, Cert.Reference16Ideal.Read.val_main_call0_c_0, Cert.Reference16Ideal.Read.val_main_v64, Cert.Reference16Ideal.Read.val_main_c, Cert.Reference16Ideal.Read.val_main_call0_v4, Cert.Reference16Ideal.Read.val_main_call0_v3, Cert.Reference16Ideal.Read.val_main_call0_v2, Cert.Reference16Ideal.Read.val_main_call0_v1, Cert.Reference16Ideal.Read.val_main_call0_c, Cert.Reference16Ideal.Read.val_main_call0_v0]
  exact mask a n x y
theorem at127 : Cert.Reference16Ideal.Read.val_main_v127 (F := Ideal) x0 x1 x2 x3 x4 x5 (ix3 r g n)
    = en x0 x1 x2 x3 x4 x5 g r n := by
  pointwise [Cert.Reference16Ideal.Read.val_main_v127, Cert.Reference16Ideal.Read.val_main_v126, Cert.Reference16Ideal.Read.val_main_v125, Cert.Reference16Ideal.Read.val_main_v123, Cert.Reference16Ideal.Read.val_main_v118]
  simp only [hz, gelu_erfc, ofU, ofV, ofD, ofPeer, ofInner, Finset.univ_unique, Finset.sum_singleton, zero_add, at116, at67, show r.val % 128 = (inner r).val from rfl, ofInner']
  simp only [en, dvs]
  exact Finset.sum_congr rfl fun _ _ => mul_comm _ _
theorem at148 : Cert.Reference16Ideal.Read.val_main_v148 (F := Ideal) x0 x1 x2 x3 x4 x5 (ix3 r g n)
    = nb (fun k => gelu (vv x0 g r k)) (fun k => en x0 x1 x2 x3 x4 x5 g r k * gg x1 g k) n := by
  rw [formulas]
  pointwise [Cert.Reference16Ideal.Read.val_main_v148, Cert.Reference16Ideal.Read.val_main_v147, Cert.Reference16Ideal.Read.val_main_v144, Cert.Reference16Ideal.Read.val_main_v143, Cert.Reference16Ideal.Read.val_main_cst_33, Cert.Reference16Ideal.Read.val_main_v142, Cert.Reference16Ideal.Read.val_main_v141, Cert.Reference16Ideal.Read.val_main_cst_32, Cert.Reference16Ideal.Read.val_main_v140, Cert.Reference16Ideal.Read.val_main_v58, Cert.Reference16Ideal.Read.val_main_v56, Cert.Reference16Ideal.Read.val_main_v54, Cert.Reference16Ideal.Read.val_main_v53, Cert.Reference16Ideal.Read.val_main_cst_15, Cert.Reference16Ideal.Read.val_main_v52, Cert.Reference16Ideal.Read.val_main_v51, Cert.Reference16Ideal.Read.val_main_cst_14, Cert.Reference16Ideal.Read.val_main_v50, Cert.Reference16Ideal.Read.val_main_v49, Cert.Reference16Ideal.Read.val_main_cst_13, Cert.Reference16Ideal.Read.val_main_v48, Cert.Reference16Ideal.Read.val_main_v55, Cert.Reference16Ideal.Read.val_main_v57, Cert.Reference16Ideal.Read.val_main_cst_16, Cert.Reference16Ideal.Read.val_main_v137, Cert.Reference16Ideal.Read.val_main_v136, Cert.Reference16Ideal.Read.val_main_cst_31, Cert.Reference16Ideal.Read.val_main_v135, Cert.Reference16Ideal.Read.val_main_v133, Cert.Reference16Ideal.Read.val_main_v132, Cert.Reference16Ideal.Read.val_main_v61, Cert.Reference16Ideal.Read.val_main_v146, Cert.Reference16Ideal.Read.val_main_v145, Cert.Reference16Ideal.Read.val_main_v139, Cert.Reference16Ideal.Read.val_main_v138]
  simp only [hz, gelu_erfc, ofU, ofV, ofD, ofPeer, ofInner, Finset.univ_unique, Finset.sum_singleton, zero_add, at47, at127]
  simp only [nbRef, slope, square, scale, gg]
  try rfl
end Stages

end Cert.SguBwd

end
-- ==== Proof.SguRef.lean ====
module

public import proofs.«01_k».proof.Proof.SguStage

@[expose] public section

/-! The six results of the gating unit's gradient, by the reference. -/

set_option maxRecDepth 16384

noncomputable section

namespace Cert.SguBwd
open Idealize.ShloMosaic Idealize.ShloMosaic.Pointwise Cert.Kernel16Ideal
open Cert.SguFwd (peer inner scale tri colU colV colO mask peer_val peer_self inner_of)

/-- A sum over the first and the last of four axes. -/
theorem fiber_a03 {n0 n1 n2 n3 : Nat} (h : (⟨4, ![n0, n1, n2, n3]⟩ : Shape).ReducesTo [0, 3] ⟨2, ![n1, n2]⟩) (t : Fin n1) (g : Fin n2)
    (i : (⟨4, ![n0, n1, n2, n3]⟩ : Shape).Idx) : h.drop i = ix2 t g ↔ ∃ k : Fin n0 × Fin n3, ix4 k.1 t g k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl
theorem sum_a03 {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (t : Fin n1) (g : Fin n2) :
    Ideal.hostReduceAdd h v init (ix2 t g) = init + ∑ q : Fin n0, ∑ n : Fin n3, v (ix4 q t g n) := by
  refine congrArg (init + ·) ((Finset.sum_filter_eq_sum_of_fiber _ (fun k : Fin n0 × Fin n3 => ix4 k.1 t g k.2)
    (fun _ _ e => Prod.ext (congrFun e 0) (congrFun e 3)) (fiber_a03 h t g) v).trans ?_)
  simp only [Fintype.sum_prod_type]

/-- A sum over the rows is one over their blocks. -/
theorem sum_rows (f : Fin 2048 → EReal) : ∑ r, f r = ∑ q : Fin 16, ∑ p : Fin 128, f (rowOf q p) :=
  (Fin.sum_mul_add_congr (S := 16) (n := 128) (f := f) fun q p hl => congrArg f (Fin.ext (by show 128 * q.val + p.val = q.val * 128 + p.val; omega))).symm

theorem exists_col (q : Fin 1024) : ∃ (g : Fin 8) (n : Fin 128), q = colO g n :=
  ⟨⟨q.val / 128, by omega⟩, ⟨q.val % 128, by omega⟩, Fin.ext (by show q.val = q.val / 128 * 128 + q.val % 128; omega)⟩
theorem divCol (g : Fin 8) (n : Fin 128) (h) : (⟨(colO g n).val / 128, h⟩ : Fin 8) = g := Fin.ext (by show (g.val * 128 + n.val) / 128 = _; omega)
theorem modCol (g : Fin 8) (n : Fin 128) (h) : (⟨(colO g n).val % 128, h⟩ : Fin 128) = n := Fin.ext (by show (g.val * 128 + n.val) % 128 = _; omega)
theorem colOfU (g : Fin 8) (n : Fin 128) (h) : (⟨3072 + (colO g n).val, h⟩ : Fin 5120) = colU g n :=
  Fin.ext (by show 3072 + (g.val * 128 + n.val) = (24 + g.val) * 128 + n.val; omega)
theorem colOfV (g : Fin 8) (n : Fin 128) (h) : (⟨4096 + (colO g n).val, h⟩ : Fin 5120) = colV g n :=
  Fin.ext (by show 4096 + (g.val * 128 + n.val) = (32 + g.val) * 128 + n.val; omega)
theorem ofRow (q : Fin 16) (p : Fin 128) (h) : (⟨q.val * 128 + p.val, h⟩ : Fin 2048) = rowOf q p :=
  Fin.ext (by show q.val * 128 + p.val = 128 * q.val + p.val; omega)

section Results
variable (x0 : FVec Ideal S2048x5120 .f32) (x1 : FVec Ideal S8x128 .f32) (x2 : FVec Ideal S8x128x128 .f32) (x3 x4 : FVec Ideal S8x128 .f32)
  (x5 : FVec Ideal S2048x2048 .f32)

theorem ref_du : Cert.Reference16Ideal.Read.val_main_v153 (F := Ideal) x0 x1 x2 x3 x4 x5 = resDu x0 x1 x2 x3 x4 x5 := by
  funext i
  obtain ⟨r, q, rfl⟩ : ∃ (r : Fin 2048) (q : Fin 1024), i = ix2 r q := ⟨i 0, i 1, by funext a; fin_cases a <;> rfl⟩
  obtain ⟨g, n, rfl⟩ := exists_col q
  rw [resDu, ofCol_at]
  pointwise [Cert.Reference16Ideal.Read.val_main_v153, Cert.Reference16Ideal.Read.val_main_v152, Cert.Reference16Ideal.Read.val_main_v23, Cert.Reference16Ideal.Read.val_main_v22, Cert.Reference16Ideal.Read.val_main_v14, Cert.Reference16Ideal.Read.val_main_v12, Cert.Reference16Ideal.Read.val_main_v11, Cert.Reference16Ideal.Read.val_main_v0, Cert.Reference16Ideal.Read.val_main_v10, Cert.Reference16Ideal.Read.val_main_v9, Cert.Reference16Ideal.Read.val_main_cst_2, Cert.Reference16Ideal.Read.val_main_v13, Cert.Reference16Ideal.Read.val_main_cst_3, Cert.Reference16Ideal.Read.val_main_v8, Cert.Reference16Ideal.Read.val_main_v6, Cert.Reference16Ideal.Read.val_main_v4, Cert.Reference16Ideal.Read.val_main_v3, Cert.Reference16Ideal.Read.val_main_v2, Cert.Reference16Ideal.Read.val_main_cst, Cert.Reference16Ideal.Read.val_main_v5, Cert.Reference16Ideal.Read.val_main_cst_0, Cert.Reference16Ideal.Read.val_main_v7, Cert.Reference16Ideal.Read.val_main_cst_1, Cert.Reference16Ideal.Read.val_main_v151, Cert.Reference16Ideal.Read.val_main_v117]
  simp only [hz, gelu_erfc, ofU, ofV, ofD, ofPeer, ofInner, Finset.univ_unique, Finset.sum_singleton, zero_add, divCol, modCol, colOfU, at115, at75]
  simp only [duv, geluD, uu, isq, isp]
  try rfl

theorem ref_dv : Cert.Reference16Ideal.Read.val_main_v154 (F := Ideal) x0 x1 x2 x3 x4 x5 = resDv x0 x1 x2 x3 x4 x5 := by
  funext i
  obtain ⟨r, q, rfl⟩ : ∃ (r : Fin 2048) (q : Fin 1024), i = ix2 r q := ⟨i 0, i 1, by funext a; fin_cases a <;> rfl⟩
  obtain ⟨g, n, rfl⟩ := exists_col q
  rw [resDv, ofCol_at]
  pointwise [Cert.Reference16Ideal.Read.val_main_v154, Cert.Reference16Ideal.Read.val_main_v150, Cert.Reference16Ideal.Read.val_main_v46, Cert.Reference16Ideal.Read.val_main_v45, Cert.Reference16Ideal.Read.val_main_v37, Cert.Reference16Ideal.Read.val_main_v35, Cert.Reference16Ideal.Read.val_main_v34, Cert.Reference16Ideal.Read.val_main_v1, Cert.Reference16Ideal.Read.val_main_v33, Cert.Reference16Ideal.Read.val_main_v32, Cert.Reference16Ideal.Read.val_main_cst_9, Cert.Reference16Ideal.Read.val_main_v36, Cert.Reference16Ideal.Read.val_main_cst_10, Cert.Reference16Ideal.Read.val_main_v31, Cert.Reference16Ideal.Read.val_main_v29, Cert.Reference16Ideal.Read.val_main_v27, Cert.Reference16Ideal.Read.val_main_v26, Cert.Reference16Ideal.Read.val_main_v25, Cert.Reference16Ideal.Read.val_main_cst_6, Cert.Reference16Ideal.Read.val_main_v28, Cert.Reference16Ideal.Read.val_main_cst_7, Cert.Reference16Ideal.Read.val_main_v30, Cert.Reference16Ideal.Read.val_main_cst_8, Cert.Reference16Ideal.Read.val_main_v149]
  simp only [hz, gelu_erfc, ofU, ofV, ofD, ofPeer, ofInner, Finset.univ_unique, Finset.sum_singleton, zero_add, divCol, modCol, colOfV, at148]
  simp only [dvv, geluD, vv, isq, isp]
  try rfl

theorem ref_dgs : Cert.Reference16Ideal.Read.val_main_v155 (F := Ideal) x0 x1 x2 x3 x4 x5 = resDgs x0 x1 x2 x3 x4 x5 := by
  funext i
  obtain ⟨g, n, rfl⟩ : ∃ (g : Fin 8) (n : Fin 128), i = ix3 g 0 n := ⟨i 0, i 2, by funext a; fin_cases a <;> first | rfl | exact Subsingleton.elim (α := Fin 1) _ _⟩
  pointwise [Cert.Reference16Ideal.Read.val_main_v155, Cert.Reference16Ideal.Read.val_main_v134, Cert.Reference16Ideal.Read.val_main_cst_30, Cert.Reference16Ideal.Read.val_main_v131, Cert.Reference16Ideal.Read.val_main_v130, Cert.Reference16Ideal.Read.val_main_cst_29, Cert.Reference16Ideal.Read.val_main_v129]
  simp only [hz, gelu_erfc, ofU, ofV, ofD, ofPeer, ofInner, Finset.univ_unique, Finset.sum_singleton, zero_add, at60, at127]
  exact Finset.sum_congr rfl fun _ _ => mul_comm _ _

theorem ref_dgb : Cert.Reference16Ideal.Read.val_main_v157 (F := Ideal) x0 x1 x2 x3 x5 = resDgb x0 x1 x2 x3 x5 := by
  funext i
  obtain ⟨g, n, rfl⟩ : ∃ (g : Fin 8) (n : Fin 128), i = ix3 g 0 n := ⟨i 0, i 2, by funext a; fin_cases a <;> first | rfl | exact Subsingleton.elim (α := Fin 1) _ _⟩
  pointwise [Cert.Reference16Ideal.Read.val_main_v157, Cert.Reference16Ideal.Read.val_main_v101, Cert.Reference16Ideal.Read.val_main_cst_23, Cert.Reference16Ideal.Read.val_main_v98, Cert.Reference16Ideal.Read.val_main_v97, Cert.Reference16Ideal.Read.val_main_cst_22, Cert.Reference16Ideal.Read.val_main_v96, Cert.Reference16Ideal.Read.val_main_v95, Cert.Reference16Ideal.Read.val_main_v94, Cert.Reference16Ideal.Read.val_main_v89, Cert.Reference16Ideal.Read.val_main_v88, Cert.Reference16Ideal.Read.val_main_v84, Cert.Reference16Ideal.Read.val_main_v83, Cert.Reference16Ideal.Read.val_main_v82, Cert.Reference16Ideal.Read.val_main_cst_20, Cert.Reference16Ideal.Read.val_main_v81, Cert.Reference16Ideal.Read.val_main_v80, Cert.Reference16Ideal.Read.val_main_cst_19, Cert.Reference16Ideal.Read.val_main_v79, Cert.Reference16Ideal.Read.val_main_v78, Cert.Reference16Ideal.Read.val_main_cst_18, Cert.Reference16Ideal.Read.val_main_v77]
  simp only [hz, gelu_erfc, ofU, ofV, ofD, ofPeer, ofInner, Finset.univ_unique, Finset.sum_singleton, zero_add, at76]
  refine Eq.trans ?_ (sum_rows fun r => dd x5 g r n * (gated (uu x0 g) (vn x0 x1 g) (ww x2 g) (bb x3 g) r n * scale (gated (uu x0 g) (vn x0 x1 g) (ww x2 g) (bb x3 g) r)))
  exact Finset.sum_congr rfl fun _ _ => mul_comm _ _

theorem ref_dw : Cert.Reference16Ideal.Read.val_main_v128 (F := Ideal) x0 x1 x2 x3 x4 x5 = resDw x0 x1 x2 x3 x4 x5 := by
  funext i
  obtain ⟨g, p, s, rfl⟩ : ∃ (g : Fin 8) (p s : Fin 128), i = ix3 g p s := ⟨i 0, i 1, i 2, by funext a; fin_cases a <;> rfl⟩
  pointwise [Cert.Reference16Ideal.Read.val_main_v128, Cert.Reference16Ideal.Read.val_main_call2_v0, Cert.Reference16Ideal.Read.val_main_call2_cst, Cert.Reference16Ideal.Read.val_main_v124, Cert.Reference16Ideal.Read.val_main_v68, Cert.Reference16Ideal.Read.val_main_v123, Cert.Reference16Ideal.Read.val_main_v118]
  simp only [hz, gelu_erfc, ofU, ofV, ofD, ofPeer, ofInner, Finset.univ_unique, Finset.sum_singleton, zero_add, ofRow, at67_1, at116, at63]
  show _ = if s ≤ p then dwv (uu x0 g) (vn x0 x1 g) (dd x5 g) (ww x2 g) (bb x3 g) (oo x4 g) p s else 0
  split
  · rfl
  · first | rfl | exact Ideal.ofBits_zero .f32

theorem red_v119 (t : Fin 128) (g : Fin 8) : Cert.Reference16Ideal.Read.val_main_v119 (F := Ideal) x0 x1 x2 x3 x4 x5 (ix2 t g)
    = dbv (uu x0 g) (vn x0 x1 g) (dd x5 g) (ww x2 g) (bb x3 g) (oo x4 g) t := by
  unfold Cert.Reference16Ideal.Read.val_main_v119
  refine (sum_a03 _ _ _ t g).trans ?_
  pointwise [Cert.Reference16Ideal.Read.val_main_v118, Cert.Reference16Ideal.Read.val_main_cst_27]
  simp only [hz, gelu_erfc, ofU, ofV, ofD, ofPeer, ofInner, Finset.univ_unique, Finset.sum_singleton, zero_add, ofRow, at116]
  first | rfl | exact (congrArg (· + _) (Ideal.ofBits_zero .f32)).trans (zero_add _)
theorem red_v121 (t : Fin 128) (g : Fin 8) : Cert.Reference16Ideal.Read.val_main_v121 (F := Ideal) x0 x1 x2 x3 x4 x5 (ix2 t g)
    = dbv (uu x0 g) (vn x0 x1 g) (dd x5 g) (ww x2 g) (bb x3 g) (oo x4 g) t := by
  unfold Cert.Reference16Ideal.Read.val_main_v121
  refine (sum_a03 _ _ _ t g).trans ?_
  pointwise [Cert.Reference16Ideal.Read.val_main_v120, Cert.Reference16Ideal.Read.val_main_cst_28]
  simp only [hz, gelu_erfc, ofU, ofV, ofD, ofPeer, ofInner, Finset.univ_unique, Finset.sum_singleton, zero_add, red_v119]
theorem ref_db : Cert.Reference16Ideal.Read.val_main_v156 (F := Ideal) x0 x1 x2 x3 x4 x5 = resDb x0 x1 x2 x3 x4 x5 := by
  funext i
  obtain ⟨g, p, rfl⟩ : ∃ (g : Fin 8) (p : Fin 128), i = ix3 g p 0 := ⟨i 0, i 1, by funext a; fin_cases a <;> first | rfl | exact Subsingleton.elim (α := Fin 1) _ _⟩
  pointwise [Cert.Reference16Ideal.Read.val_main_v156, Cert.Reference16Ideal.Read.val_main_v122]
  simp only [hz, gelu_erfc, ofU, ofV, ofD, ofPeer, ofInner, Finset.univ_unique, Finset.sum_singleton, zero_add, red_v121]
  try rfl
end Results

end Cert.SguBwd

end
-- ==== Proof.LossHead.lean ====
module

public import proofs.«01_k».proof.Proof.Gen.Kernel17Ideal.Value
public import proofs.«01_k».proof.Proof.Gen.Reference17Ideal.Read
public import proofs.«01_k».proof.Proof.NormBwd
public import Idealize.ShloMosaic.Lib.Pipeline.ValueKit
public import Idealize.ShloMosaic.Lib.Pointwise

@[expose] public section

/-! The loss and its gradient in the last layer's result. The kernel adds the loss up 256 rows at a time, each part already
    halved; halving is by a positive real number, which leaves an extended real sum in any case. -/

set_option maxRecDepth 16384

noncomputable section

namespace Cert.LossHead
open Idealize.ShloMosaic Idealize.ShloMosaic.Pointwise Idealize.ShloMosaic.Pipeline Cert.Kernel17Ideal Cert.Kernel17Ideal.Gen
open Idealize.ShloMosaic.TcCoe Idealize.SL.Sem
open Cert.NormBwd (sum_scaled width)

theorem half : Ideal.ofBits .f32 0x3F000000#32 = ((1 / 2 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem share : Ideal.ofBits .f32 0x3A000000#32 = ((1 / 2048 : ℝ) : EReal) := by
  simp [Ideal.ofBits, Ideal.ieee, -EReal.coe_mul]; norm_num

/-- The mean over a row of the squared error. -/
def mean (p q : Fin 2048 → EReal) : EReal :=
  Ideal.div (∑ k, (p k - q k) * (p k - q k)) (Ideal.ofBits .f32 0x45000000#32)

/-- The gradient as automatic differentiation writes it is the error over the width of the row. -/
theorem slope (d : EReal) : Ideal.div (Ideal.ofBits .f32 0x3F000000#32 * Ideal.ofBits .f32 0x3F800000#32) (Ideal.ofBits .f32 0x45000000#32)
    * (Ideal.ofBits .f32 0x40000000#32 * d) = d * Ideal.ofBits .f32 0x3A000000#32 := by
  rw [half, one, two, width, share, Ideal.div_coe (by norm_num), ← mul_assoc, mul_comm d, ← EReal.coe_mul, ← EReal.coe_mul, ← EReal.coe_mul]
  norm_num

/-! ## The kernel's blocks -/

theorem dy_at (x y : Vec Ideal S256x2048 .f32) (r : Fin 256) (n : Fin 2048) :
    k0_pay2 (F := Ideal) x y (ix2 r n) = (x (ix2 r n) - y (ix2 r n)) * Ideal.ofBits .f32 0x3A000000#32 := by
  pointwise [k0_pay2, k0_pay1]
theorem dyb_at (x y : Vec Ideal S256x2048 .f32) (r : Fin 256) (n : Fin 2048) :
    k0_pay3 (F := Ideal) x y (ix2 r n) = k0_pay2 (F := Ideal) x y (ix2 r n) := by
  pointwise [k0_pay3]
theorem loss_at (x y : Vec Ideal S256x2048 .f32) (n : Fin 128) :
    k0_pay4 (F := Ideal) x y (ix2 0 n)
      = Ideal.ofBits .f32 0x3F000000#32 * ∑ r : Fin 256, mean (fun k => x (ix2 r k)) (fun k => y (ix2 r k)) := by
  pointwise [k0_pay4, k0_pay1]
  rfl
theorem add_at (x y : Vec Ideal S256x2048 .f32) (o : Vec Ideal S1x128 .f32) (j : S1x128.Idx) :
    k0_pay5 (F := Ideal) x y o j = o j + k0_pay4 (F := Ideal) x y j := by
  pointwise [k0_pay5]

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ t.val < 8 := (by decide +kernel : ∀ t : Fin grid0.N, _)

variable (m : (ℓ : Loc nD τ sig) → Buf (Elt Ideal) ℓ) (c : Dev nD)

/-- The row of the arrays that row `r` of block `t` is. -/
def row (t : Fin cfg0.N) (r : Fin 256) : Fin 2048 :=
  ⟨t * 256 + r, by obtain ⟨_, _, _, _, _, h⟩ := idx t; omega⟩

theorem blkY (t : Fin cfg0.N) (r : Fin 256) (k : Fin 2048) :
    iblk m c 0 t (ix2 r k) = m ((c : Thread nD τ).loc main_arg0) (ix2 (row t r) k) := by
  blk_point [iblk, idx t, row]
theorem blkT (t : Fin cfg0.N) (r : Fin 256) (k : Fin 2048) :
    iblk m c 1 t (ix2 r k) = m ((c : Thread nD τ).loc main_arg1) (ix2 (row t r) k) := by
  blk_point [iblk, idx t, row]

/-- What a point leaves in the block of the gradient, whichever case it is. -/
theorem left_dy (t : Fin cfg0.N) : (outsAt0 m c t.val t.isLt).1 = k0_pay2 (iblk m c 0 t) (iblk m c 1 t) := by
  by_cases h : t.val = 0
  · rw [outsAt0_A m c t (by omega) (by omega)]; frame_out
  · rw [outsAt0_B m c t (by obtain ⟨_, _, _, _, _, h⟩ := idx t; omega) (by omega)]; frame_out
theorem left_dyb (t : Fin cfg0.N) : (outsAt0 m c t.val t.isLt).2.1 = k0_pay3 (iblk m c 0 t) (iblk m c 1 t) := by
  by_cases h : t.val = 0
  · rw [outsAt0_A m c t (by omega) (by omega)]; frame_out
  · rw [outsAt0_B m c t (by obtain ⟨_, _, _, _, _, h⟩ := idx t; omega) (by omega)]; frame_out

/-! ## The results -/

/-- The gradient in the last layer's result. -/
def dy (Y T : FVec Ideal S2048x2048 .f32) : FVec Ideal S2048x2048 .f32 :=
  fun i => (Y i - T i) * Ideal.ofBits .f32 0x3A000000#32
def dyb (Y T : FVec Ideal S2048x2048 .f32) : FVec Ideal S2048x2048 .bf16 := fun i => dy Y T i
/-- The loss, in each of 128 columns. -/
def loss (Y T : FVec Ideal S2048x2048 .f32) : FVec Ideal S1x128 .f32 :=
  fun _ => Ideal.ofBits .f32 0x3F000000#32 * ∑ r : Fin 2048, mean (fun k => Y (ix2 r k)) (fun k => T (ix2 r k))

theorem final_dy : (dats m 0 c).arrAt 2 cfg0.N = dy (m ((c : Thread nD τ).loc main_arg0)) (m ((c : Thread nD τ).loc main_arg1)) := by
  refine (dats m 0 c).arrAt_eq_of_covers 2 _ (by decide +kernel) fun t _ y => ?_
  blk_simp
  rw [after0_2, left_dy]
  obtain ⟨r, n, rfl⟩ : ∃ (r : Fin 256) (n : Fin 2048), y = ix2 r n := ⟨y 0, y 1, by funext a; fin_cases a <;> rfl⟩
  refine (dy_at _ _ r n).trans ?_
  simp only [blkY, blkT]
  have e : (win0_2.blk t).view.emb (ix2 r n) = ix2 (row t r) n := by blk_ext [idx t, row]
  rw [e]
  rfl
theorem final_dyb : (dats m 0 c).arrAt 3 cfg0.N = dyb (m ((c : Thread nD τ).loc main_arg0)) (m ((c : Thread nD τ).loc main_arg1)) := by
  refine (dats m 0 c).arrAt_eq_of_covers 3 _ (by decide +kernel) fun t _ y => ?_
  blk_simp
  rw [after0_3, left_dyb]
  obtain ⟨r, n, rfl⟩ : ∃ (r : Fin 256) (n : Fin 2048), y = ix2 r n := ⟨y 0, y 1, by funext a; fin_cases a <;> rfl⟩
  refine ((dyb_at _ _ r n).trans (dy_at _ _ r n)).trans ?_
  simp only [blkY, blkT]
  have e : (win0_3.blk t).view.emb (ix2 r n) = ix2 (row t r) n := by blk_ext [idx t, row]
  rw [e]
  rfl

def last : Fin cfg0.N := ⟨7, by decide +kernel⟩

theorem final_loss : (dats m 0 c).arrAt 4 cfg0.N = loss (m ((c : Thread nD τ).loc main_arg0)) (m ((c : Thread nD τ).loc main_arg1)) := by
  refine (dats m 0 c).arrAt_eq_of_after_last 4 last (by decide +kernel) _ fun j => ?_
  blk_simp
  rw [after0_4, Pipeline.eq_sum_fin_of_reset_step_apply_last (fun n h => (outsAt0 m c n h).2.2) 8 (fun _ => 0)
    (fun t j => k0_pay4 (iblk m c 0 t) (iblk m c 1 t) j)
    (fun t h j => by
      have := lt_of_lt_of_eq t.isLt N_0
      rw [outsAt0_A m c t h (by omega), zero_add]; frame_out)
    (fun t h j => by
      have := lt_of_lt_of_eq t.isLt N_0
      rw [outsAt0_B m c t h (by omega)]; frame_out; rw [add_at]) (le_of_eq N_0) last rfl j, zero_add]
  obtain ⟨n, rfl⟩ : ∃ n : Fin 128, j = ix2 0 n := ⟨j 1, by funext a; fin_cases a <;> first | rfl | exact Subsingleton.elim (α := Fin 1) _ _⟩
  simp only [loss_at, blkY, blkT]
  simp only [loss, half, mul_comm (((1 / 2 : ℝ)) : EReal)]
  rw [sum_scaled _ (by norm_num)]
  refine congrArg (· * _) ?_
  exact Fin.sum_mul_add_congr (S := 8) fun t k hl => rfl

theorem ref_dy (x0 x1 : FVec Ideal S2048x2048 .f32) : Cert.Reference17Ideal.Read.val_main_v14 (F := Ideal) x0 x1 = dy x0 x1 := by
  funext i
  refine Eq.trans ?_ (slope _)
  pointwise [Cert.Reference17Ideal.Read.val_main_v14, Cert.Reference17Ideal.Read.val_main_v13, Cert.Reference17Ideal.Read.val_main_v12, Cert.Reference17Ideal.Read.val_main_v11, Cert.Reference17Ideal.Read.val_main_v10, Cert.Reference17Ideal.Read.val_main_v9, Cert.Reference17Ideal.Read.val_main_v3, Cert.Reference17Ideal.Read.val_main_v2, Cert.Reference17Ideal.Read.val_main_v0, Cert.Reference17Ideal.Read.val_main_cst, Cert.Reference17Ideal.Read.val_main_cst_4, Cert.Reference17Ideal.Read.val_main_cst_5, Cert.Reference17Ideal.Read.val_main_cst_6]
theorem ref_dyb (x0 x1 : FVec Ideal S2048x2048 .f32) : Cert.Reference17Ideal.Read.val_main_v15 (F := Ideal) x0 x1 = dyb x0 x1 := by
  unfold dyb
  rw [← ref_dy]
  funext i
  pointwise [Cert.Reference17Ideal.Read.val_main_v15]
theorem ref_loss (x0 x1 : FVec Ideal S2048x2048 .f32) : Cert.Reference17Ideal.Read.val_main_v16 (F := Ideal) x0 x1 = loss x0 x1 := by
  funext i
  pointwise [Cert.Reference17Ideal.Read.val_main_v16, Cert.Reference17Ideal.Read.val_main_v8, Cert.Reference17Ideal.Read.val_main_v7, Cert.Reference17Ideal.Read.val_main_v6, Cert.Reference17Ideal.Read.val_main_v5, Cert.Reference17Ideal.Read.val_main_v4, Cert.Reference17Ideal.Read.val_main_v1, Cert.Reference17Ideal.Read.val_main_v0, Cert.Reference17Ideal.Read.val_main_cst_0, Cert.Reference17Ideal.Read.val_main_cst_1, Cert.Reference17Ideal.Read.val_main_cst_2, Cert.Reference17Ideal.Read.val_main_cst_3, loss, mean]

end Cert.LossHead

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ConvFinite
public import proofs.«01_k».proof.Proof.UpDw
public import proofs.«01_k».proof.Proof.UpDx
public import proofs.«01_k».proof.Proof.DownDw
public import proofs.«01_k».proof.Proof.InDw
public import proofs.«01_k».proof.Proof.InDx
public import proofs.«01_k».proof.Proof.OutDw
public import proofs.«01_k».proof.Proof.OutDx
public import Idealize.ShloMosaic.Adequacy
public import Idealize.ShloMosaic.Init
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.NormBwd
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.InFwd
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.OutFwd
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.UpFwd
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.DownFwd
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.NormFwd
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.SguFwd
public import proofs.«01_k».proof.Proof.Gen.Kernel16
public import proofs.«01_k».proof.Proof.Gen.Kernel16Ideal
public import proofs.«01_k».proof.Proof.Gen.Kernel16.Frame
public import proofs.«01_k».proof.Proof.Gen.Kernel16.Skeleton
public import proofs.«01_k».proof.Proof.Gen.Kernel16.Loops
public import proofs.«01_k».proof.Proof.Gen.Kernel16Ideal.Frame
public import proofs.«01_k».proof.Proof.Gen.Kernel16Ideal.Skeleton
public import proofs.«01_k».proof.Proof.Gen.Kernel16Ideal.Loops
public import proofs.«01_k».proof.Proof.Gen.Reference16Ideal
public import proofs.«01_k».proof.Proof.Gen.Reference16Ideal.Run
public import proofs.«01_k».proof.Proof.Gen.Reference16Ideal.Read
public import proofs.«01_k».proof.Proof.SguBodyBits
public import proofs.«01_k».proof.Proof.SguFinal
public import proofs.«01_k».proof.Proof.SguRef
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.LossHead

@[expose] public section

noncomputable section

namespace Cert.Proof

open Idealize.ShloMosaic Idealize.ShloMosaic.TcCoe Idealize.SL.Sem

/-- The reference declares no semaphore, so its counters are zero, and it writes none of its arguments. -/
theorem conv_reference_frame : Cert.quiescent_ReferenceIdeal := fun m g _ =>
  (θ_run (Cert.ReferenceIdeal.defs (F := Ideal)) _ _).mono
    (fun r h => ⟨fun c => (h c).2.2.2, sem_eq_zero_of_no_sems (by decide) r.2⟩)
    (Cert.ReferenceIdeal.Value.run (F := Ideal) m g)

theorem conv_algebraic : Cert.algebraic_KernelIdeal_ReferenceIdeal_pre_finite := by
  intro m g m' g' hpre hagree
  refine ⟨_, _, _, (θ_run _ _ _).mono (fun r h => h) (Cert.KernelIdeal.Value.run_blocks m g),
    (θ_run _ _ _).mono (fun r h c => ?_) (Cert.ReferenceIdeal.Value.run m' g')⟩
  obtain ⟨h0, h1, h2, hargs⟩ := h c
  obtain ⟨a0, a1, a2, a3, a4⟩ := hagree c
  obtain ⟨r0, r1, r2, r3, r4⟩ := Cert.ConvBack.all_real _ _ _ _ _ (hpre c)
  refine ⟨h0.trans ?_, h1.trans ?_, h2.trans ?_, hargs⟩
  · rw [Cert.ReferenceIdeal.Read.val_main_v76_eq, a0, a1, a2, a3, a4]
    exact (Cert.ConvBack.ref76 _ _ _ _ _ r0 r1 r2 r3 r4).trans (Cert.ConvBack.final6 m c).symm
  · rw [Cert.ReferenceIdeal.Read.val_main_v78_eq, a0, a1, a2, a3, a4]
    exact (Cert.ConvBack.ref78 _ _ _ _ _ r0 r1 r2 r3 r4).trans (Cert.ConvBack.final7 m c).symm
  · rw [Cert.ReferenceIdeal.Read.val_main_v80_eq, a0, a1, a2, a3, a4]
    exact (Cert.ConvBack.ref80 _ _ _ _ _ r0 r1 r2 r3 r4).trans (Cert.ConvBack.final8 m c).symm

theorem up_dw_reference_frame : Cert.quiescent_Reference2Ideal := fun m g _ =>
  (θ_run (Cert.Reference2Ideal.defs (F := Ideal)) _ _).mono
    (fun r h => ⟨fun c => (h c).2, sem_eq_zero_of_no_sems (by decide) r.2⟩)
    (Cert.Reference2Ideal.Value.run (F := Ideal) m g)

theorem up_dw_algebraic : Cert.algebraic_Kernel2Ideal_Reference2Ideal := by
  intro m g m' g' _ hagree
  refine ⟨_, (θ_run _ _ _).mono (fun r h => h) (Cert.Kernel2Ideal.Value.run_blocks m g),
    (θ_run _ _ _).mono (fun r h c => ?_) (Cert.Reference2Ideal.Value.run m' g')⟩
  obtain ⟨h0, hargs⟩ := h c
  obtain ⟨a0, a1⟩ := hagree c
  refine ⟨h0.trans ?_, hargs⟩
  rw [Cert.Reference2Ideal.Read.val_main_v8_eq, a0, a1]
  exact (Cert.UpDw.ref _ _).trans (Cert.UpDw.final m c).symm

theorem up_dx_reference_frame : Cert.quiescent_Reference3Ideal := fun m g _ =>
  (θ_run (Cert.Reference3Ideal.defs (F := Ideal)) _ _).mono
    (fun r h => ⟨fun c => (h c).2, sem_eq_zero_of_no_sems (by decide) r.2⟩)
    (Cert.Reference3Ideal.Value.run (F := Ideal) m g)

theorem up_dx_algebraic : Cert.algebraic_Kernel3Ideal_Reference3Ideal := by
  intro m g m' g' _ hagree
  refine ⟨_, (θ_run _ _ _).mono (fun r h => h) (Cert.Kernel3Ideal.Value.run_blocks m g),
    (θ_run _ _ _).mono (fun r h c => ?_) (Cert.Reference3Ideal.Value.run m' g')⟩
  obtain ⟨h0, hargs⟩ := h c
  obtain ⟨a0, a1⟩ := hagree c
  refine ⟨h0.trans ?_, hargs⟩
  rw [Cert.Reference3Ideal.Read.val_main_v4_eq, a0, a1]
  exact (Cert.UpDx.ref _ _).trans (Cert.UpDx.final m c).symm

theorem down_dw_reference_frame : Cert.quiescent_Reference4Ideal := fun m g _ =>
  (θ_run (Cert.Reference4Ideal.defs (F := Ideal)) _ _).mono
    (fun r h => ⟨fun c => (h c).2, sem_eq_zero_of_no_sems (by decide) r.2⟩)
    (Cert.Reference4Ideal.Value.run (F := Ideal) m g)

theorem down_dw_algebraic : Cert.algebraic_Kernel4Ideal_Reference4Ideal := by
  intro m g m' g' _ hagree
  refine ⟨_, (θ_run _ _ _).mono (fun r h => h) (Cert.Kernel4Ideal.Value.run_blocks m g),
    (θ_run _ _ _).mono (fun r h c => ?_) (Cert.Reference4Ideal.Value.run m' g')⟩
  obtain ⟨h0, hargs⟩ := h c
  obtain ⟨a0, a1⟩ := hagree c
  refine ⟨h0.trans ?_, hargs⟩
  rw [Cert.Reference4Ideal.Read.val_main_v6_eq, a0, a1]
  exact (Cert.DownDw.ref _ _).trans (Cert.DownDw.final m c).symm

theorem in_dw_reference_frame : Cert.quiescent_Reference5Ideal := fun m g _ =>
  (θ_run (Cert.Reference5Ideal.defs (F := Ideal)) _ _).mono
    (fun r h => ⟨fun c => (h c).2, sem_eq_zero_of_no_sems (by decide) r.2⟩)
    (Cert.Reference5Ideal.Value.run (F := Ideal) m g)

theorem in_dw_algebraic : Cert.algebraic_Kernel5Ideal_Reference5Ideal := by
  intro m g m' g' _ hagree
  refine ⟨_, (θ_run _ _ _).mono (fun r h => h) (Cert.Kernel5Ideal.Value.run_blocks m g),
    (θ_run _ _ _).mono (fun r h c => ?_) (Cert.Reference5Ideal.Value.run m' g')⟩
  obtain ⟨h0, hargs⟩ := h c
  obtain ⟨a0, a1⟩ := hagree c
  refine ⟨h0.trans ?_, hargs⟩
  rw [Cert.Reference5Ideal.Read.val_main_v8_eq, a0, a1]
  exact (Cert.InDw.ref _ _).trans (Cert.InDw.final m c).symm

theorem in_dx_reference_frame : Cert.quiescent_Reference6Ideal := fun m g _ =>
  (θ_run (Cert.Reference6Ideal.defs (F := Ideal)) _ _).mono
    (fun r h => ⟨fun c => (h c).2, sem_eq_zero_of_no_sems (by decide) r.2⟩)
    (Cert.Reference6Ideal.Value.run (F := Ideal) m g)

theorem in_dx_algebraic : Cert.algebraic_Kernel6Ideal_Reference6Ideal := by
  intro m g m' g' _ hagree
  refine ⟨_, (θ_run _ _ _).mono (fun r h => h) (Cert.Kernel6Ideal.Value.run_blocks m g),
    (θ_run _ _ _).mono (fun r h c => ?_) (Cert.Reference6Ideal.Value.run m' g')⟩
  obtain ⟨h0, hargs⟩ := h c
  obtain ⟨a0, a1⟩ := hagree c
  refine ⟨h0.trans ?_, hargs⟩
  rw [Cert.Reference6Ideal.Read.val_main_v4_eq, a0, a1]
  exact (Cert.InDx.ref _ _).trans (Cert.InDx.final m c).symm

theorem out_dw_reference_frame : Cert.quiescent_Reference7Ideal := fun m g _ =>
  (θ_run (Cert.Reference7Ideal.defs (F := Ideal)) _ _).mono
    (fun r h => ⟨fun c => (h c).2, sem_eq_zero_of_no_sems (by decide) r.2⟩)
    (Cert.Reference7Ideal.Value.run (F := Ideal) m g)

theorem out_dw_algebraic : Cert.algebraic_Kernel7Ideal_Reference7Ideal := by
  intro m g m' g' _ hagree
  refine ⟨_, (θ_run _ _ _).mono (fun r h => h) (Cert.Kernel7Ideal.Value.run_blocks m g),
    (θ_run _ _ _).mono (fun r h c => ?_) (Cert.Reference7Ideal.Value.run m' g')⟩
  obtain ⟨h0, hargs⟩ := h c
  obtain ⟨a0, a1⟩ := hagree c
  refine ⟨h0.trans ?_, hargs⟩
  rw [Cert.Reference7Ideal.Read.val_main_v6_eq, a0, a1]
  exact (Cert.OutDw.ref _ _).trans (Cert.OutDw.final m c).symm

theorem out_dx_reference_frame : Cert.quiescent_Reference8Ideal := fun m g _ =>
  (θ_run (Cert.Reference8Ideal.defs (F := Ideal)) _ _).mono
    (fun r h => ⟨fun c => (h c).2, sem_eq_zero_of_no_sems (by decide) r.2⟩)
    (Cert.Reference8Ideal.Value.run (F := Ideal) m g)

theorem out_dx_algebraic : Cert.algebraic_Kernel8Ideal_Reference8Ideal := by
  intro m g m' g' _ hagree
  refine ⟨_, (θ_run _ _ _).mono (fun r h => h) (Cert.Kernel8Ideal.Value.run_blocks m g),
    (θ_run _ _ _).mono (fun r h c => ?_) (Cert.Reference8Ideal.Value.run m' g')⟩
  obtain ⟨h0, hargs⟩ := h c
  obtain ⟨a0, a1⟩ := hagree c
  refine ⟨h0.trans ?_, hargs⟩
  rw [Cert.Reference8Ideal.Read.val_main_v4_eq, a0, a1]
  exact (Cert.OutDx.ref _ _).trans (Cert.OutDx.final m c).symm

theorem norm_bwd_reference_frame : Cert.quiescent_Reference9Ideal := fun m g _ =>
  (θ_run (Cert.Reference9Ideal.defs (F := Ideal)) _ _).mono
    (fun r h => ⟨fun c => (h c).2.2.2, sem_eq_zero_of_no_sems (by decide) r.2⟩)
    (Cert.Reference9Ideal.Value.run (F := Ideal) m g)

theorem norm_bwd_algebraic : Cert.algebraic_Kernel9Ideal_Reference9Ideal := by
  intro m g m' g' _ hagree
  refine ⟨_, _, _, (θ_run _ _ _).mono (fun r h => h) (Cert.Kernel9Ideal.Value.run_blocks m g),
    (θ_run _ _ _).mono (fun r h c => ?_) (Cert.Reference9Ideal.Value.run m' g')⟩
  obtain ⟨h0, h1, h2, hargs⟩ := h c
  obtain ⟨a0, a1, a2, a3⟩ := hagree c
  refine ⟨h0.trans ?_, h1.trans ?_, h2.trans ?_, hargs⟩
  · rw [Cert.Reference9Ideal.Read.val_main_v36_eq, a0, a1, a2, a3]
    exact (Cert.NormBwd.ref_dx _ _ _ _).trans (Cert.NormBwd.final_dx m c).symm
  · rw [Cert.Reference9Ideal.Read.val_main_v37_eq, a0, a1, a2, a3]
    exact (Cert.NormBwd.ref_dxb _ _ _ _).trans (Cert.NormBwd.final_dxb m c).symm
  · rw [Cert.Reference9Ideal.Read.val_main_v38_eq, a0, a1]
    exact (Cert.NormBwd.ref_dg _ _).trans (Cert.NormBwd.final_dg m c).symm

theorem in_fwd_reference_frame : Cert.quiescent_Reference10Ideal := fun m g _ =>
  (θ_run (Cert.Reference10Ideal.defs (F := Ideal)) _ _).mono
    (fun r h => ⟨fun c => (h c).2, sem_eq_zero_of_no_sems (by decide) r.2⟩)
    (Cert.Reference10Ideal.Value.run (F := Ideal) m g)

theorem in_fwd_algebraic : Cert.algebraic_Kernel10Ideal_Reference10Ideal := by
  intro m g m' g' _ hagree
  refine ⟨_, (θ_run _ _ _).mono (fun r h => h) (Cert.Kernel10Ideal.Value.run_blocks m g),
    (θ_run _ _ _).mono (fun r h c => ?_) (Cert.Reference10Ideal.Value.run m' g')⟩
  obtain ⟨h0, hargs⟩ := h c
  obtain ⟨a0, a1⟩ := hagree c
  refine ⟨h0.trans ?_, hargs⟩
  rw [Cert.Reference10Ideal.Read.val_main_v2_eq, a0, a1]
  exact (Cert.InFwd.ref _ _).trans (Cert.InFwd.final m c).symm

theorem out_fwd_reference_frame : Cert.quiescent_Reference11Ideal := fun m g _ =>
  (θ_run (Cert.Reference11Ideal.defs (F := Ideal)) _ _).mono
    (fun r h => ⟨fun c => (h c).2.2, sem_eq_zero_of_no_sems (by decide) r.2⟩)
    (Cert.Reference11Ideal.Value.run (F := Ideal) m g)

theorem out_fwd_algebraic : Cert.algebraic_Kernel11Ideal_Reference11Ideal := by
  intro m g m' g' _ hagree
  refine ⟨_, _, (θ_run _ _ _).mono (fun r h => h) (Cert.Kernel11Ideal.Value.run_blocks m g),
    (θ_run _ _ _).mono (fun r h c => ?_) (Cert.Reference11Ideal.Value.run m' g')⟩
  obtain ⟨h0, h1, hargs⟩ := h c
  obtain ⟨a0, a1, a2, a3⟩ := hagree c
  refine ⟨h0.trans ?_, h1.trans ?_, hargs⟩
  · rw [Cert.Reference11Ideal.Read.val_main_v3_eq, a0, a1, a2]
    exact (Cert.OutFwd.ref _ _ _).trans (Cert.OutFwd.final m c).symm
  · rw [Cert.Reference11Ideal.Read.val_main_v17_eq, a0, a1, a2, a3]
    exact (Cert.OutFwd.ref_norm _ _ _ _).trans (Cert.OutFwd.final_norm m c).symm

theorem up_fwd_reference_frame : Cert.quiescent_Reference12Ideal := fun m g _ =>
  (θ_run (Cert.Reference12Ideal.defs (F := Ideal)) _ _).mono
    (fun r h => ⟨fun c => (h c).2.2, sem_eq_zero_of_no_sems (by decide) r.2⟩)
    (Cert.Reference12Ideal.Value.run (F := Ideal) m g)

theorem up_fwd_frame : Cert.quiescent_Kernel12 := fun m ρ _ => Cert.Kernel12.Body.unchanged m ρ

theorem up_fwd_ideal_frame : Cert.quiescent_Kernel12Ideal := fun m ρ _ => Cert.Kernel12Ideal.Body.unchanged m ρ

theorem up_fwd_algebraic : Cert.algebraic_Kernel12Ideal_Reference12Ideal := by
  intro m g m' g' _ hagree
  refine ⟨_, _, (θ_run _ _ _).mono (fun r h => h) (Cert.Kernel12Ideal.Body.run_named m g),
    (θ_run _ _ _).mono (fun r h c => ?_) (Cert.Reference12Ideal.Value.run m' g')⟩
  obtain ⟨h0, h1, hargs⟩ := h c
  obtain ⟨a0, a1, a2, a3⟩ := hagree c
  refine ⟨h0.trans ?_, h1.trans ?_, hargs⟩
  · rw [a0, a1]
    exact (Cert.UpFwd.ref_up _ _).trans (Cert.UpFwd.final_up m c).symm
  · rw [Cert.Reference12Ideal.Read.val_main_v34_eq, a0, a1, a2, a3]
    exact (Cert.UpFwd.ref_act _ _ _ _).trans (Cert.UpFwd.final_act m c).symm

theorem down_fwd_reference_frame : Cert.quiescent_Reference13Ideal := fun m g _ =>
  (θ_run (Cert.Reference13Ideal.defs (F := Ideal)) _ _).mono
    (fun r h => ⟨fun c => (h c).2, sem_eq_zero_of_no_sems (by decide) r.2⟩)
    (Cert.Reference13Ideal.Value.run (F := Ideal) m g)

theorem down_fwd_algebraic : Cert.algebraic_Kernel13Ideal_Reference13Ideal := by
  intro m g m' g' _ hagree
  refine ⟨_, (θ_run _ _ _).mono (fun r h => h) (Cert.Kernel13Ideal.Value.run_blocks m g),
    (θ_run _ _ _).mono (fun r h c => ?_) (Cert.Reference13Ideal.Value.run m' g')⟩
  obtain ⟨h0, hargs⟩ := h c
  obtain ⟨a0, a1, a2⟩ := hagree c
  refine ⟨h0.trans ?_, hargs⟩
  rw [Cert.Reference13Ideal.Read.val_main_v3_eq, a0, a1, a2]
  exact (Cert.DownFwd.ref _ _ _).trans (Cert.DownFwd.final m c).symm

theorem norm_fwd_reference_frame : Cert.quiescent_Reference14Ideal := fun m g _ =>
  (θ_run (Cert.Reference14Ideal.defs (F := Ideal)) _ _).mono
    (fun r h => ⟨fun c => (h c).2, sem_eq_zero_of_no_sems (by decide) r.2⟩)
    (Cert.Reference14Ideal.Value.run (F := Ideal) m g)

theorem norm_fwd_algebraic : Cert.algebraic_Kernel14Ideal_Reference14Ideal := by
  intro m g m' g' _ hagree
  refine ⟨_, (θ_run _ _ _).mono (fun r h => h) (Cert.Kernel14Ideal.Value.run_blocks m g),
    (θ_run _ _ _).mono (fun r h c => ?_) (Cert.Reference14Ideal.Value.run m' g')⟩
  obtain ⟨h0, hargs⟩ := h c
  obtain ⟨a0, a1⟩ := hagree c
  refine ⟨h0.trans ?_, hargs⟩
  rw [Cert.Reference14Ideal.Read.val_main_v13_eq, a0, a1]
  exact (Cert.NormFwd.ref _ _).trans (Cert.NormFwd.final m c).symm

theorem sgu_fwd_reference_frame : Cert.quiescent_Reference15Ideal := fun m g _ =>
  (θ_run (Cert.Reference15Ideal.defs (F := Ideal)) _ _).mono
    (fun r h => ⟨fun c => (h c).2, sem_eq_zero_of_no_sems (by decide) r.2⟩)
    (Cert.Reference15Ideal.Value.run (F := Ideal) m g)

theorem sgu_fwd_algebraic : Cert.algebraic_Kernel15Ideal_Reference15Ideal := by
  intro m g m' g' _ hagree
  refine ⟨_, (θ_run _ _ _).mono (fun r h => h) (Cert.Kernel15Ideal.Value.run_blocks m g),
    (θ_run _ _ _).mono (fun r h c => ?_) (Cert.Reference15Ideal.Value.run m' g')⟩
  obtain ⟨h0, hargs⟩ := h c
  obtain ⟨a0, a1, a2, a3, a4⟩ := hagree c
  refine ⟨h0.trans ?_, hargs⟩
  rw [Cert.Reference15Ideal.Read.val_main_v58_eq, a0, a1, a2, a3, a4]
  exact (Cert.SguFwd.ref _ _ _ _ _).trans (Cert.SguFwd.final m c).symm

theorem sgu_bwd_reference_frame : Cert.quiescent_Reference16Ideal := fun m g _ =>
  (θ_run (Cert.Reference16Ideal.defs (F := Ideal)) _ _).mono
    (fun r h => ⟨fun c => (h c).2.2.2.2.2.2, sem_eq_zero_of_no_sems (by decide) r.2⟩)
    (Cert.Reference16Ideal.Value.run (F := Ideal) m g)

theorem sgu_bwd_frame : Cert.quiescent_Kernel16 := fun m ρ _ => Cert.Kernel16.Body.unchanged m ρ

theorem sgu_bwd_ideal_frame : Cert.quiescent_Kernel16Ideal := fun m ρ _ => Cert.Kernel16Ideal.Body.unchanged m ρ

theorem sgu_bwd_algebraic : Cert.algebraic_Kernel16Ideal_Reference16Ideal := by
  intro m g m' g' _ hagree
  refine ⟨_, _, _, _, _, _, (θ_run _ _ _).mono (fun r h => h) (Cert.Kernel16Ideal.Body.run_named m g),
    (θ_run _ _ _).mono (fun r h c => ?_) (Cert.Reference16Ideal.Value.run m' g')⟩
  obtain ⟨h0, h1, h2, h3, h4, h5, hargs⟩ := h c
  obtain ⟨a0, a1, a2, a3, a4, a5⟩ := hagree c
  refine ⟨h0.trans ?_, h1.trans ?_, h2.trans ?_, h3.trans ?_, h4.trans ?_, h5.trans ?_, hargs⟩
  · refine (Cert.Reference16Ideal.Read.val_main_v153_eq _).trans ?_
    show Cert.Reference16Ideal.Read.val_main_v153 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) = _
    rw [a0, a1, a2, a3, a4, a5]
    exact (Cert.SguBwd.ref_du _ _ _ _ _ _).trans (Cert.SguBwd.final_du m c).symm
  · refine (Cert.Reference16Ideal.Read.val_main_v154_eq _).trans ?_
    show Cert.Reference16Ideal.Read.val_main_v154 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) = _
    rw [a0, a1, a2, a3, a4, a5]
    exact (Cert.SguBwd.ref_dv _ _ _ _ _ _).trans (Cert.SguBwd.final_dv m c).symm
  · refine (Cert.Reference16Ideal.Read.val_main_v155_eq _).trans ?_
    show Cert.Reference16Ideal.Read.val_main_v155 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) = _
    rw [a0, a1, a2, a3, a4, a5]
    exact (Cert.SguBwd.ref_dgs _ _ _ _ _ _).trans (Cert.SguBwd.final_dgs m c).symm
  · refine (Cert.Reference16Ideal.Read.val_main_v128_eq _).trans ?_
    show Cert.Reference16Ideal.Read.val_main_v128 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) = _
    rw [a0, a1, a2, a3, a4, a5]
    exact (Cert.SguBwd.ref_dw _ _ _ _ _ _).trans (Cert.SguBwd.final_dw m c).symm
  · refine (Cert.Reference16Ideal.Read.val_main_v156_eq _).trans ?_
    show Cert.Reference16Ideal.Read.val_main_v156 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg4)) (m' ((c.tc : Thread Cert.Reference16Ideal.nD Cert.Reference16Ideal.τ).loc Cert.Reference16Ideal.main_arg5)) = _
    rw [a0, a1, a2, a3, a4, a5]
    exact (Cert.SguBwd.ref_db _ _ _ _ _ _).trans (Cert.SguBwd.final_db m c).symm
  · refine (Cert.Reference16Ideal.Read.val_main_v157_eq _).trans ?_
    show Cert.Reference16Ideal.Read.val_main_v157 (F := Ideal) (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) (m' ((c.tc : Thread Cert.Reference16Ideal.nD Cert.Reference16Ideal.τ).loc Cert.Reference16Ideal.main_arg5)) = _
    rw [a0, a1, a2, a3, a5]
    exact (Cert.SguBwd.ref_dgb _ _ _ _ _).trans (Cert.SguBwd.final_dgb m c).symm

theorem loss_head_reference_frame : Cert.quiescent_Reference17Ideal := fun m g _ =>
  (θ_run (Cert.Reference17Ideal.defs (F := Ideal)) _ _).mono
    (fun r h => ⟨fun c => (h c).2.2.2, sem_eq_zero_of_no_sems (by decide) r.2⟩)
    (Cert.Reference17Ideal.Value.run (F := Ideal) m g)

theorem loss_head_algebraic : Cert.algebraic_Kernel17Ideal_Reference17Ideal := by
  intro m g m' g' _ hagree
  refine ⟨_, _, _, (θ_run _ _ _).mono (fun r h => h) (Cert.Kernel17Ideal.Value.run_blocks m g),
    (θ_run _ _ _).mono (fun r h c => ?_) (Cert.Reference17Ideal.Value.run m' g')⟩
  obtain ⟨h0, h1, h2, hargs⟩ := h c
  obtain ⟨a0, a1⟩ := hagree c
  refine ⟨h0.trans ?_, h1.trans ?_, h2.trans ?_, hargs⟩
  · rw [Cert.Reference17Ideal.Read.val_main_v14_eq, a0, a1]
    exact (Cert.LossHead.ref_dy _ _).trans (Cert.LossHead.final_dy m c).symm
  · rw [Cert.Reference17Ideal.Read.val_main_v15_eq, a0, a1]
    exact (Cert.LossHead.ref_dyb _ _).trans (Cert.LossHead.final_dyb m c).symm
  · rw [Cert.Reference17Ideal.Read.val_main_v16_eq, a0, a1]
    exact (Cert.LossHead.ref_loss _ _).trans (Cert.LossHead.final_loss m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ,
    conv_reference_frame, fun m g _ => conv_reference_frame m g trivial,
    fun m ρ _ => Cert.Kernel2.Gen.frame m ρ, fun m ρ _ => Cert.Kernel2Ideal.Gen.frame m ρ, up_dw_reference_frame,
    fun m ρ _ => Cert.Kernel3.Gen.frame m ρ, fun m ρ _ => Cert.Kernel3Ideal.Gen.frame m ρ, up_dx_reference_frame,
    fun m ρ _ => Cert.Kernel4.Gen.frame m ρ, fun m ρ _ => Cert.Kernel4Ideal.Gen.frame m ρ, down_dw_reference_frame,
    fun m ρ _ => Cert.Kernel5.Gen.frame m ρ, fun m ρ _ => Cert.Kernel5Ideal.Gen.frame m ρ, in_dw_reference_frame,
    fun m ρ _ => Cert.Kernel6.Gen.frame m ρ, fun m ρ _ => Cert.Kernel6Ideal.Gen.frame m ρ, in_dx_reference_frame,
    fun m ρ _ => Cert.Kernel7.Gen.frame m ρ, fun m ρ _ => Cert.Kernel7Ideal.Gen.frame m ρ, out_dw_reference_frame,
    fun m ρ _ => Cert.Kernel8.Gen.frame m ρ, fun m ρ _ => Cert.Kernel8Ideal.Gen.frame m ρ, out_dx_reference_frame,
    fun m ρ _ => Cert.Kernel9.Gen.frame m ρ, fun m ρ _ => Cert.Kernel9Ideal.Gen.frame m ρ, norm_bwd_reference_frame,
    fun m ρ _ => Cert.Kernel10.Gen.frame m ρ, fun m ρ _ => Cert.Kernel10Ideal.Gen.frame m ρ, in_fwd_reference_frame,
    fun m ρ _ => Cert.Kernel11.Gen.frame m ρ, fun m ρ _ => Cert.Kernel11Ideal.Gen.frame m ρ, out_fwd_reference_frame,
    up_fwd_frame, up_fwd_ideal_frame, up_fwd_reference_frame,
    fun m ρ _ => Cert.Kernel13.Gen.frame m ρ, fun m ρ _ => Cert.Kernel13Ideal.Gen.frame m ρ, down_fwd_reference_frame,
    fun m ρ _ => Cert.Kernel14.Gen.frame m ρ, fun m ρ _ => Cert.Kernel14Ideal.Gen.frame m ρ, norm_fwd_reference_frame,
    fun m ρ _ => Cert.Kernel15.Gen.frame m ρ, fun m ρ _ => Cert.Kernel15Ideal.Gen.frame m ρ, sgu_fwd_reference_frame,
    sgu_bwd_frame, sgu_bwd_ideal_frame, sgu_bwd_reference_frame,
    fun m ρ _ => Cert.Kernel17.Gen.frame m ρ, fun m ρ _ => Cert.Kernel17Ideal.Gen.frame m ρ, loss_head_reference_frame,
    trivial, conv_algebraic,
    trivial, up_dw_algebraic,
    trivial, up_dx_algebraic,
    trivial, down_dw_algebraic,
    trivial, in_dw_algebraic,
    trivial, in_dx_algebraic,
    trivial, out_dw_algebraic,
    trivial, out_dx_algebraic,
    trivial, norm_bwd_algebraic,
    trivial, in_fwd_algebraic,
    trivial, out_fwd_algebraic,
    trivial, up_fwd_algebraic,
    trivial, down_fwd_algebraic,
    trivial, norm_fwd_algebraic,
    trivial, sgu_fwd_algebraic,
    trivial, sgu_bwd_algebraic,
    trivial, loss_head_algebraic⟩

end Cert.Proof

end
